-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6)
      ∧ r.2.mem ((c.tc : Thread Cert.KernelQkv.nD Cert.KernelQkv.τ).loc Cert.KernelQkv.main_arg7) = m ((c.tc : Thread Cert.KernelQkv.nD Cert.KernelQkv.τ).loc Cert.KernelQkv.main_arg7))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
      ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6)
      ∧ r.2.mem ((c.tc : Thread Cert.ReferenceQkvIdeal.nD Cert.ReferenceQkvIdeal.τ).loc Cert.ReferenceQkvIdeal.main_arg7) = m ((c.tc : Thread Cert.ReferenceQkvIdeal.nD Cert.ReferenceQkvIdeal.τ).loc Cert.ReferenceQkvIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v26) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v26) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v14) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)
      ∧ m' ((c.tc : Thread Cert.ReferenceQkvIdeal.nD Cert.ReferenceQkvIdeal.τ).loc Cert.ReferenceQkvIdeal.main_arg6) = m ((c.tc : Thread Cert.KernelQkvIdeal.nD Cert.KernelQkvIdeal.τ).loc Cert.KernelQkvIdeal.main_arg6)
      ∧ m' ((c.tc : Thread Cert.ReferenceQkvIdeal.nD Cert.ReferenceQkvIdeal.τ).loc Cert.ReferenceQkvIdeal.main_arg7) = m ((c.tc : Thread Cert.KernelQkvIdeal.nD Cert.KernelQkvIdeal.τ).loc Cert.KernelQkvIdeal.main_arg7)) →
    ∃ (v0 : (c : Dev Cert.KernelQkvIdeal.nD) → Buf (Elt Ideal) ((c.tc : Thread Cert.KernelQkvIdeal.nD Cert.KernelQkvIdeal.τ).loc Cert.KernelQkvIdeal.main_v37_0)) (v1 : (c : Dev Cert.KernelQkvIdeal.nD) → Buf (Elt Ideal) ((c.tc : Thread Cert.KernelQkvIdeal.nD Cert.KernelQkvIdeal.τ).loc Cert.KernelQkvIdeal.main_v37_1)) (v2 : (c : Dev Cert.KernelQkvIdeal.nD) → Buf (Elt Ideal) ((c.tc : Thread Cert.KernelQkvIdeal.nD Cert.KernelQkvIdeal.τ).loc Cert.KernelQkvIdeal.main_v37_2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v37_0) = v0 c
          ∧ r.2.mem ((c.tc : Thread Cert.KernelQkvIdeal.nD Cert.KernelQkvIdeal.τ).loc Cert.KernelQkvIdeal.main_v37_1) = v1 c
          ∧ r.2.mem ((c.tc : Thread Cert.KernelQkvIdeal.nD Cert.KernelQkvIdeal.τ).loc Cert.KernelQkvIdeal.main_v37_2) = v2 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
          ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
          ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v93_0) = v0 c
          ∧ r.2.mem ((c.tc : Thread Cert.ReferenceQkvIdeal.nD Cert.ReferenceQkvIdeal.τ).loc Cert.ReferenceQkvIdeal.main_v93_1) = v1 c
          ∧ r.2.mem ((c.tc : Thread Cert.ReferenceQkvIdeal.nD Cert.ReferenceQkvIdeal.τ).loc Cert.ReferenceQkvIdeal.main_v93_2) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5)
          ∧ r.2.mem ((c.tc : Thread Cert.ReferenceQkvIdeal.nD Cert.ReferenceQkvIdeal.τ).loc Cert.ReferenceQkvIdeal.main_arg6) = m' ((c.tc : Thread Cert.ReferenceQkvIdeal.nD Cert.ReferenceQkvIdeal.τ).loc Cert.ReferenceQkvIdeal.main_arg6)
          ∧ r.2.mem ((c.tc : Thread Cert.ReferenceQkvIdeal.nD Cert.ReferenceQkvIdeal.τ).loc Cert.ReferenceQkvIdeal.main_arg7) = m' ((c.tc : Thread Cert.ReferenceQkvIdeal.nD Cert.ReferenceQkvIdeal.τ).loc Cert.ReferenceQkvIdeal.main_arg7))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelQkv : Cert.KernelQkv.Facts) (hKernelQkvIdeal : Cert.KernelQkvIdeal.Facts) (hReferenceQkvIdeal : Cert.ReferenceQkvIdeal.Facts),
    quiescent_Kernel (hKernel := hKernel)
    ∧ quiescent_KernelIdeal (hKernelIdeal := hKernelIdeal)
    ∧ quiescent_ReferenceIdeal (hReferenceIdeal := hReferenceIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ preserves_Kernel_KernelIdeal
    ∧ algebraic_KernelIdeal_ReferenceIdeal (hKernelIdeal := hKernelIdeal) (hReferenceIdeal := hReferenceIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelQkv_KernelQkvIdeal
    ∧ algebraic_KernelQkvIdeal_ReferenceQkvIdeal (hKernelQkvIdeal := hKernelQkvIdeal) (hReferenceQkvIdeal := hReferenceQkvIdeal)
-- ==== Kernel.lean ====
abbrev S2496x7168 : Shape := ⟨2, ![2496, 7168]⟩
abbrev S7168x2560 : Shape := ⟨2, ![7168, 2560]⟩
abbrev S56x2560 : Shape := ⟨2, ![56, 2560]⟩
abbrev S56x20480 : Shape := ⟨2, ![56, 20480]⟩
abbrev S2496x20480 : Shape := ⟨2, ![2496, 20480]⟩
abbrev S2496x1024 : Shape := ⟨2, ![2496, 1024]⟩
abbrev S1024x128 : Shape := ⟨2, ![1024, 128]⟩
abbrev S8x128 : Shape := ⟨2, ![8, 128]⟩
abbrev S8x1024 : Shape := ⟨2, ![8, 1024]⟩
abbrev S1024x1024 : Shape := ⟨2, ![1024, 1024]⟩
abbrev S128x128 : Shape := ⟨2, ![128, 128]⟩
abbrev S8x128x1 : Shape := ⟨3, ![8, 128, 1]⟩
abbrev S128x128x1 : Shape := ⟨3, ![128, 128, 1]⟩
abbrev S1x128 : Shape := ⟨2, ![1, 128]⟩

abbrev nBuf : Space → Nat
  | .hbm => 8
  | .vmem => 20
  | .smem => 0
  | _ => 0

abbrev bufTy : (tb : Table) → Fin (tcTables nBuf tb) → BufTy
  | .hbm, ⟨0, _⟩ => ⟨S2496x7168, .bf16⟩
  | .hbm, ⟨1, _⟩ => ⟨S7168x2560, .i32⟩
  | .hbm, ⟨2, _⟩ => ⟨S56x2560, .i32⟩
  | .hbm, ⟨3, _⟩ => ⟨S56x20480, .f32⟩
  | .hbm, ⟨4, _⟩ => ⟨S7168x2560, .i32⟩
  | .hbm, ⟨5, _⟩ => ⟨S56x2560, .i32⟩
  | .hbm, ⟨6, _⟩ => ⟨S56x20480, .f32⟩
  | .hbm, ⟨7, _⟩ => ⟨S2496x20480, .bf16⟩
  | .local _ .vmem, ⟨0, _⟩ => ⟨S2496x1024, .bf16⟩
  | .local _ .vmem, ⟨1, _⟩ => ⟨S2496x1024, .bf16⟩
  | .local _ .vmem, ⟨2, _⟩ => ⟨S1024x128, .i32⟩
  | .local _ .vmem, ⟨3, _⟩ => ⟨S1024x128, .i32⟩
  | .local _ .vmem, ⟨4, _⟩ => ⟨S8x128, .i32⟩
  | .local _ .vmem, ⟨5, _⟩ => ⟨S8x128, .i32⟩
  | .local _ .vmem, ⟨6, _⟩ => ⟨S8x1024, .f32⟩
  | .local _ .vmem, ⟨7, _⟩ => ⟨S8x1024, .f32⟩
  | .local _ .vmem, ⟨8, _⟩ => ⟨S1024x128, .i32⟩
  | .local _ .vmem, ⟨9, _⟩ => ⟨S1024x128, .i32⟩
  | .local _ .vmem, ⟨10, _⟩ => ⟨S8x128, .i32⟩
  | .local _ .vmem, ⟨11, _⟩ => ⟨S8x128, .i32⟩
  | .local _ .vmem, ⟨12, _⟩ => ⟨S8x1024, .f32⟩
  | .local _ .vmem, ⟨13, _⟩ => ⟨S8x1024, .f32⟩
  | .local _ .vmem, ⟨14, _⟩ => ⟨S2496x1024, .bf16⟩
  | .local _ .vmem, ⟨15, _⟩ => ⟨S2496x1024, .bf16⟩
  | .local _ .vmem, ⟨16, _⟩ => ⟨S1024x1024, .bf16⟩
  | .local _ .vmem, ⟨17, _⟩ => ⟨S1024x1024, .bf16⟩
  | .local _ .vmem, ⟨18, _⟩ => ⟨S2496x1024, .f32⟩
  | .local _ .vmem, ⟨19, _⟩ => ⟨S2496x1024, .f32⟩
  | _, _ => ⟨S2496x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![20, 7], ![false, false]⟩

def k0_cond2 (i : grid0.Coords) : BitVec 1 :=
  let arg1 : BitVec 32 := BitVec.ofNat 32 (i 1).val
  let c6_i32 : BitVec 32 := 6#32
  let v3075 : BitVec 1 := Scalar.cmpi .eq arg1 c6_i32
  let v3076 : BitVec 32 := Scalar.extui v3075
  let c0_i32_984 : BitVec 32 := 0#32
  let v3077 : BitVec 1 := Scalar.cmpi .ne v3076 c0_i32_984
  v3077

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2496x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2496x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2496x7168 : Shape := ⟨2, ![2496, 7168]⟩
abbrev S7168x2560 : Shape := ⟨2, ![7168, 2560]⟩
abbrev S56x2560 : Shape := ⟨2, ![56, 2560]⟩
abbrev S56x20480 : Shape := ⟨2, ![56, 20480]⟩
abbrev S8 : Shape := ⟨1, ![8]⟩
abbrev S1x1x8 : Shape := ⟨3, ![1, 1, 8]⟩
abbrev S7168x2560x1 : Shape := ⟨3, ![7168, 2560, 1]⟩
abbrev S7168x2560x8 : Shape := ⟨3, ![7168, 2560, 8]⟩
abbrev S_ : Shape := ⟨0, ![]⟩
abbrev S56x2560x1 : Shape := ⟨3, ![56, 2560, 1]⟩
abbrev S56x2560x8 : Shape := ⟨3, ![56, 2560, 8]⟩
abbrev S56x1x2560x8 : Shape := ⟨4, ![56, 1, 2560, 8]⟩
abbrev S56x128x2560x8 : Shape := ⟨4, ![56, 128, 2560, 8]⟩
abbrev S7168x20480 : Shape := ⟨2, ![7168, 20480]⟩
abbrev S2496x20480 : Shape := ⟨2, ![2496, 20480]⟩

abbrev nBuf : Space → Nat
  | .hbm => 72
  | .vmem => 0
  | .smem => 0
  | _ => 0

abbrev bufTy : (tb : Table) → Fin (tcTables nBuf tb) → BufTy
  | .hbm, ⟨0, _⟩ => ⟨S2496x7168, .bf16⟩
  | .hbm, ⟨1, _⟩ => ⟨S7168x2560, .i32⟩
  | .hbm, ⟨2, _⟩ => ⟨S56x2560, .i32⟩
  | .hbm, ⟨3, _⟩ => ⟨S56x20480, .f32⟩
  | .hbm, ⟨4, _⟩ => ⟨S7168x2560, .i32⟩
  | .hbm, ⟨5, _⟩ => ⟨S56x2560, .i32⟩
  | .hbm, ⟨6, _⟩ => ⟨S56x20480, .f32⟩
  | .hbm, ⟨7, _⟩ => ⟨S8, .i32⟩
  | .hbm, ⟨8, _⟩ => ⟨S8, .i32⟩
  | .hbm, ⟨9, _⟩ => ⟨S1x1x8, .i32⟩
  | .hbm, ⟨10, _⟩ => ⟨S7168x2560x1, .i32⟩
  | .hbm, ⟨11, _⟩ => ⟨S7168x2560x8, .i32⟩
  | .hbm, ⟨12, _⟩ => ⟨S7168x2560x8, .i32⟩
  | .hbm, ⟨13, _⟩ => ⟨S7168x2560x8, .i32⟩
  | .hbm, ⟨14, _⟩ => ⟨S_, .i32⟩
  | .hbm, ⟨15, _⟩ => ⟨S7168x2560x8, .i32⟩
  | .hbm, ⟨16, _⟩ => ⟨S7168x2560x8, .i32⟩
  | .hbm, ⟨17, _⟩ => ⟨S56x2560x1, .i32⟩
  | .hbm, ⟨18, _⟩ => ⟨S56x2560x8, .i32⟩
  | .hbm, ⟨19, _⟩ => ⟨S56x2560x8, .i32⟩
  | .hbm, ⟨20, _⟩ => ⟨S56x2560x8, .i32⟩
  | .hbm, ⟨21, _⟩ => ⟨S_, .i32⟩
  | .hbm, ⟨22, _⟩ => ⟨S56x2560x8, .i32⟩
  | .hbm, ⟨23, _⟩ => ⟨S56x2560x8, .i32⟩
  | .hbm, ⟨24, _⟩ => ⟨S56x1x2560x8, .f32⟩
  | .hbm, ⟨25, _⟩ => ⟨S56x128x2560x8, .i32⟩
  | .hbm, ⟨26, _⟩ => ⟨S56x1x2560x8, .i32⟩
  | .hbm, ⟨27, _⟩ => ⟨S56x128x2560x8, .i32⟩
  | .hbm, ⟨28, _⟩ => ⟨S56x128x2560x8, .i32⟩
  | .hbm, ⟨29, _⟩ => ⟨S56x128x2560x8, .f32⟩
  | .hbm, ⟨30, _⟩ => ⟨S56x128x2560x8, .f32⟩
  | .hbm, ⟨31, _⟩ => ⟨S56x128x2560x8, .f32⟩
  | .hbm, ⟨32, _⟩ => ⟨S56x128x2560x8, .bf16⟩
  | .hbm, ⟨33, _⟩ => ⟨S7168x20480, .bf16⟩
  | .hbm, ⟨34, _⟩ => ⟨S2496x20480, .f32⟩
  | .hbm, ⟨35, _⟩ => ⟨S1x1x8, .i32⟩
  | .hbm, ⟨36, _⟩ => ⟨S7168x2560x1, .i32⟩
  | .hbm, ⟨37, _⟩ => ⟨S7168x2560x8, .i32⟩
  | .hbm, ⟨38, _⟩ => ⟨S7168x2560x8, .i32⟩
  | .hbm, ⟨39, _⟩ => ⟨S7168x2560x8, .i32⟩
  | .hbm, ⟨40, _⟩ => ⟨S_, .i32⟩
  | .hbm, ⟨41, _⟩ => ⟨S7168x2560x8, .i32⟩
  | .hbm, ⟨42, _⟩ => ⟨S7168x2560x8, .i32⟩
  | .hbm, ⟨43, _⟩ => ⟨S56x2560x1, .i32⟩
  | .hbm, ⟨44, _⟩ => ⟨S56x2560x8, .i32⟩
  | .hbm, ⟨45, _⟩ => ⟨S56x2560x8, .i32⟩
  | .hbm, ⟨46, _⟩ => ⟨S56x2560x8, .i32⟩
  | .hbm, ⟨47, _⟩ => ⟨S_, .i32⟩
  | .hbm, ⟨48, _⟩ => ⟨S56x2560x8, .i32⟩
  | .hbm, ⟨49, _⟩ => ⟨S56x2560x8, .i32⟩
  | .hbm, ⟨50, _⟩ => ⟨S56x1x2560x8, .f32⟩
  | .hbm, ⟨51, _⟩ => ⟨S56x128x2560x8, .i32⟩
  | .hbm, ⟨52, _⟩ => ⟨S56x1x2560x8, .i32⟩
  | .hbm, ⟨53, _⟩ => ⟨S56x128x2560x8, .i32⟩
  | .hbm, ⟨54, _⟩ => ⟨S56x128x2560x8, .i32⟩
  | .hbm, ⟨55, _⟩ => ⟨S56x128x2560x8, .f32⟩
  | .hbm, ⟨56, _⟩ => ⟨S56x128x2560x8, .f32⟩
  | .hbm, ⟨57, _⟩ => ⟨S56x128x2560x8, .f32⟩
  | .hbm, ⟨58, _⟩ => ⟨S56x128x2560x8, .bf16⟩
  | .hbm, ⟨59, _⟩ => ⟨S7168x20480, .bf16⟩
  | .hbm, ⟨60, _⟩ => ⟨S2496x20480, .f32⟩
  | .hbm, ⟨61, _⟩ => ⟨S2496x20480, .f32⟩
  | .hbm, ⟨62, _⟩ => ⟨S2496x20480, .f32⟩
  | .hbm, ⟨63, _⟩ => ⟨S_, .f32⟩
  | .hbm, ⟨64, _⟩ => ⟨S2496x20480, .f32⟩
  | .hbm, ⟨65, _⟩ => ⟨S2496x20480, .f32⟩
  | .hbm, ⟨66, _⟩ => ⟨S_, .f32⟩
  | .hbm, ⟨67, _⟩ => ⟨S2496x20480, .f32⟩
  | .hbm, ⟨68, _⟩ => ⟨S2496x20480, .f32⟩
  | .hbm, ⟨69, _⟩ => ⟨S2496x20480, .f32⟩
  | .hbm, ⟨70, _⟩ => ⟨S2496x20480, .f32⟩
  | .hbm, ⟨71, _⟩ => ⟨S2496x20480, .bf16⟩
  | _, _ => ⟨S2496x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== KernelDown.lean ====
abbrev S2496x20480 : Shape := ⟨2, ![2496, 20480]⟩
abbrev S20480x896 : Shape := ⟨2, ![20480, 896]⟩
abbrev S160x896 : Shape := ⟨2, ![160, 896]⟩
abbrev S160x7168 : Shape := ⟨2, ![160, 7168]⟩
abbrev S2496x7168 : Shape := ⟨2, ![2496, 7168]⟩
abbrev S2496x1024 : Shape := ⟨2, ![2496, 1024]⟩
abbrev S1024x128 : Shape := ⟨2, ![1024, 128]⟩
abbrev S8x128 : Shape := ⟨2, ![8, 128]⟩
abbrev S8x1024 : Shape := ⟨2, ![8, 1024]⟩
abbrev S1024x1024 : Shape := ⟨2, ![1024, 1024]⟩
abbrev S128x128 : Shape := ⟨2, ![128, 128]⟩
abbrev S8x128x1 : Shape := ⟨3, ![8, 128, 1]⟩
abbrev S128x128x1 : Shape := ⟨3, ![128, 128, 1]⟩
abbrev S1x128 : Shape := ⟨2, ![1, 128]⟩

abbrev nBuf : Space → Nat
  | .hbm => 6
  | .vmem => 14
  | .smem => 0
  | _ => 0

abbrev bufTy : (tb : Table) → Fin (tcTables nBuf tb) → BufTy
  | .hbm, ⟨0, _⟩ => ⟨S2496x20480, .bf16⟩
  | .hbm, ⟨1, _⟩ => ⟨S20480x896, .i32⟩
  | .hbm, ⟨2, _⟩ => ⟨S160x896, .i32⟩
  | .hbm, ⟨3, _⟩ => ⟨S160x7168, .f32⟩
  | .hbm, ⟨4, _⟩ => ⟨S2496x7168, .bf16⟩
  | .hbm, ⟨5, _⟩ => ⟨S2496x7168, .bf16⟩
  | .local _ .vmem, ⟨0, _⟩ => ⟨S2496x1024, .bf16⟩
  | .local _ .vmem, ⟨1, _⟩ => ⟨S2496x1024, .bf16⟩
  | .local _ .vmem, ⟨2, _⟩ => ⟨S1024x128, .i32⟩
  | .local _ .vmem, ⟨3, _⟩ => ⟨S1024x128, .i32⟩
  | .local _ .vmem, ⟨4, _⟩ => ⟨S8x128, .i32⟩
  | .local _ .vmem, ⟨5, _⟩ => ⟨S8x128, .i32⟩
  | .local _ .vmem, ⟨6, _⟩ => ⟨S8x1024, .f32⟩
  | .local _ .vmem, ⟨7, _⟩ => ⟨S8x1024, .f32⟩
  | .local _ .vmem, ⟨8, _⟩ => ⟨S2496x1024, .bf16⟩
  | .local _ .vmem, ⟨9, _⟩ => ⟨S2496x1024, .bf16⟩
  | .local _ .vmem, ⟨10, _⟩ => ⟨S2496x1024, .bf16⟩
  | .local _ .vmem, ⟨11, _⟩ => ⟨S2496x1024, .bf16⟩
  | .local _ .vmem, ⟨12, _⟩ => ⟨S1024x1024, .bf16⟩
  | .local _ .vmem, ⟨13, _⟩ => ⟨S2496x1024, .f32⟩
  | _, _ => ⟨S2496x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![7, 20], ![false, false]⟩

def k0_cond2 (i : grid0.Coords) : BitVec 1 :=
  let arg1 : BitVec 32 := BitVec.ofNat 32 (i 1).val
  let c19_i32 : BitVec 32 := 19#32
  let v1539 : BitVec 1 := Scalar.cmpi .eq arg1 c19_i32
  let v1540 : BitVec 32 := Scalar.extui v1539
  let c0_i32_480 : BitVec 32 := 0#32
  let v1541 : BitVec 1 := Scalar.cmpi .ne v1540 c0_i32_480
  v1541

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2496x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2496x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2496x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceDownIdeal.lean ====
abbrev S2496x20480 : Shape := ⟨2, ![2496, 20480]⟩
abbrev S20480x896 : Shape := ⟨2, ![20480, 896]⟩
abbrev S160x896 : Shape := ⟨2, ![160, 896]⟩
abbrev S160x7168 : Shape := ⟨2, ![160, 7168]⟩
abbrev S2496x7168 : Shape := ⟨2, ![2496, 7168]⟩
abbrev S8 : Shape := ⟨1, ![8]⟩
abbrev S1x1x8 : Shape := ⟨3, ![1, 1, 8]⟩
abbrev S20480x896x1 : Shape := ⟨3, ![20480, 896, 1]⟩
abbrev S20480x896x8 : Shape := ⟨3, ![20480, 896, 8]⟩
abbrev S_ : Shape := ⟨0, ![]⟩
abbrev S160x896x1 : Shape := ⟨3, ![160, 896, 1]⟩
abbrev S160x896x8 : Shape := ⟨3, ![160, 896, 8]⟩
abbrev S160x1x896x8 : Shape := ⟨4, ![160, 1, 896, 8]⟩
abbrev S160x128x896x8 : Shape := ⟨4, ![160, 128, 896, 8]⟩
abbrev S20480x7168 : Shape := ⟨2, ![20480, 7168]⟩

abbrev nBuf : Space → Nat
  | .hbm => 35
  | .vmem => 0
  | .smem => 0
  | _ => 0

abbrev bufTy : (tb : Table) → Fin (tcTables nBuf tb) → BufTy
  | .hbm, ⟨0, _⟩ => ⟨S2496x20480, .bf16⟩
  | .hbm, ⟨1, _⟩ => ⟨S20480x896, .i32⟩
  | .hbm, ⟨2, _⟩ => ⟨S160x896, .i32⟩
  | .hbm, ⟨3, _⟩ => ⟨S160x7168, .f32⟩
  | .hbm, ⟨4, _⟩ => ⟨S2496x7168, .bf16⟩
  | .hbm, ⟨5, _⟩ => ⟨S8, .i32⟩
  | .hbm, ⟨6, _⟩ => ⟨S2496x7168, .f32⟩
  | .hbm, ⟨7, _⟩ => ⟨S1x1x8, .i32⟩
  | .hbm, ⟨8, _⟩ => ⟨S20480x896x1, .i32⟩
  | .hbm, ⟨9, _⟩ => ⟨S20480x896x8, .i32⟩
  | .hbm, ⟨10, _⟩ => ⟨S20480x896x8, .i32⟩
  | .hbm, ⟨11, _⟩ => ⟨S20480x896x8, .i32⟩
  | .hbm, ⟨12, _⟩ => ⟨S_, .i32⟩
  | .hbm, ⟨13, _⟩ => ⟨S20480x896x8, .i32⟩
  | .hbm, ⟨14, _⟩ => ⟨S20480x896x8, .i32⟩
  | .hbm, ⟨15, _⟩ => ⟨S160x896x1, .i32⟩
  | .hbm, ⟨16, _⟩ => ⟨S160x896x8, .i32⟩
  | .hbm, ⟨17, _⟩ => ⟨S160x896x8, .i32⟩
  | .hbm, ⟨18, _⟩ => ⟨S160x896x8, .i32⟩
  | .hbm, ⟨19, _⟩ => ⟨S_, .i32⟩
  | .hbm, ⟨20, _⟩ => ⟨S160x896x8, .i32⟩
  | .hbm, ⟨21, _⟩ => ⟨S160x896x8, .i32⟩
  | .hbm, ⟨22, _⟩ => ⟨S160x1x896x8, .f32⟩
  | .hbm, ⟨23, _⟩ => ⟨S160x128x896x8, .i32⟩
  | .hbm, ⟨24, _⟩ => ⟨S160x1x896x8, .i32⟩
  | .hbm, ⟨25, _⟩ => ⟨S160x128x896x8, .i32⟩
  | .hbm, ⟨26, _⟩ => ⟨S160x128x896x8, .i32⟩
  | .hbm, ⟨27, _⟩ => ⟨S160x128x896x8, .f32⟩
  | .hbm, ⟨28, _⟩ => ⟨S160x128x896x8, .f32⟩
  | .hbm, ⟨29, _⟩ => ⟨S160x128x896x8, .f32⟩
  | .hbm, ⟨30, _⟩ => ⟨S160x128x896x8, .bf16⟩
  | .hbm, ⟨31, _⟩ => ⟨S20480x7168, .bf16⟩
  | .hbm, ⟨32, _⟩ => ⟨S2496x7168, .f32⟩
  | .hbm, ⟨33, _⟩ => ⟨S2496x7168, .f32⟩
  | .hbm, ⟨34, _⟩ => ⟨S2496x7168, .bf16⟩
  | _, _ => ⟨S2496x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== KernelOut.lean ====
abbrev S2496x7168 : Shape := ⟨2, ![2496, 7168]⟩
abbrev S7168x896 : Shape := ⟨2, ![7168, 896]⟩
abbrev S56x896 : Shape := ⟨2, ![56, 896]⟩
abbrev S56x7168 : Shape := ⟨2, ![56, 7168]⟩
abbrev S2496x1024 : Shape := ⟨2, ![2496, 1024]⟩
abbrev S1024x128 : Shape := ⟨2, ![1024, 128]⟩
abbrev S8x128 : Shape := ⟨2, ![8, 128]⟩
abbrev S8x1024 : Shape := ⟨2, ![8, 1024]⟩
abbrev S1024x1024 : Shape := ⟨2, ![1024, 1024]⟩
abbrev S128x128 : Shape := ⟨2, ![128, 128]⟩
abbrev S8x128x1 : Shape := ⟨3, ![8, 128, 1]⟩
abbrev S128x128x1 : Shape := ⟨3, ![128, 128, 1]⟩
abbrev S1x128 : Shape := ⟨2, ![1, 128]⟩

abbrev nBuf : Space → Nat
  | .hbm => 6
  | .vmem => 14
  | .smem => 0
  | _ => 0

abbrev bufTy : (tb : Table) → Fin (tcTables nBuf tb) → BufTy
  | .hbm, ⟨0, _⟩ => ⟨S2496x7168, .bf16⟩
  | .hbm, ⟨1, _⟩ => ⟨S7168x896, .i32⟩
  | .hbm, ⟨2, _⟩ => ⟨S56x896, .i32⟩
  | .hbm, ⟨3, _⟩ => ⟨S56x7168, .f32⟩
  | .hbm, ⟨4, _⟩ => ⟨S2496x7168, .bf16⟩
  | .hbm, ⟨5, _⟩ => ⟨S2496x7168, .bf16⟩
  | .local _ .vmem, ⟨0, _⟩ => ⟨S2496x1024, .bf16⟩
  | .local _ .vmem, ⟨1, _⟩ => ⟨S2496x1024, .bf16⟩
  | .local _ .vmem, ⟨2, _⟩ => ⟨S1024x128, .i32⟩
  | .local _ .vmem, ⟨3, _⟩ => ⟨S1024x128, .i32⟩
  | .local _ .vmem, ⟨4, _⟩ => ⟨S8x128, .i32⟩
  | .local _ .vmem, ⟨5, _⟩ => ⟨S8x128, .i32⟩
  | .local _ .vmem, ⟨6, _⟩ => ⟨S8x1024, .f32⟩
  | .local _ .vmem, ⟨7, _⟩ => ⟨S8x1024, .f32⟩
  | .local _ .vmem, ⟨8, _⟩ => ⟨S2496x1024, .bf16⟩
  | .local _ .vmem, ⟨9, _⟩ => ⟨S2496x1024, .bf16⟩
  | .local _ .vmem, ⟨10, _⟩ => ⟨S2496x1024, .bf16⟩
  | .local _ .vmem, ⟨11, _⟩ => ⟨S2496x1024, .bf16⟩
  | .local _ .vmem, ⟨12, _⟩ => ⟨S1024x1024, .bf16⟩
  | .local _ .vmem, ⟨13, _⟩ => ⟨S2496x1024, .f32⟩
  | _, _ => ⟨S2496x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![7, 7], ![false, false]⟩

def k0_cond2 (i : grid0.Coords) : BitVec 1 :=
  let arg1 : BitVec 32 := BitVec.ofNat 32 (i 1).val
  let c6_i32 : BitVec 32 := 6#32
  let v1539 : BitVec 1 := Scalar.cmpi .eq arg1 c6_i32
  let v1540 : BitVec 32 := Scalar.extui v1539
  let c0_i32_480 : BitVec 32 := 0#32
  let v1541 : BitVec 1 := Scalar.cmpi .ne v1540 c0_i32_480
  v1541

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2496x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2496x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2496x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceOutIdeal.lean ====
abbrev S2496x7168 : Shape := ⟨2, ![2496, 7168]⟩
abbrev S7168x896 : Shape := ⟨2, ![7168, 896]⟩
abbrev S56x896 : Shape := ⟨2, ![56, 896]⟩
abbrev S56x7168 : Shape := ⟨2, ![56, 7168]⟩
abbrev S8 : Shape := ⟨1, ![8]⟩
abbrev S1x1x8 : Shape := ⟨3, ![1, 1, 8]⟩
abbrev S7168x896x1 : Shape := ⟨3, ![7168, 896, 1]⟩
abbrev S7168x896x8 : Shape := ⟨3, ![7168, 896, 8]⟩
abbrev S_ : Shape := ⟨0, ![]⟩
abbrev S56x896x1 : Shape := ⟨3, ![56, 896, 1]⟩
abbrev S56x896x8 : Shape := ⟨3, ![56, 896, 8]⟩
abbrev S56x1x896x8 : Shape := ⟨4, ![56, 1, 896, 8]⟩
abbrev S56x128x896x8 : Shape := ⟨4, ![56, 128, 896, 8]⟩
abbrev S7168x7168 : Shape := ⟨2, ![7168, 7168]⟩

abbrev nBuf : Space → Nat
  | .hbm => 35
  | .vmem => 0
  | .smem => 0
  | _ => 0

abbrev bufTy : (tb : Table) → Fin (tcTables nBuf tb) → BufTy
  | .hbm, ⟨0, _⟩ => ⟨S2496x7168, .bf16⟩
  | .hbm, ⟨1, _⟩ => ⟨S7168x896, .i32⟩
  | .hbm, ⟨2, _⟩ => ⟨S56x896, .i32⟩
  | .hbm, ⟨3, _⟩ => ⟨S56x7168, .f32⟩
  | .hbm, ⟨4, _⟩ => ⟨S2496x7168, .bf16⟩
  | .hbm, ⟨5, _⟩ => ⟨S8, .i32⟩
  | .hbm, ⟨6, _⟩ => ⟨S2496x7168, .f32⟩
  | .hbm, ⟨7, _⟩ => ⟨S1x1x8, .i32⟩
  | .hbm, ⟨8, _⟩ => ⟨S7168x896x1, .i32⟩
  | .hbm, ⟨9, _⟩ => ⟨S7168x896x8, .i32⟩
  | .hbm, ⟨10, _⟩ => ⟨S7168x896x8, .i32⟩
  | .hbm, ⟨11, _⟩ => ⟨S7168x896x8, .i32⟩
  | .hbm, ⟨12, _⟩ => ⟨S_, .i32⟩
  | .hbm, ⟨13, _⟩ => ⟨S7168x896x8, .i32⟩
  | .hbm, ⟨14, _⟩ => ⟨S7168x896x8, .i32⟩
  | .hbm, ⟨15, _⟩ => ⟨S56x896x1, .i32⟩
  | .hbm, ⟨16, _⟩ => ⟨S56x896x8, .i32⟩
  | .hbm, ⟨17, _⟩ => ⟨S56x896x8, .i32⟩
  | .hbm, ⟨18, _⟩ => ⟨S56x896x8, .i32⟩
  | .hbm, ⟨19, _⟩ => ⟨S_, .i32⟩
  | .hbm, ⟨20, _⟩ => ⟨S56x896x8, .i32⟩
  | .hbm, ⟨21, _⟩ => ⟨S56x896x8, .i32⟩
  | .hbm, ⟨22, _⟩ => ⟨S56x1x896x8, .f32⟩
  | .hbm, ⟨23, _⟩ => ⟨S56x128x896x8, .i32⟩
  | .hbm, ⟨24, _⟩ => ⟨S56x1x896x8, .i32⟩
  | .hbm, ⟨25, _⟩ => ⟨S56x128x896x8, .i32⟩
  | .hbm, ⟨26, _⟩ => ⟨S56x128x896x8, .i32⟩
  | .hbm, ⟨27, _⟩ => ⟨S56x128x896x8, .f32⟩
  | .hbm, ⟨28, _⟩ => ⟨S56x128x896x8, .f32⟩
  | .hbm, ⟨29, _⟩ => ⟨S56x128x896x8, .f32⟩
  | .hbm, ⟨30, _⟩ => ⟨S56x128x896x8, .bf16⟩
  | .hbm, ⟨31, _⟩ => ⟨S7168x7168, .bf16⟩
  | .hbm, ⟨32, _⟩ => ⟨S2496x7168, .f32⟩
  | .hbm, ⟨33, _⟩ => ⟨S2496x7168, .f32⟩
  | .hbm, ⟨34, _⟩ => ⟨S2496x7168, .bf16⟩
  | _, _ => ⟨S2496x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== KernelNorm.lean ====
abbrev S2496x7168 : Shape := ⟨2, ![2496, 7168]⟩
abbrev S7168 : Shape := ⟨1, ![7168]⟩
abbrev S1x7168 : Shape := ⟨2, ![1, 7168]⟩
abbrev S208x7168 : Shape := ⟨2, ![208, 7168]⟩
abbrev S208 : Shape := ⟨1, ![208]⟩
abbrev S208x1 : Shape := ⟨2, ![208, 1]⟩

abbrev nBuf : Space → Nat
  | .hbm => 4
  | .vmem => 5
  | .smem => 0
  | _ => 0

abbrev bufTy : (tb : Table) → Fin (tcTables nBuf tb) → BufTy
  | .hbm, ⟨0, _⟩ => ⟨S2496x7168, .bf16⟩
  | .hbm, ⟨1, _⟩ => ⟨S7168, .f32⟩
  | .hbm, ⟨2, _⟩ => ⟨S1x7168, .f32⟩
  | .hbm, ⟨3, _⟩ => ⟨S2496x7168, .bf16⟩
  | .local _ .vmem, ⟨0, _⟩ => ⟨S208x7168, .bf16⟩
  | .local _ .vmem, ⟨1, _⟩ => ⟨S208x7168, .bf16⟩
  | .local _ .vmem, ⟨2, _⟩ => ⟨S1x7168, .f32⟩
  | .local _ .vmem, ⟨3, _⟩ => ⟨S208x7168, .bf16⟩
  | .local _ .vmem, ⟨4, _⟩ => ⟨S208x7168, .bf16⟩
  | _, _ => ⟨S2496x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S208x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S2496x7168 : Shape := ⟨2, ![2496, 7168]⟩
abbrev S7168 : Shape := ⟨1, ![7168]⟩
abbrev S_ : Shape := ⟨0, ![]⟩
abbrev S2496 : Shape := ⟨1, ![2496]⟩
abbrev S2496x1 : Shape := ⟨2, ![2496, 1]⟩
abbrev S1x7168 : Shape := ⟨2, ![1, 7168]⟩

abbrev nBuf : Space → Nat
  | .hbm => 20
  | .vmem => 0
  | .smem => 0
  | _ => 0

abbrev bufTy : (tb : Table) → Fin (tcTables nBuf tb) → BufTy
  | .hbm, ⟨0, _⟩ => ⟨S2496x7168, .bf16⟩
  | .hbm, ⟨1, _⟩ => ⟨S7168, .f32⟩
  | .hbm, ⟨2, _⟩ => ⟨S2496x7168, .f32⟩
  | .hbm, ⟨3, _⟩ => ⟨S2496x7168, .f32⟩
  | .hbm, ⟨4, _⟩ => ⟨S_, .f32⟩
  | .hbm, ⟨5, _⟩ => ⟨S2496, .f32⟩
  | .hbm, ⟨6, _⟩ => ⟨S2496x1, .f32⟩
  | .hbm, ⟨7, _⟩ => ⟨S_, .f32⟩
  | .hbm, ⟨8, _⟩ => ⟨S2496x1, .f32⟩
  | .hbm, ⟨9, _⟩ => ⟨S2496x1, .f32⟩
  | .hbm, ⟨10, _⟩ => ⟨S_, .f32⟩
  | .hbm, ⟨11, _⟩ => ⟨S2496x1, .f32⟩
  | .hbm, ⟨12, _⟩ => ⟨S2496x1, .f32⟩
  | .hbm, ⟨13, _⟩ => ⟨S2496x1, .f32⟩
  | .hbm, ⟨14, _⟩ => ⟨S2496x7168, .f32⟩
  | .hbm, ⟨15, _⟩ => ⟨S2496x7168, .f32⟩
  | .hbm, ⟨16, _⟩ => ⟨S1x7168, .f32⟩
  | .hbm, ⟨17, _⟩ => ⟨S2496x7168, .f32⟩
  | .hbm, ⟨18, _⟩ => ⟨S2496x7168, .f32⟩
  | .hbm, ⟨19, _⟩ => ⟨S2496x7168, .bf16⟩
  | _, _ => ⟨S2496x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelQkv.lean ====
abbrev S2496x7168 : Shape := ⟨2, ![2496, 7168]⟩
abbrev S7168x1152 : Shape := ⟨2, ![7168, 1152]⟩
abbrev S56x1152 : Shape := ⟨2, ![56, 1152]⟩
abbrev S56x9216 : Shape := ⟨2, ![56, 9216]⟩
abbrev S26 : Shape := ⟨1, ![26]⟩
abbrev S96 : Shape := ⟨1, ![96]⟩
abbrev S8 : Shape := ⟨1, ![8]⟩
abbrev S64 : Shape := ⟨1, ![64]⟩
abbrev S_ : Shape := ⟨0, ![]⟩
abbrev S26x1 : Shape := ⟨2, ![26, 1]⟩
abbrev S1x96 : Shape := ⟨2, ![1, 96]⟩
abbrev S26x96 : Shape := ⟨2, ![26, 96]⟩
abbrev S2496x1 : Shape := ⟨2, ![2496, 1]⟩
abbrev S1x64 : Shape := ⟨2, ![1, 64]⟩
abbrev S2496x64 : Shape := ⟨2, ![2496, 64]⟩
abbrev S2496x128 : Shape := ⟨2, ![2496, 128]⟩
abbrev S8x128 : Shape := ⟨2, ![8, 128]⟩
abbrev S1024 : Shape := ⟨1, ![1024]⟩
abbrev S1x1024 : Shape := ⟨2, ![1, 1024]⟩
abbrev S2496x1024 : Shape := ⟨2, ![2496, 1024]⟩
abbrev S1024x128 : Shape := ⟨2, ![1024, 128]⟩
abbrev S8x1024 : Shape := ⟨2, ![8, 1024]⟩
abbrev S1024x1024 : Shape := ⟨2, ![1024, 1024]⟩
abbrev S128x128 : Shape := ⟨2, ![128, 128]⟩
abbrev S8x128x1 : Shape := ⟨3, ![8, 128, 1]⟩
abbrev S128x128x1 : Shape := ⟨3, ![128, 128, 1]⟩
abbrev S1x128 : Shape := ⟨2, ![1, 128]⟩

abbrev nBuf : Space → Nat
  | .hbm => 55
  | .vmem => 18
  | .smem => 0
  | _ => 0

abbrev bufTy : (tb : Table) → Fin (tcTables nBuf tb) → BufTy
  | .hbm, ⟨0, _⟩ => ⟨S2496x7168, .bf16⟩
  | .hbm, ⟨1, _⟩ => ⟨S7168x1152, .i32⟩
  | .hbm, ⟨2, _⟩ => ⟨S56x1152, .i32⟩
  | .hbm, ⟨3, _⟩ => ⟨S56x9216, .f32⟩
  | .hbm, ⟨4, _⟩ => ⟨S26, .i32⟩
  | .hbm, ⟨5, _⟩ => ⟨S96, .i32⟩
  | .hbm, ⟨6, _⟩ => ⟨S8, .f32⟩
  | .hbm, ⟨7, _⟩ => ⟨S8, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S26x1, .i32⟩
  | .hbm, ⟨25, _⟩ => ⟨S1x96, .i32⟩
  | .hbm, ⟨26, _⟩ => ⟨S26x96, .i32⟩
  | .hbm, ⟨27, _⟩ => ⟨S26x96, .i32⟩
  | .hbm, ⟨28, _⟩ => ⟨S26x96, .i32⟩
  | .hbm, ⟨29, _⟩ => ⟨S26x96, .f32⟩
  | .hbm, ⟨30, _⟩ => ⟨S2496x1, .f32⟩
  | .hbm, ⟨31, _⟩ => ⟨S1x64, .f32⟩
  | .hbm, ⟨32, _⟩ => ⟨S2496x64, .f32⟩
  | .hbm, ⟨33, _⟩ => ⟨S2496x64, .f32⟩
  | .hbm, ⟨34, _⟩ => ⟨S2496x64, .f32⟩
  | .hbm, ⟨35, _⟩ => ⟨S2496x64, .f32⟩
  | .hbm, ⟨36, _⟩ => ⟨S2496x64, .f32⟩
  | .hbm, ⟨37, _⟩ => ⟨S2496x128, .f32⟩
  | .hbm, ⟨38, _⟩ => ⟨S2496x64, .f32⟩
  | .hbm, ⟨39, _⟩ => ⟨S2496x128, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8x128, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8x128, .f32⟩
  | .hbm, ⟨50, _⟩ => ⟨S1024, .f32⟩
  | .hbm, ⟨51, _⟩ => ⟨S1x1024, .f32⟩
  | .hbm, ⟨52, _⟩ => ⟨S2496x7168, .bf16⟩
  | .hbm, ⟨53, _⟩ => ⟨S2496x1024, .fp8e4m3⟩
  | .hbm, ⟨54, _⟩ => ⟨S2496x1024, .fp8e4m3⟩
  | .local _ .vmem, ⟨0, _⟩ => ⟨S2496x1024, .bf16⟩
  | .local _ .vmem, ⟨1, _⟩ => ⟨S2496x1024, .bf16⟩
  | .local _ .vmem, ⟨2, _⟩ => ⟨S1024x128, .i32⟩
  | .local _ .vmem, ⟨3, _⟩ => ⟨S1024x128, .i32⟩
  | .local _ .vmem, ⟨4, _⟩ => ⟨S8x128, .i32⟩
  | .local _ .vmem, ⟨5, _⟩ => ⟨S8x128, .i32⟩
  | .local _ .vmem, ⟨6, _⟩ => ⟨S8x1024, .f32⟩
  | .local _ .vmem, ⟨7, _⟩ => ⟨S8x1024, .f32⟩
  | .local _ .vmem, ⟨8, _⟩ => ⟨S2496x128, .f32⟩
  | .local _ .vmem, ⟨9, _⟩ => ⟨S2496x128, .f32⟩
  | .local _ .vmem, ⟨10, _⟩ => ⟨S1x1024, .f32⟩
  | .local _ .vmem, ⟨11, _⟩ => ⟨S1x1024, .f32⟩
  | .local _ .vmem, ⟨12, _⟩ => ⟨S2496x1024, .bf16⟩
  | .local _ .vmem, ⟨13, _⟩ => ⟨S2496x1024, .bf16⟩
  | .local _ .vmem, ⟨14, _⟩ => ⟨S2496x1024, .fp8e4m3⟩
  | .local _ .vmem, ⟨15, _⟩ => ⟨S2496x1024, .fp8e4m3⟩
  | .local _ .vmem, ⟨16, _⟩ => ⟨S1024x1024, .bf16⟩
  | .local _ .vmem, ⟨17, _⟩ => ⟨S2496x1024, .f32⟩
  | _, _ => ⟨S2496x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev main_v37_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![9, 7], ![false, false]⟩

def k0_cond2 (i : grid0.Coords) : BitVec 1 :=
  let arg1 : BitVec 32 := BitVec.ofNat 32 (i 1).val
  let c6_i32 : BitVec 32 := 6#32
  let v1539 : BitVec 1 := Scalar.cmpi .eq arg1 c6_i32
  let arg0 : BitVec 32 := BitVec.ofNat 32 (i 0).val
  let c7_i32_480 : BitVec 32 := 7#32
  let v1540 : BitVec 1 := Scalar.cmpi .slt arg0 c7_i32_480
  let v1541 : BitVec 1 := Scalar.andi v1539 v1540
  let v1542 : BitVec 32 := Scalar.extui v1541
  let c0_i32_481 : BitVec 32 := 0#32
  let v1543 : BitVec 1 := Scalar.cmpi .ne v1542 c0_i32_481
  v1543

def k0_cond3 (i : grid0.Coords) : BitVec 1 :=
  let arg1 : BitVec 32 := BitVec.ofNat 32 (i 1).val
  let c6_i32_482 : BitVec 32 := 6#32
  let v1544 : BitVec 1 := Scalar.cmpi .eq arg1 c6_i32_482
  let arg0 : BitVec 32 := BitVec.ofNat 32 (i 0).val
  let c7_i32_483 : BitVec 32 := 7#32
  let v1545 : BitVec 1 := Scalar.cmpi .eq arg0 c7_i32_483
  let v1546 : BitVec 1 := Scalar.andi v1544 v1545
  let v1547 : BitVec 32 := Scalar.extui v1546
  let c0_i32_484 : BitVec 32 := 0#32
  let v1548 : BitVec 1 := Scalar.cmpi .ne v1547 c0_i32_484
  v1548

def k0_cond4 (i : grid0.Coords) : BitVec 1 :=
  let arg1 : BitVec 32 := BitVec.ofNat 32 (i 1).val
  let c6_i32_485 : BitVec 32 := 6#32
  let v1549 : BitVec 1 := Scalar.cmpi .eq arg1 c6_i32_485
  let arg0 : BitVec 32 := BitVec.ofNat 32 (i 0).val
  let c8_i32 : BitVec 32 := 8#32
  let v1550 : BitVec 1 := Scalar.cmpi .eq arg0 c8_i32
  let v1551 : BitVec 1 := Scalar.andi v1549 v1550
  let v1552 : BitVec 32 := Scalar.extui v1551
  let c0_i32_486 : BitVec 32 := 0#32
  let v1553 : BitVec 1 := Scalar.cmpi .ne v1552 c0_i32_486
  v1553

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2496x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2496x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2496x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2496x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2496x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2496x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceQkvIdeal.lean ====
abbrev S2496x7168 : Shape := ⟨2, ![2496, 7168]⟩
abbrev S7168x1152 : Shape := ⟨2, ![7168, 1152]⟩
abbrev S56x1152 : Shape := ⟨2, ![56, 1152]⟩
abbrev S56x9216 : Shape := ⟨2, ![56, 9216]⟩
abbrev S26 : Shape := ⟨1, ![26]⟩
abbrev S96 : Shape := ⟨1, ![96]⟩
abbrev S8 : Shape := ⟨1, ![8]⟩
abbrev S1x1x8 : Shape := ⟨3, ![1, 1, 8]⟩
abbrev S7168x1152x1 : Shape := ⟨3, ![7168, 1152, 1]⟩
abbrev S7168x1152x8 : Shape := ⟨3, ![7168, 1152, 8]⟩
abbrev S_ : Shape := ⟨0, ![]⟩
abbrev S56x1152x1 : Shape := ⟨3, ![56, 1152, 1]⟩
abbrev S56x1152x8 : Shape := ⟨3, ![56, 1152, 8]⟩
abbrev S56x1x1152x8 : Shape := ⟨4, ![56, 1, 1152, 8]⟩
abbrev S56x128x1152x8 : Shape := ⟨4, ![56, 128, 1152, 8]⟩
abbrev S7168x9216 : Shape := ⟨2, ![7168, 9216]⟩
abbrev S2496x9216 : Shape := ⟨2, ![2496, 9216]⟩
abbrev S26x1 : Shape := ⟨2, ![26, 1]⟩
abbrev S1x96 : Shape := ⟨2, ![1, 96]⟩
abbrev S26x96 : Shape := ⟨2, ![26, 96]⟩
abbrev S64 : Shape := ⟨1, ![64]⟩
abbrev S26x96x1 : Shape := ⟨3, ![26, 96, 1]⟩
abbrev S1x1x64 : Shape := ⟨3, ![1, 1, 64]⟩
abbrev S26x96x64 : Shape := ⟨3, ![26, 96, 64]⟩
abbrev S26x96x1x64 : Shape := ⟨4, ![26, 96, 1, 64]⟩
abbrev S26x96x56x128 : Shape := ⟨4, ![26, 96, 56, 128]⟩
abbrev S26x96x56x64 : Shape := ⟨4, ![26, 96, 56, 64]⟩
abbrev S2496x1024 : Shape := ⟨2, ![2496, 1024]⟩
abbrev S26x96x8x128 : Shape := ⟨4, ![26, 96, 8, 128]⟩
abbrev S26x96x8x64 : Shape := ⟨4, ![26, 96, 8, 64]⟩
abbrev S8x1 : Shape := ⟨2, ![8, 1]⟩
abbrev S8x128 : Shape := ⟨2, ![8, 128]⟩
abbrev S1x1024 : Shape := ⟨2, ![1, 1024]⟩

abbrev nBuf : Space → Nat
  | .hbm => 114
  | .vmem => 8
  | .smem => 0
  | _ => 0

abbrev bufTy : (tb : Table) → Fin (tcTables nBuf tb) → BufTy
  | .hbm, ⟨0, _⟩ => ⟨S2496x7168, .bf16⟩
  | .hbm, ⟨1, _⟩ => ⟨S7168x1152, .i32⟩
  | .hbm, ⟨2, _⟩ => ⟨S56x1152, .i32⟩
  | .hbm, ⟨3, _⟩ => ⟨S56x9216, .f32⟩
  | .hbm, ⟨4, _⟩ => ⟨S26, .i32⟩
  | .hbm, ⟨5, _⟩ => ⟨S96, .i32⟩
  | .hbm, ⟨6, _⟩ => ⟨S8, .f32⟩
  | .hbm, ⟨7, _⟩ => ⟨S8, .f32⟩
  | .hbm, ⟨8, _⟩ => ⟨S8, .i32⟩
  | .hbm, ⟨9, _⟩ => ⟨S1x1x8, .i32⟩
  | .hbm, ⟨10, _⟩ => ⟨S7168x1152x1, .i32⟩
  | .hbm, ⟨11, _⟩ => ⟨S7168x1152x8, .i32⟩
  | .hbm, ⟨12, _⟩ => ⟨S7168x1152x8, .i32⟩
  | .hbm, ⟨13, _⟩ => ⟨S7168x1152x8, .i32⟩
  | .hbm, ⟨14, _⟩ => ⟨S_, .i32⟩
  | .hbm, ⟨15, _⟩ => ⟨S7168x1152x8, .i32⟩
  | .hbm, ⟨16, _⟩ => ⟨S7168x1152x8, .i32⟩
  | .hbm, ⟨17, _⟩ => ⟨S56x1152x1, .i32⟩
  | .hbm, ⟨18, _⟩ => ⟨S56x1152x8, .i32⟩
  | .hbm, ⟨19, _⟩ => ⟨S56x1152x8, .i32⟩
  | .hbm, ⟨20, _⟩ => ⟨S56x1152x8, .i32⟩
  | .hbm, ⟨21, _⟩ => ⟨S_, .i32⟩
  | .hbm, ⟨22, _⟩ => ⟨S56x1152x8, .i32⟩
  | .hbm, ⟨23, _⟩ => ⟨S56x1152x8, .i32⟩
  | .hbm, ⟨24, _⟩ => ⟨S56x1x1152x8, .f32⟩
  | .hbm, ⟨25, _⟩ => ⟨S56x128x1152x8, .i32⟩
  | .hbm, ⟨26, _⟩ => ⟨S56x1x1152x8, .i32⟩
  | .hbm, ⟨27, _⟩ => ⟨S56x128x1152x8, .i32⟩
  | .hbm, ⟨28, _⟩ => ⟨S56x128x1152x8, .i32⟩
  | .hbm, ⟨29, _⟩ => ⟨S56x128x1152x8, .f32⟩
  | .hbm, ⟨30, _⟩ => ⟨S56x128x1152x8, .f32⟩
  | .hbm, ⟨31, _⟩ => ⟨S56x128x1152x8, .f32⟩
  | .hbm, ⟨32, _⟩ => ⟨S56x128x1152x8, .bf16⟩
  | .hbm, ⟨33, _⟩ => ⟨S7168x9216, .bf16⟩
  | .hbm, ⟨34, _⟩ => ⟨S2496x9216, .f32⟩
  | .hbm, ⟨35, _⟩ => ⟨S26x1, .i32⟩
  | .hbm, ⟨36, _⟩ => ⟨S1x96, .i32⟩
  | .hbm, ⟨37, _⟩ => ⟨S26x96, .i32⟩
  | .hbm, ⟨38, _⟩ => ⟨S26x96, .i32⟩
  | .hbm, ⟨39, _⟩ => ⟨S26x96, .i32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S26x96, .f32⟩
  | .hbm, ⟨57, _⟩ => ⟨S26x96x1, .f32⟩
  | .hbm, ⟨58, _⟩ => ⟨S1x1x64, .f32⟩
  | .hbm, ⟨59, _⟩ => ⟨S26x96x64, .f32⟩
  | .hbm, ⟨60, _⟩ => ⟨S26x96x64, .f32⟩
  | .hbm, ⟨61, _⟩ => ⟨S26x96x64, .f32⟩
  | .hbm, ⟨62, _⟩ => ⟨S26x96x64, .f32⟩
  | .hbm, ⟨63, _⟩ => ⟨S26x96x1x64, .f32⟩
  | .hbm, ⟨64, _⟩ => ⟨S26x96x64, .f32⟩
  | .hbm, ⟨65, _⟩ => ⟨S26x96x1x64, .f32⟩
  | .hbm, ⟨66, _⟩ => ⟨S2496x7168, .f32⟩
  | .hbm, ⟨67, _⟩ => ⟨S26x96x56x128, .f32⟩
  | .hbm, ⟨68, _⟩ => ⟨S26x96x56x64, .f32⟩
  | .hbm, ⟨69, _⟩ => ⟨S26x96x56x64, .f32⟩
  | .hbm, ⟨70, _⟩ => ⟨S26x96x56x64, .f32⟩
  | .hbm, ⟨71, _⟩ => ⟨S26x96x56x64, .f32⟩
  | .hbm, ⟨72, _⟩ => ⟨S26x96x56x64, .f32⟩
  | .hbm, ⟨73, _⟩ => ⟨S26x96x56x64, .f32⟩
  | .hbm, ⟨74, _⟩ => ⟨S26x96x56x64, .f32⟩
  | .hbm, ⟨75, _⟩ => ⟨S26x96x56x64, .f32⟩
  | .hbm, ⟨76, _⟩ => ⟨S26x96x56x64, .f32⟩
  | .hbm, ⟨77, _⟩ => ⟨S26x96x56x64, .f32⟩
  | .hbm, ⟨78, _⟩ => ⟨S26x96x56x64, .f32⟩
  | .hbm, ⟨79, _⟩ => ⟨S26x96x56x64, .f32⟩
  | .hbm, ⟨80, _⟩ => ⟨S26x96x56x128, .f32⟩
  | .hbm, ⟨81, _⟩ => ⟨S2496x7168, .f32⟩
  | .hbm, ⟨82, _⟩ => ⟨S2496x1024, .f32⟩
  | .hbm, ⟨83, _⟩ => ⟨S26x96x8x128, .f32⟩
  | .hbm, ⟨84, _⟩ => ⟨S26x96x8x64, .f32⟩
  | .hbm, ⟨85, _⟩ => ⟨S26x96x8x64, .f32⟩
  | .hbm, ⟨86, _⟩ => ⟨S26x96x8x64, .f32⟩
  | .hbm, ⟨87, _⟩ => ⟨S26x96x8x64, .f32⟩
  | .hbm, ⟨88, _⟩ => ⟨S26x96x8x64, .f32⟩
  | .hbm, ⟨89, _⟩ => ⟨S26x96x8x64, .f32⟩
  | .hbm, ⟨90, _⟩ => ⟨S26x96x8x64, .f32⟩
  | .hbm, ⟨91, _⟩ => ⟨S26x96x8x64, .f32⟩
  | .hbm, ⟨92, _⟩ => ⟨S26x96x8x64, .f32⟩
  | .hbm, ⟨93, _⟩ => ⟨S26x96x8x64, .f32⟩
  | .hbm, ⟨94, _⟩ => ⟨S26x96x8x64, .f32⟩
  | .hbm, ⟨95, _⟩ => ⟨S26x96x8x64, .f32⟩
  | .hbm, ⟨96, _⟩ => ⟨S26x96x8x128, .f32⟩
  | .hbm, ⟨97, _⟩ => ⟨S2496x1024, .f32⟩
  | .hbm, ⟨98, _⟩ => ⟨S2496x1024, .f32⟩
  | .hbm, ⟨99, _⟩ => ⟨S_, .f32⟩
  | .hbm, ⟨100, _⟩ => ⟨S8, .f32⟩
  | .hbm, ⟨101, _⟩ => ⟨S8, .f32⟩
  | .hbm, ⟨102, _⟩ => ⟨S8x1, .f32⟩
  | .hbm, ⟨103, _⟩ => ⟨S8x128, .f32⟩
  | .hbm, ⟨104, _⟩ => ⟨S1x1024, .f32⟩
  | .hbm, ⟨105, _⟩ => ⟨S_, .f32⟩
  | .hbm, ⟨106, _⟩ => ⟨S8, .f32⟩
  | .hbm, ⟨107, _⟩ => ⟨S8, .f32⟩
  | .hbm, ⟨108, _⟩ => ⟨S8x1, .f32⟩
  | .hbm, ⟨109, _⟩ => ⟨S8x128, .f32⟩
  | .hbm, ⟨110, _⟩ => ⟨S1x1024, .f32⟩
  | .hbm, ⟨111, _⟩ => ⟨S2496x7168, .bf16⟩
  | .hbm, ⟨112, _⟩ => ⟨S2496x1024, .fp8e4m3⟩
  | .hbm, ⟨113, _⟩ => ⟨S2496x1024, .fp8e4m3⟩
  | .local _ .vmem, ⟨0, _⟩ => ⟨S2496x7168, .f32⟩
  | .local _ .vmem, ⟨1, _⟩ => ⟨S2496x1024, .f32⟩
  | .local _ .vmem, ⟨2, _⟩ => ⟨S2496x1024, .f32⟩
  | .local _ .vmem, ⟨3, _⟩ => ⟨S1x1024, .f32⟩
  | .local _ .vmem, ⟨4, _⟩ => ⟨S1x1024, .f32⟩
  | .local _ .vmem, ⟨5, _⟩ => ⟨S2496x7168, .bf16⟩
  | .local _ .vmem, ⟨6, _⟩ => ⟨S2496x1024, .fp8e4m3⟩
  | .local _ .vmem, ⟨7, _⟩ => ⟨S2496x1024, .fp8e4m3⟩
  | _, _ => ⟨S2496x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_6 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_7 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93_0 : Ref sig .tc := ⟨.hbm, 111, rfl⟩
abbrev main_v93_1 : Ref sig .tc := ⟨.hbm, 112, rfl⟩
abbrev main_v93_2 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2496x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2496x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2496x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2496x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2496x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2496x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Nibble.lean ====
/-
  One 4-bit weight read out of a packed 32-bit word, in two ways.

  The reference shifts the word right and keeps the low four bits. The kernel keeps the four bits where they stand, so
  that it reads the nibble times a power of two, and multiplies by the inverse power folded into the scale. It first flips
  the word's top bit, which shifts the value of the topmost nibble by a constant; the constant goes away in the difference
  of weight and zero point.
-/
module

public import Idealize.ShloMosaic.Lib.Pointwise

@[expose] public section

noncomputable section

namespace Cert.Awq

open Idealize.ShloMosaic

/-- The bit at which nibble `j` (in the natural order of the columns) begins: 0, 16, 4, 20, 8, 24, 12, 28. -/
def shift (j : ℕ) : ℕ := 2 * j + 14 * (j % 2)

/-- Nibble `j` of a packed word. -/
def nib (w : BitVec 32) (j : ℕ) : BitVec 32 := (w.sshiftRight (shift j)) &&& 15#32

/-- The weight that nibble `j` of the word `w` and of the zero point's word `z` stand for, at scale `s`. -/
def weight (w z : BitVec 32) (j : ℕ) (s : EReal) : EReal := (((nib w j - nib z j).toInt : ℝ) : EReal) * s

theorem shift_lt {j : ℕ} (h : j < 8) : shift j ≤ 28 := by
  unfold shift; omega

/-- The same nibble, by the shift and the mask of the machine's integer operations. -/
theorem nib_shr (u : ArithUnit) (w : BitVec 32) {j : ℕ} (h : j < 8) :
    IntOp.andi (IntOp.shrsi u w (BitVec.ofNat 32 (shift j))) 15#32 = nib w j := by
  have hs := shift_lt h
  have e : (BitVec.ofNat 32 (shift j)).toNat = shift j := by
    rw [BitVec.toNat_ofNat]; exact Nat.mod_eq_of_lt (by omega)
  unfold IntOp.shrsi IntOp.andi nib BitVec.sshiftRight'
  rw [e, if_pos (by omega)]

/-- The nibble of a word is a number below 16. -/
theorem nib_fin (w : BitVec 32) (j : ℕ) : ∃ n : Fin 16, nib w j = BitVec.ofNat 32 n := by
  refine ⟨⟨(nib w j).toNat, ?_⟩, by simp⟩
  unfold nib
  rw [BitVec.toNat_and]
  exact lt_of_le_of_lt Nat.and_le_right (by decide)

/-- The arithmetic and the logical shift agree in the four bits kept. -/
theorem nib_eq (w : BitVec 32) {j : ℕ} (h : j < 8) : nib w j = (w >>> shift j) &&& 15#32 := by
  have hs := shift_lt h
  unfold nib
  ext i hi
  simp only [BitVec.getElem_and, BitVec.getElem_sshiftRight, BitVec.getElem_ushiftRight]
  by_cases h4 : i < 4
  · have : shift j + i < 32 := by omega
    simp [this]
  · have : (15#32)[i] = false := by
      have : ∀ k : Fin 32, ¬ (k : ℕ) < 4 → (15#32).getLsbD (k : ℕ) = false := by decide
      exact this ⟨i, hi⟩ h4
    simp [this]

/-- Keeping four bits in place is keeping them shifted down, then shifting back up. -/
theorem mask_eq (x : BitVec 32) {s : ℕ} (hs : s ≤ 28) : x &&& (15#32 <<< s) = ((x >>> s) &&& 15#32) <<< s := by
  ext i hi
  simp only [BitVec.getElem_and, BitVec.getElem_shiftLeft, BitVec.getElem_ushiftRight]
  by_cases h : i < s
  · simp [h]
  · have e : s + (i - s) = i := by omega
    have hb : x[i] = x.getLsbD i := (BitVec.getLsbD_eq_getElem hi).symm
    simp [h, e, hb]

/-- Flipping the top bit touches only the topmost nibble. -/
theorem flip_eq (w : BitVec 32) {j : ℕ} (h : j < 8) :
    ((w ^^^ 2147483648#32) >>> shift j) &&& 15#32 = nib w j ^^^ (if j = 7 then 8#32 else 0#32) := by
  have hd : ∀ a b c : BitVec 32, (a ^^^ b) &&& c = (a &&& c) ^^^ (b &&& c) := by
    intro a b c; ext i hi; simp [Bool.and_xor_distrib_right]
  rw [nib_eq w h, BitVec.ushiftRight_xor_distrib, hd]
  congr 1
  have : ∀ k : Fin 8, (2147483648#32 >>> shift k) &&& 15#32 = if (k : ℕ) = 7 then 8#32 else 0#32 := by decide
  exact this ⟨j, h⟩

/-- What the kernel's mask leaves of a word, read as a signed integer. -/
theorem toInt_mask (w : BitVec 32) {j : ℕ} (h : j < 8) :
    ((w ^^^ 2147483648#32) &&& (15#32 <<< shift j)).toInt
      = (nib w j).toInt * 2 ^ shift j - (if j = 7 then 2 ^ 31 else 0) := by
  rw [mask_eq _ (shift_lt h), flip_eq w h]
  obtain ⟨n, hn⟩ := nib_fin w j
  rw [hn]
  have : ∀ (k : Fin 8) (n : Fin 16), ((BitVec.ofNat 32 n ^^^ (if (k : ℕ) = 7 then 8#32 else 0#32)) <<< shift k).toInt
      = (BitVec.ofNat 32 (n : ℕ)).toInt * 2 ^ shift k - (if (k : ℕ) = 7 then 2 ^ 31 else 0) := by decide
  exact this ⟨j, h⟩ n

/-- The difference of two nibbles does not wrap. -/
theorem toInt_nib_sub (w z : BitVec 32) (j : ℕ) : (nib w j - nib z j).toInt = (nib w j).toInt - (nib z j).toInt := by
  obtain ⟨n, hn⟩ := nib_fin w j
  obtain ⟨k, hk⟩ := nib_fin z j
  rw [hn, hk]
  have : ∀ n k : Fin 16, (BitVec.ofNat 32 (n : ℕ) - BitVec.ofNat 32 (k : ℕ)).toInt
      = (BitVec.ofNat 32 (n : ℕ)).toInt - (BitVec.ofNat 32 (k : ℕ)).toInt := by decide
  exact this n k

/-- The float whose exponent field is `127 - shift j` is the inverse power of two. -/
theorem down_eq {j : ℕ} (h : j < 8) :
    Ideal.ofBits .f32 ((127#32 - BitVec.ofNat 32 (shift j)) <<< 23) = (((2 : ℝ) ^ shift j)⁻¹ : ℝ) := by
  have e : ∀ k : Fin 8, ((127#32 - BitVec.ofNat 32 (shift k)) <<< 23).extractLsb' 31 1 = 0#1 ∧
      (((127#32 - BitVec.ofNat 32 (shift k)) <<< 23).extractLsb' 23 8).toNat = 127 - shift k ∧
      (((127#32 - BitVec.ofNat 32 (shift k)) <<< 23).extractLsb' 0 23).toNat = 0 := by decide
  obtain ⟨e1, e2, e3⟩ := e ⟨j, h⟩
  have hs := shift_lt h
  simp only [Ideal.ofBits, Ideal.ieee]
  simp only [show (8 + 23 : ℕ) = 31 from rfl]
  simp only at e1 e2 e3
  rw [e1, e2, e3]
  rw [if_neg (by omega), if_neg (by omega)]
  refine congrArg _ ?_
  norm_num
  rw [show ((127 - shift j : ℕ) : ℤ) - 127 - 23 = -(23 : ℕ) + -(shift j : ℕ) by omega, zpow_add₀ (by norm_num), zpow_neg, zpow_neg,
    zpow_natCast, zpow_natCast, ← mul_assoc]
  norm_num

/-- The kernel's arithmetic on one weight is the reference's. -/
theorem weight_eq (w z : BitVec 32) {j : ℕ} (h : j < 8) (s : EReal) :
    ((((w ^^^ 2147483648#32) &&& (15#32 <<< shift j)).toInt : ℝ) - (((z ^^^ 2147483648#32) &&& (15#32 <<< shift j)).toInt : ℝ) : EReal)
        * (s * Ideal.ofBits .f32 ((127#32 - BitVec.ofNat 32 (shift j)) <<< 23))
      = weight w z j s := by
  rw [toInt_mask w h, toInt_mask z h, down_eq h, weight, toInt_nib_sub, mul_comm s, ← mul_assoc, ← EReal.coe_sub, ← EReal.coe_mul]
  congr 2
  push_cast
  have : (2 : ℝ) ^ shift j ≠ 0 := by positivity
  field_simp
  ring

end Cert.Awq

end
-- ==== Proof.Tile.lean ====
/-
  One 128 by 128 tile of the weight matrix, as the kernel builds it from the packed words: for plane `p` the lane `l` takes
  word `16 * p + l / 8`, and row block `g` uses row `g` of the zero points and of the scales. Read at an index the tile is
  the plain dequantized weight.
-/
module

public import proofs.«01_k».proof.Proof.Nibble

@[expose] public section

noncomputable section

namespace Cert.Awq

open Idealize.ShloMosaic Idealize.ShloMosaic.Pointwise

/-- A square tile of words or weights; the zero points or scales of one plane; one row of them. -/
abbrev L128 : Shape := ⟨2, ![128, 128]⟩
abbrev L8 : Shape := ⟨2, ![8, 128]⟩
abbrev L1 : Shape := ⟨2, ![1, 128]⟩

def lane128 : IVec L128 32 := iota .tc L128 32 [1]
def lane8 : IVec L8 32 := iota .tc L8 32 [1]

/-- The word each lane of plane `p` reads. -/
def laneWord {s : Shape} (lane : IVec s 32) (p : ℕ) : IVec s 32 :=
  addi (shrsi lane (broadcast s 3#32)) (broadcast s (BitVec.ofNat 32 (16 * p)))

/-- The bit offset of each lane's nibble, as the kernel computes it. -/
def laneShift {s : Shape} (lane : IVec s 32) : IVec s 32 :=
  addi (muli (broadcast s 2#32) (andi lane (broadcast s 7#32)))
    (muli (broadcast s 14#32) (andi (andi lane (broadcast s 7#32)) (broadcast s 1#32)))

/-- The words of a tile: every lane's own word, its top bit flipped, all but the lane's nibble masked off. -/
def wordsTile (p : ℕ) (w : IVec L128 32) : FVec Ideal L128 .f32 :=
  sitofp .f32 (andi (dynamicGather 1 (xori w (broadcast L128 2147483648#32))
      (shapeCast L128 (shapeCast ⟨3, ![128, 128, 1]⟩ (laneWord lane128 p) (by decide)) (by decide)))
    (shli (broadcast L128 15#32) (laneShift lane128)))

/-- The zero points of a plane, likewise. -/
def zerosTile (p : ℕ) (z : IVec L8 32) : FVec Ideal L8 .f32 :=
  sitofp .f32 (andi (dynamicGather 1 (xori z (broadcast L8 2147483648#32))
      (shapeCast L8 (shapeCast ⟨3, ![8, 128, 1]⟩ (laneWord lane8 p) (by decide)) (by decide)))
    (shli (broadcast L8 15#32) (laneShift lane8)))

/-- The scales of a plane, times the inverse power of two of each lane. -/
def scalesTile (s : FVec Ideal L8 .f32) : FVec Ideal L8 .f32 :=
  mulf s (bitcastToFloat .f32 (shli (subi (broadcast L8 127#32) (laneShift lane8)) (broadcast L8 23#32)))

/-- Row `g` of an 8-row block, on all 128 rows. -/
def rowOf (x : FVec Ideal L8 .f32) (g : ℕ) (h : L8.Slices ![g, 0] L1) : FVec Ideal L128 .f32 :=
  broadcastTo L128 (extractStridedSlice L1 ![g, 0] x h)

/-- The tile of plane `p` and row block `g`. -/
def tile (p g : ℕ) (h : L8.Slices ![g, 0] L1) (w : IVec L128 32) (z : IVec L8 32) (s : FVec Ideal L8 .f32) :
    FVec Ideal L128 .bf16 :=
  shapeCast L128 (truncf .bf16 (mulf (subf (wordsTile p w) (rowOf (zerosTile p z) g h)) (rowOf (scalesTile s) g h)) (by decide)) (by decide)

theorem shift_words : ∀ l : Fin 128, BitVec.ofNat 32 (shift (l % 8))
    = 2#32 * (BitVec.ofNat 32 l &&& 7#32) + 14#32 * (BitVec.ofNat 32 l &&& 7#32 &&& 1#32) := by decide +kernel

theorem word_index : ∀ (p : Fin 8) (l : Fin 128),
    ((BitVec.ofNat 32 l).sshiftRight' 3#32 + BitVec.ofNat 32 (16 * p)).toNat % 128 = 16 * p + l / 8 := by decide +kernel

/-- A left shift by less than a word's width. -/
theorem shl_lane {j : ℕ} (h : j < 8) : IntOp.shli .vector 15#32 (BitVec.ofNat 32 (shift j)) = 15#32 <<< shift j := by
  have := shift_lt h
  have e : (BitVec.ofNat 32 (shift j)).toNat = shift j := by rw [BitVec.toNat_ofNat]; omega
  unfold IntOp.shli
  rw [e, if_pos (by omega)]
  show 15#32 <<< (BitVec.ofNat 32 (shift j)).toNat = _
  rw [e]

theorem laneShift128 (r l : Fin 128) : laneShift lane128 (ix2 r l : L128.Idx) = BitVec.ofNat 32 (shift (l % 8)) := by
  rw [shift_words l]
  pointwise [laneShift, lane128, IntOp.addi, IntOp.muli, IntOp.andi]

theorem laneShift8 (r : Fin 8) (l : Fin 128) : laneShift lane8 (ix2 r l : L8.Idx) = BitVec.ofNat 32 (shift (l % 8)) := by
  rw [shift_words l]
  pointwise [laneShift, lane8, IntOp.addi, IntOp.muli, IntOp.andi]

theorem laneWord128 (p : Fin 8) (r l : Fin 128) :
    (laneWord lane128 p (ix2 r l : L128.Idx)).toNat % 128 = 16 * p + l / 8 := by
  rw [← word_index p l]
  pointwise [laneWord, lane128, IntOp.addi, IntOp.shrsi]

theorem laneWord8 (p : Fin 8) (r : Fin 8) (l : Fin 128) :
    (laneWord lane8 p (ix2 r l : L8.Idx)).toNat % 128 = 16 * p + l / 8 := by
  rw [← word_index p l]
  pointwise [laneWord, lane8, IntOp.addi, IntOp.shrsi]

/-- The lane's word as an index. -/
def wordOf (p : Fin 8) (l : Fin 128) : Fin 128 := ⟨16 * p + l / 8, by omega⟩

theorem wordsTile_apply (p : Fin 8) (w : IVec L128 32) (r l : Fin 128) :
    wordsTile p w (ix2 r l : L128.Idx)
      = (((w (ix2 r (wordOf p l) : L128.Idx) ^^^ 2147483648#32) &&& (15#32 <<< shift (l % 8))).toInt : ℝ) := by
  unfold wordsTile
  pointwise []
  rw [laneShift128]
  have hw : (⟨(laneWord lane128 (p : ℕ) (ix2 r l : L128.Idx)).toNat % 128, Nat.mod_lt _ (by decide)⟩ : Fin 128) = wordOf p l :=
    Fin.ext (laneWord128 p r l)
  erw [hw]
  rw [shl_lane (by omega)]
  rfl

theorem zerosTile_apply (p : Fin 8) (z : IVec L8 32) (g : Fin 8) (l : Fin 128) :
    zerosTile p z (ix2 g l : L8.Idx)
      = (((z (ix2 g (wordOf p l) : L8.Idx) ^^^ 2147483648#32) &&& (15#32 <<< shift (l % 8))).toInt : ℝ) := by
  unfold zerosTile
  pointwise []
  rw [laneShift8]
  have hw : (⟨(laneWord lane8 (p : ℕ) (ix2 g l : L8.Idx)).toNat % 128, Nat.mod_lt _ (by decide)⟩ : Fin 128) = wordOf p l :=
    Fin.ext (laneWord8 p g l)
  erw [hw]
  rw [shl_lane (by omega)]
  rfl

theorem scalesTile_apply (s : FVec Ideal L8 .f32) (g : Fin 8) (l : Fin 128) :
    scalesTile s (ix2 g l : L8.Idx)
      = s (ix2 g l : L8.Idx) * Ideal.ofBits .f32 ((127#32 - BitVec.ofNat 32 (shift (l % 8))) <<< 23) := by
  unfold scalesTile
  pointwise []
  rw [laneShift8]
  rfl

theorem rowOf_apply (x : FVec Ideal L8 .f32) (g : Fin 8) (h) (r l : Fin 128) :
    rowOf x g h (ix2 r l : L128.Idx) = x (ix2 g l : L8.Idx) := by
  unfold rowOf
  refine congrArg x (funext fun a => Fin.ext ?_)
  fin_cases a
  · rfl
  · show 0 + (l : ℕ) = l
    omega

/-- A tile at an index is the dequantized weight. -/
theorem tile_apply (p g : Fin 8) (h) (w : IVec L128 32) (z : IVec L8 32) (s : FVec Ideal L8 .f32) (r l : Fin 128) :
    tile p g h w z s (ix2 r l : L128.Idx)
      = weight (w (ix2 r (wordOf p l) : L128.Idx)) (z (ix2 g (wordOf p l) : L8.Idx)) (l % 8) (s (ix2 g l : L8.Idx)) := by
  unfold tile
  rw [shapeCast_self]
  show (wordsTile p w (ix2 r l : L128.Idx) - rowOf (zerosTile p z) g h (ix2 r l : L128.Idx)) * rowOf (scalesTile s) g h (ix2 r l : L128.Idx) = _
  rw [wordsTile_apply, rowOf_apply, rowOf_apply, zerosTile_apply, scalesTile_apply]
  exact weight_eq _ _ (by omega) _

/-- A block of 1024 rows and columns of packed words, of weights, and of its eight rows of scales. -/
abbrev LW : Shape := ⟨2, ![1024, 128]⟩
abbrev LS : Shape := ⟨2, ![8, 1024]⟩
abbrev LD : Shape := ⟨2, ![1024, 1024]⟩

theorem slices8 : ∀ g : Fin 8, L8.Slices ![(g : ℕ), 0] L1 := by decide
theorem inbTile : ∀ (p g : Fin 8) (a : Fin 2), (![128 * (g : ℕ), 128 * (p : ℕ)] : Fin 2 → ℕ) a + (![128, 128] : Fin 2 → ℕ) a ≤ LD.size a := by decide

/-- The 64 stores that fill the weight buffer, last first. -/
def tiles (w : Fin 8 → IVec L128 32) (z : IVec L8 32) (s : Fin 8 → FVec Ideal L8 .f32) : List (View.Piece (Elt Ideal) LD .bf16) :=
  ([7, 6, 5, 4, 3, 2, 1, 0] : List (Fin 8)).flatMap fun (p : Fin 8) => ([7, 6, 5, 4, 3, 2, 1, 0] : List (Fin 8)).map fun (g : Fin 8) =>
    ⟨Rect.unit ![128 * (g : ℕ), 128 * (p : ℕ)] ![128, 128] (inbTile p g), tile p g (slices8 g) (w g) z (s p)⟩

theorem inbW : ∀ (g : Fin 8) (a : Fin 2), (![128 * (g : ℕ), 0] : Fin 2 → ℕ) a + (![128, 128] : Fin 2 → ℕ) a ≤ LW.size a := by decide
theorem inbS : ∀ (p : Fin 8) (a : Fin 2), (![0, 128 * (p : ℕ)] : Fin 2 → ℕ) a + (![8, 128] : Fin 2 → ℕ) a ≤ LS.size a := by decide

/-- The weights a block of packed words stands for: eight nibbles to a word, a scale and a zero point for every 128 rows. -/
def dq (x : IVec LW 32) (z : IVec L8 32) (s : FVec Ideal LS .f32) : FVec Ideal LD .bf16 := fun i =>
  weight (x (ix2 (i 0) ⟨(i 1).val / 8, by have : (i 1).val < 1024 := (i 1).isLt; omega⟩ : LW.Idx))
    (z (ix2 ⟨(i 0).val / 128, by have : (i 0).val < 1024 := (i 0).isLt; omega⟩ ⟨(i 1).val / 8, by have : (i 1).val < 1024 := (i 1).isLt; omega⟩ : L8.Idx))
    ((i 1).val % 8)
    (s (ix2 ⟨(i 0).val / 128, by have : (i 0).val < 1024 := (i 0).isLt; omega⟩ (i 1) : LS.Idx))

/-- A tile of the block's words is the tile of the block's weights. -/
theorem tile_eq_dq (x : IVec LW 32) (z : IVec L8 32) (s : FVec Ideal LS .f32) (p g : Fin 8) (r l : Fin 128) :
    tile p g (slices8 g) (View.ld (Val := Elt Ideal) (e' := .i32) x (Rect.unit ![128 * (g : ℕ), 0] ![128, 128] (inbW g))) z
        (View.ld (Val := Elt Ideal) (e' := .f32) s (Rect.unit ![0, 128 * (p : ℕ)] ![8, 128] (inbS p))) (ix2 r l : L128.Idx)
      = dq x z s (ix2 ⟨128 * g + r, by omega⟩ ⟨128 * p + l, by omega⟩ : LD.Idx) := by
  rw [tile_apply]
  unfold dq
  have ex : (Rect.unit (s := LW) ![128 * (g : ℕ), 0] ![128, 128] (inbW g)).emb (ix2 r (wordOf p l) : L128.Idx)
      = (ix2 ⟨128 * g + r, by omega⟩ ⟨(128 * p + l) / 8, by omega⟩ : LW.Idx) := by
    funext a; apply Fin.ext; rw [Rect.emb_apply]; fin_cases a
    · simp [Rect.unit]
    · simp [Rect.unit, wordOf]; omega
  have es : (Rect.unit (s := LS) ![0, 128 * (p : ℕ)] ![8, 128] (inbS p)).emb (ix2 g l : L8.Idx)
      = (ix2 ⟨(128 * g + r) / 128, by omega⟩ ⟨128 * p + l, by omega⟩ : LS.Idx) := by
    funext a; apply Fin.ext; rw [Rect.emb_apply]; fin_cases a
    · simp [Rect.unit]; omega
    · simp [Rect.unit]
  have ez : (ix2 g (wordOf p l) : L8.Idx) = ix2 ⟨(128 * g + r) / 128, by omega⟩ ⟨(128 * p + l) / 8, by omega⟩ := by
    funext a; apply Fin.ext; fin_cases a
    · simp; omega
    · simp [wordOf]; omega
  have el : (l : ℕ) % 8 = (128 * p + l) % 8 := by omega
  show weight (x ((Rect.unit (s := LW) ![128 * (g : ℕ), 0] ![128, 128] (inbW g)).emb (ix2 r (wordOf p l) : L128.Idx)))
      (z (ix2 g (wordOf p l) : L8.Idx)) (l % 8)
      (s ((Rect.unit (s := LS) ![0, 128 * (p : ℕ)] ![8, 128] (inbS p)).emb (ix2 g l : L8.Idx)))
    = weight (x (ix2 ⟨128 * g + r, by omega⟩ ⟨(128 * p + l) / 8, by omega⟩ : LW.Idx))
      (z (ix2 ⟨(128 * g + r) / 128, by omega⟩ ⟨(128 * p + l) / 8, by omega⟩ : L8.Idx)) ((128 * p + l) % 8)
      (s (ix2 ⟨(128 * g + r) / 128, by omega⟩ ⟨128 * p + l, by omega⟩ : LS.Idx))
  rw [ex, es, ez, el]

/-- The 64 tiles together are the block's weights. -/
theorem canon_tiles (x : IVec LW 32) (z : IVec L8 32) (s : FVec Ideal LS .f32) :
    View.canon (tiles (fun g => View.ld (Val := Elt Ideal) (e' := .i32) x (Rect.unit ![128 * (g : ℕ), 0] ![128, 128] (inbW g))) z
      (fun p => View.ld (Val := Elt Ideal) (e' := .f32) s (Rect.unit ![0, 128 * (p : ℕ)] ![8, 128] (inbS p)))) = dq x z s := by
  funext y
  have all : ∀ k : Fin 8, k ∈ ([7, 6, 5, 4, 3, 2, 1, 0] : List (Fin 8)) := by decide
  refine View.canon_apply_of_pieces (Val := Elt Ideal) (e := .bf16) (dq x z s) _ ?_ y ?_
  · intro q hq j
    unfold tiles at hq
    obtain ⟨p, -, hq⟩ := List.mem_flatMap.1 hq
    obtain ⟨g, -, rfl⟩ := List.mem_map.1 hq
    have hj : j = (ix2 (j 0) (j 1) : L128.Idx) := by funext a; fin_cases a <;> rfl
    rw [hj]
    refine (tile_eq_dq x z s p g (j 0) (j 1)).trans (congrArg (dq x z s) ?_)
    funext a; apply Fin.ext; rw [Rect.emb_apply]; fin_cases a <;> simp [Rect.unit]
  · have h0 : (y 0).val < 1024 := (y 0).isLt
    have h1 : (y 1).val < 1024 := (y 1).isLt
    refine ⟨_, List.mem_flatMap.2 ⟨⟨(y 1).val / 128, by omega⟩, all _, List.mem_map.2 ⟨⟨(y 0).val / 128, by omega⟩, all _, rfl⟩⟩, ?_⟩
    refine (Rect.mem_set_unit (inb := inbTile ⟨(y 1).val / 128, by omega⟩ ⟨(y 0).val / 128, by omega⟩)).2 fun a => ?_
    fin_cases a
    · show 128 * ((y 0).val / 128) ≤ (y 0).val ∧ (y 0).val < 128 * ((y 0).val / 128) + 128
      omega
    · show 128 * ((y 1).val / 128) ≤ (y 1).val ∧ (y 1).val < 128 * ((y 1).val / 128) + 128
      omega

end Cert.Awq

end
-- ==== Proof.Weights.lean ====
/-
  The weights one grid point multiplies by. At each point the kernel fills a 1024 by 1024 scratch matrix with 64 tiles of
  dequantized weights and loads it whole; here the loaded matrix, in each case of the grid point, is the block's
  dequantized weight matrix `Awq.dq`. The gate matrix uses the first scratch, the up matrix the second.
-/
module

public import proofs.«01_k».proof.Proof.Tile
public import proofs.«01_k».proof.Proof.Gen.KernelIdeal.Frame

@[expose] public section

noncomputable section
namespace Cert.KernelIdeal.Gen
open Idealize.ShloMosaic Idealize.ShloMosaic.Pipeline Idealize.ShloMosaic.Tactic
open Cert.KernelIdeal Cert.Awq

theorem hz : (![0, 0] : Fin 2 → Nat) = fun _ => 0 := funext fun a => by fin_cases a <;> rfl

/-- A whole load after the 64 tile stores reads the dequantized block. -/
theorem load_tiles (v : View sig .tc .vmem S1024x1024 .bf16) (L : List (View.Piece (Elt Ideal) S1024x1024 .bf16))
    (inb : ∀ a, (![0, 0] : Fin 2 → Nat) a + S1024x1024.size a ≤ S1024x1024.size a)
    (x : Vec Ideal S1024x128 .i32) (z : Vec Ideal S8x128 .i32) (s : Vec Ideal S8x1024 .f32)
    (h : L = tiles (fun g => View.ld (Val := Elt Ideal) (e' := .i32) x (Rect.unit ![128 * (g : ℕ), 0] ![128, 128] (inbW g))) z
      (fun p => View.ld (Val := Elt Ideal) (e' := .f32) s (Rect.unit ![0, 128 * (p : ℕ)] ![8, 128] (inbS p)))) :
    v.readCov L (Rect.unit ![0, 0] S1024x1024.size inb).toLoadRect = dq x z s := by
  rw [View.readCov_eq_canon', h]
  have e := canon_tiles x z s
  rw [← e]
  funext j
  exact congrFun (View.ld_unit_zero (S := S1024x1024) hz inb _) j

variable (c : Dev nD) (a1 : Memref sig .tc .vmem S1024x128 .i32) (h1 : a1.IsWhole) (a2 : Memref sig .tc .vmem S8x128 .i32)
  (h2 : a2.IsWhole) (a3 : Memref sig .tc .vmem S8x1024 .f32) (h3 : a3.IsWhole) (a4 : Memref sig .tc .vmem S1024x1024 .bf16)
  (x : Vec Ideal S1024x128 .i32) (z : Vec Ideal S8x128 .i32) (s : Vec Ideal S8x1024 .f32)

set_option maxHeartbeats 400000 in
theorem gate_B : kernelRun0_B.sl.v3061 c a1 h1 a2 h2 a3 h3 a4 x z s = dq x z s := by
  unfold kernelRun0_B.sl.v3061
  refine load_tiles _ _ _ x z s ?_
  unfold kernelRun0_B.sl.HS0_64
  sl_unfold_words
  unfold_payloads
  simp only [View.readAt_eq_ld, h1.read_unread, h2.read_unread, h3.read_unread, View.ld_unit_zero (S := S8x128) hz]
  simp only [tiles, List.flatMap_cons, List.map_cons, List.map_nil, List.flatMap_nil, List.cons_append, List.nil_append,
    tile, wordsTile, zerosTile, scalesTile, rowOf, laneWord, laneShift, lane128, lane8]
  rfl

set_option maxHeartbeats 400000 in
theorem up_B : kernelRun0_B.sl.v3069 c a1 h1 a2 h2 a3 h3 a4 x z s = dq x z s := by
  unfold kernelRun0_B.sl.v3069
  refine load_tiles _ _ _ x z s ?_
  unfold kernelRun0_B.sl.HS1_64
  sl_unfold_words
  unfold_payloads
  simp only [View.readAt_eq_ld, h1.read_unread, h2.read_unread, h3.read_unread, View.ld_unit_zero (S := S8x128) hz]
  simp only [tiles, List.flatMap_cons, List.map_cons, List.map_nil, List.flatMap_nil, List.cons_append, List.nil_append,
    tile, wordsTile, zerosTile, scalesTile, rowOf, laneWord, laneShift, lane128, lane8]
  rfl

set_option maxHeartbeats 400000 in
theorem gate_A : kernelRun0_A.sl.v3061 c a1 h1 a2 h2 a3 h3 a4 x z s = dq x z s :=
  (rfl : _ = kernelRun0_B.sl.v3061 c a1 h1 a2 h2 a3 h3 a4 x z s).trans (gate_B c a1 h1 a2 h2 a3 h3 a4 x z s)

set_option maxHeartbeats 400000 in
theorem up_A : kernelRun0_A.sl.v3069 c a1 h1 a2 h2 a3 h3 a4 x z s = dq x z s :=
  (rfl : _ = kernelRun0_B.sl.v3069 c a1 h1 a2 h2 a3 h3 a4 x z s).trans (up_B c a1 h1 a2 h2 a3 h3 a4 x z s)

set_option maxHeartbeats 400000 in
theorem gate_C : kernelRun0_C.sl.v3061 c a1 h1 a2 h2 a3 h3 a4 x z s = dq x z s :=
  (rfl : _ = kernelRun0_B.sl.v3061 c a1 h1 a2 h2 a3 h3 a4 x z s).trans (gate_B c a1 h1 a2 h2 a3 h3 a4 x z s)

set_option maxHeartbeats 400000 in
theorem up_C : kernelRun0_C.sl.v3069 c a1 h1 a2 h2 a3 h3 a4 x z s = dq x z s :=
  (rfl : _ = kernelRun0_B.sl.v3069 c a1 h1 a2 h2 a3 h3 a4 x z s).trans (up_B c a1 h1 a2 h2 a3 h3 a4 x z s)

end Cert.KernelIdeal.Gen
-- ==== Proof.Case.lean ====
/-
  What one grid point leaves behind, in each case of the point: the first of a run of seven starts both accumulators from
  zero, every point adds the block of `x` times its dequantized block of weights, and the last one also writes the output
  block, the gate's sum times its logistic times the up sum.
-/
module

public import proofs.«01_k».proof.Proof.Weights
public import proofs.«01_k».proof.Proof.Gen.KernelIdeal.Value
import Idealize.ShloMosaic.Lib.Pointwise

@[expose] public section

noncomputable section
namespace Cert.KernelIdeal.Gen
open Idealize.ShloMosaic Idealize.ShloMosaic.Pipeline Idealize.ShloMosaic.Tactic Idealize.ShloMosaic.Pointwise
open Cert.KernelIdeal Cert.Awq

/-- One accumulation step: the accumulator plus the block of `x` times the block of weights. -/
def step (acc : Vec Ideal S2496x1024 .f32) (x : Vec Ideal S2496x1024 .bf16) (w : Vec Ideal S1024x1024 .bf16) :
    Vec Ideal S2496x1024 .f32 := k0_pay1 (F := Ideal) acc x w

/-- The step, read at an index. -/
theorem step_apply (acc : Vec Ideal S2496x1024 .f32) (x : Vec Ideal S2496x1024 .bf16) (w : Vec Ideal S1024x1024 .bf16)
    (j : S2496x1024.Idx) : step acc x w j = acc j + ∑ k : Fin 1024, x (ix2 (j 0) k) * w (ix2 k (j 1)) := by
  unfold step k0_pay1
  idx_vars j
  pointwise

/-- The zero accumulator. -/
def zacc : Vec Ideal S2496x1024 .f32 := k0_pay3 (F := Ideal)

theorem zacc_apply (j : S2496x1024.Idx) : zacc j = 0 := by
  unfold zacc k0_pay3
  idx_vars j
  pointwise

variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S1024x128 .i32) (harg6 : arg6.IsWhole) (arg7 : Memref sig .tc .vmem S8x128 .i32) (harg7 : arg7.IsWhole) (arg8 : Memref sig .tc .vmem S8x1024 .f32) (harg8 : arg8.IsWhole) (arg9 : Memref sig .tc .vmem S2496x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S2496x1024 .f32) (harg12 : arg12.IsWhole) (arg13 : Memref sig .tc .vmem S2496x1024 .f32) (harg13 : arg13.IsWhole)
    (x0 : Vec Ideal S2496x1024 .bf16) (x1 : Vec Ideal S1024x128 .i32) (x2 : Vec Ideal S8x128 .i32) (x3 : Vec Ideal S8x1024 .f32) (x4 : Vec Ideal S1024x128 .i32) (x5 : Vec Ideal S8x128 .i32) (x6 : Vec Ideal S8x1024 .f32) (xs2 xs3 : Vec Ideal S2496x1024 .f32)

theorem gateAcc_A (hc0 : cond0_0 i) (hc1 : ¬cond0_1 i) : sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = step zacc x0 (dq x1 x2 x3) := by
  unfold sout0_A_2; rw [View.read_writes_junk_eq_canon]; unfold kernelRun0_A; dsimp only
  rw [View.canon_cons_unit_zero (S := S2496x1024) hz, gate_A]
  unfold kernelRun0_A.sl.v3059 kernelRun0_A.sl.HS2_1
  rw [View.readCov_unit_zero (S := S2496x1024) _ hz, View.readAt_eq_ld, harg2.read_unread, View.ld_unit_zero (S := S2496x1024) hz]
  rfl

theorem upAcc_A (hc0 : cond0_0 i) (hc1 : ¬cond0_1 i) : sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = step zacc x0 (dq x4 x5 x6) := by
  unfold sout0_A_3; rw [View.read_writes_junk_eq_canon]; unfold kernelRun0_A; dsimp only
  rw [View.canon_cons_unit_zero (S := S2496x1024) hz, up_A]
  unfold kernelRun0_A.sl.v3067 kernelRun0_A.sl.HS3_1
  rw [View.readCov_unit_zero (S := S2496x1024) _ hz, View.readAt_eq_ld, harg2.read_unread, View.ld_unit_zero (S := S2496x1024) hz]
  rfl

theorem gateAcc_B (hc0 : ¬cond0_0 i) (hc1 : ¬cond0_1 i) : sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3 = step xs2 x0 (dq x1 x2 x3) := by
  unfold sout0_B_2; rw [View.read_writes_junk_eq_canon]; unfold kernelRun0_B; dsimp only
  rw [View.canon_unit_zero (S := S2496x1024) hz, gate_B]
  simp only [View.readAt_eq_ld, harg2.read_unread, harg12.read_unread, View.ld_unit_zero (S := S2496x1024) hz]
  rfl

theorem upAcc_B (hc0 : ¬cond0_0 i) (hc1 : ¬cond0_1 i) : sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3 = step xs3 x0 (dq x4 x5 x6) := by
  unfold sout0_B_3; rw [View.read_writes_junk_eq_canon]; unfold kernelRun0_B; dsimp only
  rw [View.canon_unit_zero (S := S2496x1024) hz, up_B]
  simp only [View.readAt_eq_ld, harg2.read_unread, harg13.read_unread, View.ld_unit_zero (S := S2496x1024) hz]
  rfl

theorem gateAcc_C : kernelRun0_C.sl.v3078 c arg2 harg2 arg3 harg3 arg4 harg4 arg5 harg5 arg10 arg12 harg12 x0 x1 x2 x3 xs2 = step xs2 x0 (dq x1 x2 x3) := by
  unfold kernelRun0_C.sl.v3078 kernelRun0_C.sl.HS2_1
  rw [View.readCov_unit_zero (S := S2496x1024) _ hz, gate_C]
  simp only [View.readAt_eq_ld, harg2.read_unread, harg12.read_unread, View.ld_unit_zero (S := S2496x1024) hz]
  rfl

theorem upAcc_C : kernelRun0_C.sl.v3081 c arg2 harg2 arg6 harg6 arg7 harg7 arg8 harg8 arg11 arg13 harg13 x0 x4 x5 x6 xs3 = step xs3 x0 (dq x4 x5 x6) := by
  unfold kernelRun0_C.sl.v3081 kernelRun0_C.sl.HS3_1
  rw [View.readCov_unit_zero (S := S2496x1024) _ hz, up_C]
  simp only [View.readAt_eq_ld, harg2.read_unread, harg13.read_unread, View.ld_unit_zero (S := S2496x1024) hz]
  rfl

/-- The output block of the run's last point. -/
theorem out_C (hc0 : ¬cond0_0 i) (hc1 : cond0_1 i) : out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3
    = k0_pay2 (F := Ideal) (step xs2 x0 (dq x1 x2 x3)) (step xs3 x0 (dq x4 x5 x6)) := by
  unfold out0_C_7; rw [View.read_writes_junk_eq_canon]; unfold kernelRun0_C; dsimp only
  rw [View.canon_unit_zero (S := S2496x1024) hz, gateAcc_C, upAcc_C]

/-- The output block, read at an index. -/
theorem outv_apply (g u : Vec Ideal S2496x1024 .f32) (j : S2496x1024.Idx) :
    k0_pay2 (F := Ideal) g u j = g j * Ideal.logistic (g j) * u j := by
  unfold k0_pay2
  idx_vars j
  pointwise

end Cert.KernelIdeal.Gen
-- ==== Proof.Sum.lean ====
/-
  The sums of the matrix products: one term of a dot product with dequantized weights, and the partial sums over the depth
  that the kernel's blocks of 1024 build up one after the other.
-/
module

public import proofs.«01_k».proof.Proof.Tile
public import Idealize.ShloMosaic.Lib.Pointwise

@[expose] public section

noncomputable section
namespace Cert.Awq
open Idealize.ShloMosaic Idealize.ShloMosaic.Pointwise

/-- The weight in row `k` and column `n`: eight columns share a word, 128 rows share a zero point and a scale. -/
def wAt {K C G N : ℕ} (w : IVec (⟨2, ![K, C]⟩ : Shape) 32) (z : IVec (⟨2, ![G, C]⟩ : Shape) 32)
    (s : FVec Ideal (⟨2, ![G, N]⟩ : Shape) .f32) (hC : N = 8 * C) (hG : K = 128 * G) (k : Fin K) (n : Fin N) : EReal :=
  weight (w (ix2 k ⟨(n : ℕ) / 8, by omega⟩)) (z (ix2 ⟨(k : ℕ) / 128, by omega⟩ ⟨(n : ℕ) / 8, by omega⟩)) ((n : ℕ) % 8)
    (s (ix2 ⟨(k : ℕ) / 128, by omega⟩ n))

/-- One term of the dot product of row `i` of `x` with column `n` of the weights. -/
def dotAt {R K C G N : ℕ} (x : FVec Ideal (⟨2, ![R, K]⟩ : Shape) .bf16) (w : IVec (⟨2, ![K, C]⟩ : Shape) 32)
    (z : IVec (⟨2, ![G, C]⟩ : Shape) 32) (s : FVec Ideal (⟨2, ![G, N]⟩ : Shape) .f32) (hC : N = 8 * C) (hG : K = 128 * G)
    (i : Fin R) (n : Fin N) (k : Fin K) : EReal :=
  x (ix2 i k) * wAt w z s hC hG k n

/-- A product inside a block is a term of the whole dot product: the block in block row `r` and block column `q`. -/
theorem term_block {R K C G N : ℕ} (X : FVec Ideal (⟨2, ![R, K]⟩ : Shape) .bf16) (W : IVec (⟨2, ![K, C]⟩ : Shape) 32)
    (Z : IVec (⟨2, ![G, C]⟩ : Shape) 32) (S : FVec Ideal (⟨2, ![G, N]⟩ : Shape) .f32) (hC : N = 8 * C) (hG : K = 128 * G)
    (r q : ℕ) (hr : 8 * r + 8 ≤ G) (hq : 128 * q + 128 ≤ C)
    (x : FVec Ideal (⟨2, ![R, 1024]⟩ : Shape) .bf16) (w : IVec LW 32) (z : IVec L8 32) (s : FVec Ideal LS .f32)
    (hx : ∀ (i : Fin R) (k : Fin 1024), x (ix2 i k) = X (ix2 i ⟨1024 * r + k, by omega⟩))
    (hw : ∀ (k : Fin 1024) (l : Fin 128), w (ix2 k l) = W (ix2 ⟨1024 * r + k, by omega⟩ ⟨128 * q + l, by omega⟩))
    (hz : ∀ (k : Fin 8) (l : Fin 128), z (ix2 k l) = Z (ix2 ⟨8 * r + k, by omega⟩ ⟨128 * q + l, by omega⟩))
    (hs : ∀ (k : Fin 8) (l : Fin 1024), s (ix2 k l) = S (ix2 ⟨8 * r + k, by omega⟩ ⟨1024 * q + l, by omega⟩))
    (i : Fin R) (k l : Fin 1024) :
    x (ix2 i k) * dq w z s (ix2 k l)
      = dotAt X W Z S hC hG i ⟨1024 * q + l, by omega⟩ ⟨1024 * r + k, by omega⟩ := by
  have e : dq w z s (ix2 k l) = weight (w (ix2 k ⟨l.val / 8, by omega⟩)) (z (ix2 ⟨k.val / 128, by omega⟩ ⟨l.val / 8, by omega⟩))
      (l.val % 8) (s (ix2 ⟨k.val / 128, by omega⟩ l)) := rfl
  rw [e, hx, hw, hz, hs]
  unfold dotAt wAt
  have h1 : (1024 * q + l.val) / 8 = 128 * q + l.val / 8 := by omega
  have h2 : (1024 * r + k.val) / 128 = 8 * r + k.val / 128 := by omega
  have h3 : (1024 * q + l.val) % 8 = l.val % 8 := by omega
  simp only [h1, h2, h3]

/-- The gated product: the gate times its logistic times the other factor. -/
def swiglu (g u : EReal) : EReal := g * Ideal.logistic g * u

/-- The sum of the first `n` terms. -/
def psum {K : ℕ} (f : Fin K → EReal) (n : ℕ) : EReal := ∑ k ∈ Finset.range n, if h : k < K then f ⟨k, h⟩ else 0

theorem psum_zero {K : ℕ} (f : Fin K → EReal) : psum f 0 = 0 := Finset.sum_range_zero _

theorem psum_all {K : ℕ} (f : Fin K → EReal) : psum f K = ∑ k, f k := by
  unfold psum
  rw [Finset.sum_range]
  exact Finset.sum_congr rfl fun k _ => dif_pos k.isLt

/-- A block of `b` further terms. -/
theorem psum_add {K : ℕ} (f : Fin K → EReal) (a b : ℕ) (h : a + b ≤ K) :
    psum f (a + b) = psum f a + ∑ k : Fin b, f ⟨a + k, by omega⟩ := by
  unfold psum
  rw [Finset.sum_range_add]
  congr 1
  rw [Finset.sum_range]
  exact Finset.sum_congr rfl fun k _ => dif_pos (by omega)

end Cert.Awq

end
-- ==== Proof.Fold.lean ====
/-
  What the kernel's result array holds. The grid walks twenty column blocks, and for each of them seven depth blocks of
  1024: after the r-th of these the two accumulators hold the dot products over the first 1024 (r + 1) rows of the
  weights, and the last one writes the gated product of the two whole sums.
-/
module

public import proofs.«01_k».proof.Proof.Case
public import proofs.«01_k».proof.Proof.Sum

@[expose] public section

noncomputable section
namespace Cert.KernelIdeal.Value
open Idealize.ShloMosaic Idealize.ShloMosaic.Pipeline Idealize.ShloMosaic.TcCoe Idealize.ShloMosaic.Pointwise
open Cert.KernelIdeal Cert.KernelIdeal.Gen Cert.Awq

variable (m : (ℓ : Loc nD τ sig) → Buf (Elt Ideal) ℓ) (c : Dev nD)

/-- The block each window shows at a grid point. -/
theorem idx : ∀ t : Fin cfg0.N, win0_0.index t = ![0, t.val % 7] ∧ win0_1.index t = ![t.val % 7, t.val / 7]
    ∧ win0_2.index t = ![t.val % 7, t.val / 7] ∧ win0_3.index t = ![t.val % 7, t.val / 7]
    ∧ win0_4.index t = ![t.val % 7, t.val / 7] ∧ win0_5.index t = ![t.val % 7, t.val / 7]
    ∧ win0_6.index t = ![t.val % 7, t.val / 7] := (by decide +kernel : ∀ t : Fin grid0.N, _)

theorem lt_N (t : Fin cfg0.N) : t.val < 140 := lt_of_lt_of_eq t.isLt (show cfg0.N = 140 from N_0)

/-- The blocks of the arguments that a grid point works on. -/
abbrev xB (t : Fin cfg0.N) : FVec Ideal S2496x1024 .bf16 := iblk m c 0 t
abbrev gwB (t : Fin cfg0.N) : IVec S1024x128 32 := iblk m c 1 t
abbrev gzB (t : Fin cfg0.N) : IVec S8x128 32 := iblk m c 2 t
abbrev gsB (t : Fin cfg0.N) : FVec Ideal S8x1024 .f32 := iblk m c 3 t
abbrev uwB (t : Fin cfg0.N) : IVec S1024x128 32 := iblk m c 4 t
abbrev uzB (t : Fin cfg0.N) : IVec S8x128 32 := iblk m c 5 t
abbrev usB (t : Fin cfg0.N) : FVec Ideal S8x1024 .f32 := iblk m c 6 t

theorem x_blk (t : Fin cfg0.N) (i : Fin 2496) (k : Fin 1024) :
    xB m c t (ix2 i k)
      = (m ((c : Thread nD τ).loc main_arg0) : FVec Ideal S2496x7168 .bf16) (ix2 i ⟨1024 * (t.val % 7) + k, by omega⟩) := by
  have h := (idx t).1
  unfold xB iblk
  rw [View.read_apply]
  show V m c main_arg0 _ = _
  unfold V
  congr 1
  funext a
  apply Fin.ext
  match a with
  | ⟨0, _⟩ => show win0_0.index t 0 * 2496 + 1 * i.val = i.val; rw [h]; simp
  | ⟨1, _⟩ => show win0_0.index t 1 * 1024 + 1 * k.val = 1024 * (t.val % 7) + k.val; rw [h]; simp; omega

theorem blk1 (t : Fin cfg0.N) (k : Fin 1024) (l : Fin 128) :
    gwB m c t (ix2 k l)
      = (m ((c : Thread nD τ).loc main_arg1) : IVec S7168x2560 32) (ix2 ⟨1024 * (t.val % 7) + k, by omega⟩
          ⟨128 * (t.val / 7) + l, by have := lt_N t; omega⟩) := by
  have h := (idx t).2.1
  unfold gwB iblk
  rw [View.read_apply]
  show V m c main_arg1 _ = _
  unfold V
  congr 1
  funext a
  apply Fin.ext
  match a with
  | ⟨0, _⟩ => show win0_1.index t 0 * 1024 + 1 * k.val = 1024 * (t.val % 7) + k.val; rw [h]; simp; omega
  | ⟨1, _⟩ => show win0_1.index t 1 * 128 + 1 * l.val = 128 * (t.val / 7) + l.val; rw [h]; simp; omega

theorem blk2 (t : Fin cfg0.N) (k : Fin 8) (l : Fin 128) :
    gzB m c t (ix2 k l)
      = (m ((c : Thread nD τ).loc main_arg2) : IVec S56x2560 32) (ix2 ⟨8 * (t.val % 7) + k, by omega⟩
          ⟨128 * (t.val / 7) + l, by have := lt_N t; omega⟩) := by
  have h := (idx t).2.2.1
  unfold gzB iblk
  rw [View.read_apply]
  show V m c main_arg2 _ = _
  unfold V
  congr 1
  funext a
  apply Fin.ext
  match a with
  | ⟨0, _⟩ => show win0_2.index t 0 * 8 + 1 * k.val = 8 * (t.val % 7) + k.val; rw [h]; simp; omega
  | ⟨1, _⟩ => show win0_2.index t 1 * 128 + 1 * l.val = 128 * (t.val / 7) + l.val; rw [h]; simp; omega

theorem blk3 (t : Fin cfg0.N) (k : Fin 8) (l : Fin 1024) :
    gsB m c t (ix2 k l)
      = (m ((c : Thread nD τ).loc main_arg3) : FVec Ideal S56x20480 .f32) (ix2 ⟨8 * (t.val % 7) + k, by omega⟩
          ⟨1024 * (t.val / 7) + l, by have := lt_N t; omega⟩) := by
  have h := (idx t).2.2.2.1
  unfold gsB iblk
  rw [View.read_apply]
  show V m c main_arg3 _ = _
  unfold V
  congr 1
  funext a
  apply Fin.ext
  match a with
  | ⟨0, _⟩ => show win0_3.index t 0 * 8 + 1 * k.val = 8 * (t.val % 7) + k.val; rw [h]; simp; omega
  | ⟨1, _⟩ => show win0_3.index t 1 * 1024 + 1 * l.val = 1024 * (t.val / 7) + l.val; rw [h]; simp; omega

theorem blk4 (t : Fin cfg0.N) (k : Fin 1024) (l : Fin 128) :
    uwB m c t (ix2 k l)
      = (m ((c : Thread nD τ).loc main_arg4) : IVec S7168x2560 32) (ix2 ⟨1024 * (t.val % 7) + k, by omega⟩
          ⟨128 * (t.val / 7) + l, by have := lt_N t; omega⟩) := by
  have h := (idx t).2.2.2.2.1
  unfold uwB iblk
  rw [View.read_apply]
  show V m c main_arg4 _ = _
  unfold V
  congr 1
  funext a
  apply Fin.ext
  match a with
  | ⟨0, _⟩ => show win0_4.index t 0 * 1024 + 1 * k.val = 1024 * (t.val % 7) + k.val; rw [h]; simp; omega
  | ⟨1, _⟩ => show win0_4.index t 1 * 128 + 1 * l.val = 128 * (t.val / 7) + l.val; rw [h]; simp; omega

theorem blk5 (t : Fin cfg0.N) (k : Fin 8) (l : Fin 128) :
    uzB m c t (ix2 k l)
      = (m ((c : Thread nD τ).loc main_arg5) : IVec S56x2560 32) (ix2 ⟨8 * (t.val % 7) + k, by omega⟩
          ⟨128 * (t.val / 7) + l, by have := lt_N t; omega⟩) := by
  have h := (idx t).2.2.2.2.2.1
  unfold uzB iblk
  rw [View.read_apply]
  show V m c main_arg5 _ = _
  unfold V
  congr 1
  funext a
  apply Fin.ext
  match a with
  | ⟨0, _⟩ => show win0_5.index t 0 * 8 + 1 * k.val = 8 * (t.val % 7) + k.val; rw [h]; simp; omega
  | ⟨1, _⟩ => show win0_5.index t 1 * 128 + 1 * l.val = 128 * (t.val / 7) + l.val; rw [h]; simp; omega

theorem blk6 (t : Fin cfg0.N) (k : Fin 8) (l : Fin 1024) :
    usB m c t (ix2 k l)
      = (m ((c : Thread nD τ).loc main_arg6) : FVec Ideal S56x20480 .f32) (ix2 ⟨8 * (t.val % 7) + k, by omega⟩
          ⟨1024 * (t.val / 7) + l, by have := lt_N t; omega⟩) := by
  have h := (idx t).2.2.2.2.2.2
  unfold usB iblk
  rw [View.read_apply]
  show V m c main_arg6 _ = _
  unfold V
  congr 1
  funext a
  apply Fin.ext
  match a with
  | ⟨0, _⟩ => show win0_6.index t 0 * 8 + 1 * k.val = 8 * (t.val % 7) + k.val; rw [h]; simp; omega
  | ⟨1, _⟩ => show win0_6.index t 1 * 1024 + 1 * l.val = 1024 * (t.val / 7) + l.val; rw [h]; simp; omega

/-- The terms of the gate's dot product for row `i` and column `n`. -/
def gateAt (i : Fin 2496) (n : Fin 20480) (k : Fin 7168) : EReal :=
  dotAt (m ((c : Thread nD τ).loc main_arg0)) (m ((c : Thread nD τ).loc main_arg1)) (m ((c : Thread nD τ).loc main_arg2))
    (m ((c : Thread nD τ).loc main_arg3)) (by norm_num) (by norm_num) i n k

/-- The terms of the up dot product for row `i` and column `n`. -/
def upAt (i : Fin 2496) (n : Fin 20480) (k : Fin 7168) : EReal :=
  dotAt (m ((c : Thread nD τ).loc main_arg0)) (m ((c : Thread nD τ).loc main_arg4)) (m ((c : Thread nD τ).loc main_arg5))
    (m ((c : Thread nD τ).loc main_arg6)) (by norm_num) (by norm_num) i n k

/-- The column of the array that column `l` of a block is. -/
def col (t : Fin cfg0.N) (l : Fin 1024) : Fin 20480 := ⟨1024 * (t.val / 7) + l, by have := lt_N t; omega⟩

theorem gate_term (t : Fin cfg0.N) (i : Fin 2496) (l : Fin 1024) (k : Fin 1024) :
    xB m c t (ix2 i k) * dq (gwB m c t) (gzB m c t) (gsB m c t) (ix2 k l)
      = gateAt m c i (col t l) ⟨1024 * (t.val % 7) + k, by omega⟩ := by
  have h := lt_N t
  exact term_block _ _ _ _ _ _ (t.val % 7) (t.val / 7) (by omega) (by omega) _ _ _ _ (x_blk m c t) (blk1 m c t) (blk2 m c t) (blk3 m c t) i k l

theorem up_term (t : Fin cfg0.N) (i : Fin 2496) (l : Fin 1024) (k : Fin 1024) :
    xB m c t (ix2 i k) * dq (uwB m c t) (uzB m c t) (usB m c t) (ix2 k l)
      = upAt m c i (col t l) ⟨1024 * (t.val % 7) + k, by omega⟩ := by
  have h := lt_N t
  exact term_block _ _ _ _ _ _ (t.val % 7) (t.val / 7) (by omega) (by omega) _ _ _ _ (x_blk m c t) (blk4 m c t) (blk5 m c t) (blk6 m c t) i k l

/-- A step from the sum over the first depth blocks reaches the sum over one block more. -/
theorem gate_step (t : Fin cfg0.N) (acc : Vec Ideal S2496x1024 .f32) (j : S2496x1024.Idx)
    (h : acc j = psum (gateAt m c (j 0) (col t (j 1))) (1024 * (t.val % 7))) :
    step acc (xB m c t) (dq (gwB m c t) (gzB m c t) (gsB m c t)) j
      = psum (gateAt m c (j 0) (col t (j 1))) (1024 * (t.val % 7) + 1024) := by
  rw [step_apply, psum_add _ _ _ (by omega), h]
  exact congrArg _ (Finset.sum_congr rfl fun k _ => gate_term m c t (j 0) (j 1) k)

theorem up_step (t : Fin cfg0.N) (acc : Vec Ideal S2496x1024 .f32) (j : S2496x1024.Idx)
    (h : acc j = psum (upAt m c (j 0) (col t (j 1))) (1024 * (t.val % 7))) :
    step acc (xB m c t) (dq (uwB m c t) (uzB m c t) (usB m c t)) j
      = psum (upAt m c (j 0) (col t (j 1))) (1024 * (t.val % 7) + 1024) := by
  rw [step_apply, psum_add _ _ _ (by omega), h]
  exact congrArg _ (Finset.sum_congr rfl fun k _ => up_term m c t (j 0) (j 1) k)

/-- What the two accumulators hold after a point that does not end a column block. -/
theorem acc_eq (n : ℕ) : ∀ (hn : n < cfg0.N), n % 7 ≠ 6 → ∀ j : S2496x1024.Idx,
    (outsAt0 m c n hn).2.1 j = psum (gateAt m c (j 0) (col ⟨n, hn⟩ (j 1))) (1024 * (n % 7) + 1024)
    ∧ (outsAt0 m c n hn).2.2 j = psum (upAt m c (j 0) (col ⟨n, hn⟩ (j 1))) (1024 * (n % 7) + 1024) := by
  induction n with
  | zero =>
    intro hn _ j
    rw [outsAt0_A m c ⟨0, hn⟩ (Nat.zero_mod _) (by show ¬ 0 % 7 = 6; decide)]
    dsimp only
    rw [gateAcc_A, upAcc_A]
    exact ⟨gate_step m c ⟨0, hn⟩ _ j (by rw [zacc_apply]; exact (psum_zero _).symm), up_step m c ⟨0, hn⟩ _ j (by rw [zacc_apply]; exact (psum_zero _).symm)⟩
  | succ n ih =>
    intro hn h6 j
    by_cases h0 : (n + 1) % 7 = 0
    · rw [outsAt0_A m c ⟨n + 1, hn⟩ h0 h6]
      dsimp only
      rw [gateAcc_A, upAcc_A]
      have hz : 1024 * ((n + 1) % 7) = 0 := by rw [h0]
      exact ⟨gate_step m c ⟨n + 1, hn⟩ _ j (by dsimp only; rw [zacc_apply, hz]; exact (psum_zero _).symm),
        up_step m c ⟨n + 1, hn⟩ _ j (by dsimp only; rw [zacc_apply, hz]; exact (psum_zero _).symm)⟩
    · rw [outsAt0_B m c ⟨n + 1, hn⟩ h0 h6]
      dsimp only
      rw [gateAcc_B, upAcc_B]
      have hi := ih (Nat.lt_of_succ_lt hn) (by omega) j
      have hc : col ⟨n + 1, hn⟩ (j 1) = col ⟨n, Nat.lt_of_succ_lt hn⟩ (j 1) := by
        apply Fin.ext; show 1024 * ((n + 1) / 7) + _ = 1024 * (n / 7) + _; omega
      have hk : 1024 * ((n + 1) % 7) = 1024 * (n % 7) + 1024 := by omega
      exact ⟨gate_step m c ⟨n + 1, hn⟩ _ j (by rw [hc]; dsimp only; rw [hk]; exact hi.1),
        up_step m c ⟨n + 1, hn⟩ _ j (by rw [hc]; dsimp only; rw [hk]; exact hi.2)⟩

/-- What the last point of a column block writes. -/
theorem out_eq (t : Fin cfg0.N) (h6 : t.val % 7 = 6) (j : S2496x1024.Idx) :
    (outsAt0 m c t.val t.isLt).1 j
      = swiglu (∑ k, gateAt m c (j 0) (col t (j 1)) k) (∑ k, upAt m c (j 0) (col t (j 1)) k) := by
  have h0 : ¬ t.val % 7 = 0 := by omega
  rw [outsAt0_C m c t h0 h6]
  dsimp only
  rw [out_C, outv_apply]
  have hi := acc_eq m c (t.val - 1) (Nat.lt_of_le_of_lt (Nat.sub_le _ _) t.isLt) (by omega) j
  have hc : col t (j 1) = col ⟨t.val - 1, Nat.lt_of_le_of_lt (Nat.sub_le _ _) t.isLt⟩ (j 1) := by
    apply Fin.ext; show 1024 * (t.val / 7) + _ = 1024 * ((t.val - 1) / 7) + _; omega
  have hk : 1024 * (t.val % 7) = 1024 * ((t.val - 1) % 7) + 1024 := by omega
  have hg := gate_step m c t (outsAt0 m c (t.val - 1) (Nat.lt_of_le_of_lt (Nat.sub_le _ _) t.isLt)).2.1 j
    (by rw [hc, hk]; exact hi.1)
  have hu := up_step m c t (outsAt0 m c (t.val - 1) (Nat.lt_of_le_of_lt (Nat.sub_le _ _) t.isLt)).2.2 j
    (by rw [hc, hk]; exact hi.2)
  have hK : 1024 * (t.val % 7) + 1024 = 7168 := by omega
  rw [hK, psum_all] at hg hu
  unfold swiglu
  rw [← hg, ← hu]

/-- THE RESULT at an index: the gated product of the two dot products over the whole depth. -/
theorem G7_apply (i : Fin 2496) (n : Fin 20480) :
    (G7 m c : FVec Ideal S2496x20480 .bf16) (ix2 i n) = swiglu (∑ k, gateAt m c i n k) (∑ k, upAt m c i n k) := by
  have hN : cfg0.N = 140 := N_0
  have hp : pt7Of (ix2 i n) = 7 * (n.val / 1024) + 6 := by
    show 7 * (20 * (i.val / 2496 - 0) + 1 * (n.val / 1024 - 0)) + 6 = _; omega
  have hlt : pt7Of (ix2 i n) < cfg0.N := by rw [hp, hN]; omega
  unfold G7
  rw [dif_pos hlt, ← outsAt0_sweep m c _ hlt]
  have h6 : pt7Of (ix2 i n) % 7 = 6 := by rw [hp]; omega
  refine (out_eq m c ⟨pt7Of (ix2 i n), hlt⟩ h6 (loc7Of (ix2 i n))).trans ?_
  have e0 : (loc7Of (ix2 i n) 0 : Fin 2496) = i := Fin.ext (show i.val % 2496 = i.val by omega)
  have e1 : col ⟨pt7Of (ix2 i n), hlt⟩ (loc7Of (ix2 i n) 1) = n :=
    Fin.ext (show 1024 * (pt7Of (ix2 i n) / 7) + n.val % 1024 = n.val by rw [hp]; omega)
  rw [e1]
  exact congrArg (fun a : Fin 2496 => swiglu (∑ k, gateAt m c a n k) (∑ k, upAt m c a n k)) e0

end Cert.KernelIdeal.Value

end
-- ==== Proof.Ref.lean ====
/-
  The reference, read at an index: an output entry is the gate's dot product times its logistic times the up dot product,
  each over the whole depth of 7168 with the plain dequantized weights.
-/
module

public import proofs.«01_k».proof.Proof.Sum
public import proofs.«01_k».proof.Proof.Gen.ReferenceIdeal.Run
import Idealize.ShloMosaic.Lib.Pointwise

@[expose] public section

noncomputable section
namespace Cert.ReferenceIdeal.Value
open Idealize.ShloMosaic Idealize.ShloMosaic.Pointwise
open Cert.ReferenceIdeal Cert.ReferenceIdeal.Gen Cert.Awq

/-- The reference's dequantized weight matrix. -/
def wmat (w : IVec S7168x2560 32) (z : IVec S56x2560 32) (s : FVec Ideal S56x20480 .f32) : FVec Ideal S7168x20480 .bf16 :=
  shapeCast _ (truncf .bf16 (mulf (sitofp .f32 (subi (shapeCast _ (andi (Host.shrsi (broadcastInDim S7168x2560x8 ![0, 1, 2] bcast_S7168x2560x1_S7168x2560x8_0_1_2 (broadcastInDim S7168x2560x1 ![0, 1] bcast_S7168x2560_S7168x2560x1_0_1 w)) (broadcastInDim S7168x2560x8 ![0, 1, 2] bcast_S1x1x8_S7168x2560x8_0_1_2 (broadcastInDim S1x1x8 ![2] bcast_S8_S1x1x8_2 ((fun i => lit0 (S8.rowMajor i)))))) (broadcastInDim S7168x2560x8 ![] bcast_S_S7168x2560x8 (constantI S_ 32 15#32))) shapeCasts_S7168x2560x8_S56x128x2560x8) (broadcastInDim S56x128x2560x8 ![0, 1, 2, 3] bcast_S56x1x2560x8_S56x128x2560x8_0_1_2_3 (broadcastInDim S56x1x2560x8 ![0, 2, 3] bcast_S56x2560x8_S56x1x2560x8_0_2_3 (andi (Host.shrsi (broadcastInDim S56x2560x8 ![0, 1, 2] bcast_S56x2560x1_S56x2560x8_0_1_2 (broadcastInDim S56x2560x1 ![0, 1] bcast_S56x2560_S56x2560x1_0_1 z)) (broadcastInDim S56x2560x8 ![0, 1, 2] bcast_S1x1x8_S56x2560x8_0_1_2 (broadcastInDim S1x1x8 ![2] bcast_S8_S1x1x8_2 ((fun i => lit0 (S8.rowMajor i)))))) (broadcastInDim S56x2560x8 ![] bcast_S_S56x2560x8 (constantI S_ 32 15#32))))))) (broadcastInDim S56x128x2560x8 ![0, 1, 2, 3] bcast_S56x1x2560x8_S56x128x2560x8_0_1_2_3 (shapeCast _ s shapeCasts_S56x20480_S56x1x2560x8))) bitsLt_bf16_f32) shapeCasts_S56x128x2560x8_S7168x20480

theorem lit0_eq : ∀ k : Fin 8, lit0 k = BitVec.ofNat 32 (shift k) := by decide

theorem lane_eq (j : Fin 8) : lit0 (S8.rowMajor (ix1 j)) = BitVec.ofNat 32 (shift j) := by
  rw [show S8.rowMajor (ix1 j) = j from Fin.ext (Shape.rowMajor_val_one _)]
  exact lit0_eq j

theorem wmat_apply (w : IVec S7168x2560 32) (z : IVec S56x2560 32) (s : FVec Ideal S56x20480 .f32) (k : Fin 7168) (n : Fin 20480) :
    wmat w z s (ix2 k n) = wAt w z s (by norm_num) (by norm_num) k n := by
  unfold wmat wAt
  pointwise
  have h8 : (n : ℕ) % 8 < 8 := Nat.mod_lt _ (by decide)
  have e : lit0 (S8.rowMajor (ix1 ⟨(n : ℕ) % 8, h8⟩)) = BitVec.ofNat 32 (shift ((n : ℕ) % 8)) := lane_eq _
  simp only [e, nib_shr _ _ h8]
  rfl

/-- The result at an index, with the weights named. -/
theorem res_apply (m : (ℓ : Loc nD τ sig) → Buf (Elt Ideal) ℓ) (c : Dev nD) (i : Fin 2496) (n : Fin 20480) :
    res_out0 (F := Ideal) m c (ix2 i n)
      = swiglu (∑ k : Fin 7168, dotAt (m ((c.tc : Thread nD τ).loc main_arg0)) (m ((c.tc : Thread nD τ).loc main_arg1)) (m ((c.tc : Thread nD τ).loc main_arg2)) (m ((c.tc : Thread nD τ).loc main_arg3)) (by norm_num) (by norm_num) i n k)
          (∑ k : Fin 7168, dotAt (m ((c.tc : Thread nD τ).loc main_arg0)) (m ((c.tc : Thread nD τ).loc main_arg4)) (m ((c.tc : Thread nD τ).loc main_arg5)) (m ((c.tc : Thread nD τ).loc main_arg6)) (by norm_num) (by norm_num) i n k) := by
  show truncf .bf16 (mulf (mulf (Host.dotGeneral dot_S2496x7168_S7168x20480_S2496x20480_1_0_0_1_n_n none (m ((c.tc : Thread nD τ).loc main_arg0)) (wmat (m ((c.tc : Thread nD τ).loc main_arg1)) (m ((c.tc : Thread nD τ).loc main_arg2)) (m ((c.tc : Thread nD τ).loc main_arg3)))) (Host.divf (broadcastInDim S2496x20480 ![] bcast_S_S2496x20480 (constant S_ .f32 0x3F800000#32)) (addf (broadcastInDim S2496x20480 ![] bcast_S_S2496x20480 (constant S_ .f32 0x3F800000#32)) (Host.exp (Host.negf (Host.dotGeneral dot_S2496x7168_S7168x20480_S2496x20480_1_0_0_1_n_n none (m ((c.tc : Thread nD τ).loc main_arg0)) (wmat (m ((c.tc : Thread nD τ).loc main_arg1)) (m ((c.tc : Thread nD τ).loc main_arg2)) (m ((c.tc : Thread nD τ).loc main_arg3))))))))) (Host.dotGeneral dot_S2496x7168_S7168x20480_S2496x20480_1_0_0_1_n_n none (m ((c.tc : Thread nD τ).loc main_arg0)) (wmat (m ((c.tc : Thread nD τ).loc main_arg4)) (m ((c.tc : Thread nD τ).loc main_arg5)) (m ((c.tc : Thread nD τ).loc main_arg6))))) bitsLt_bf16_f32 (ix2 i n) = _
  pointwise
  simp only [wmat_apply]
  rfl

end Cert.ReferenceIdeal.Value
-- ==== Proof.Equation.lean ====
/-
  The equation: on the same arguments the kernel's array is the reference's.
-/
module

public import proofs.«01_k».proof.Proof.Fold
public import proofs.«01_k».proof.Proof.Ref

@[expose] public section

noncomputable section
namespace Cert.Awq
open Idealize.ShloMosaic Idealize.ShloMosaic.Pointwise Idealize.ShloMosaic.TcCoe

theorem gate_up_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (a0 : m' (c.tc.loc ReferenceIdeal.main_arg0) = m (c.tc.loc KernelIdeal.main_arg0))
    (a1 : m' (c.tc.loc ReferenceIdeal.main_arg1) = m (c.tc.loc KernelIdeal.main_arg1))
    (a2 : m' (c.tc.loc ReferenceIdeal.main_arg2) = m (c.tc.loc KernelIdeal.main_arg2))
    (a3 : m' (c.tc.loc ReferenceIdeal.main_arg3) = m (c.tc.loc KernelIdeal.main_arg3))
    (a4 : m' (c.tc.loc ReferenceIdeal.main_arg4) = m (c.tc.loc KernelIdeal.main_arg4))
    (a5 : m' (c.tc.loc ReferenceIdeal.main_arg5) = m (c.tc.loc KernelIdeal.main_arg5))
    (a6 : m' (c.tc.loc ReferenceIdeal.main_arg6) = m (c.tc.loc KernelIdeal.main_arg6)) :
    (ReferenceIdeal.Value.res_out0 (F := Ideal) m' c : FVec Ideal KernelIdeal.S2496x20480 .bf16)
      = (KernelIdeal.Value.G7 (F := Ideal) m c : FVec Ideal KernelIdeal.S2496x20480 .bf16) := by
  refine funext fun j => ?_
  rw [show j = ix2 (j 0) (j 1) from funext fun a => by fin_cases a <;> rfl]
  refine (ReferenceIdeal.Value.res_apply m' c (j 0) (j 1)).trans (Eq.trans ?_ (KernelIdeal.Value.G7_apply m c (j 0) (j 1)).symm)
  unfold KernelIdeal.Value.gateAt KernelIdeal.Value.upAt
  rw [a0, a1, a2, a3, a4, a5, a6]

end Cert.Awq

end
-- ==== Proof.QkvRun.Runs.lean ====
/- What the runs of the query/key/value projection's frame share: the body's branch conditions in closed form, where its
   output windows are idle, and the staging and scratch memrefs. -/
module

public import proofs.«01_k».proof.Proof.Gen.KernelQkv.Frame
public import proofs.«01_k».proof.Proof.Gen.KernelQkv.Skeleton
public import Idealize.ShloMosaic.Lib.Pipeline.TableIdle

@[expose] public section

-- membership in a rectangle with long axes
set_option maxRecDepth 16384

noncomputable section

namespace Cert.KernelQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i0 + 36 ≤ 7·i1 — decided over the grid. -/
theorem hcond0_1 : ∀ t : Fin cfg0.N, cond0_1 (grid0.coords t) ↔ t.val / 7 % 9 + 36 ≤ 7 * (t.val % 7) :=
  (by decide +kernel : ∀ t : Fin grid0.N, cond0_1 (grid0.coords t) ↔ t.val / 7 % 9 + 36 ≤ 7 * (t.val % 7))

/-- The condition of the body's `scf.if` 2 (`k0_h3`), from the grid coordinates (the skeleton's scalar
    chain substituted). -/
abbrev cond0_2 (i : grid0.Coords) : Prop := k0_cond3 i = 1#1
/-- It holds at point 55 only — by arithmetic of the point. -/
theorem hcond0_2 : ∀ t : Fin cfg0.N, cond0_2 (grid0.coords t) ↔ t.val % 63 = 55 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 63 = 55)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 63 = 62 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_3, k0_cond4, e0, e1]
    word_cmp
   : ∀ t : Fin grid0.N, cond0_3 (grid0.coords t) ↔ t.val % 63 = 62)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ ¬cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- Case E's branch conditions on the grid, as one proposition. -/
abbrev conds0_E (i : grid0.Coords) : Prop := ¬cond0_0 i ∧ ¬cond0_1 i ∧ ¬cond0_2 i ∧ cond0_3 i
instance conds0_E.dec (i : grid0.Coords) : Decidable (conds0_E i) :=
  @instDecidableAnd _ _ inferInstance (@instDecidableAnd _ _ inferInstance (@instDecidableAnd _ _ inferInstance inferInstance))
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x4000ffffffffffff : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 idle: the case stores nothing into it. -/
theorem idleAt0_8_A : ∀ t : Fin cfg0.N, cond0_0 (grid0.coords t) → ¬cond0_1 (grid0.coords t) → ¬cond0_2 (grid0.coords t) → ¬cond0_3 (grid0.coords t) → cfg0.idle 8 (grid0.coords t) = true :=
  fun t h0 h1 h2 h3 => (by decide +kernel : ∀ t : Fin cfg0.N, conds0_A (grid0.coords t) → cfg0.idle 8 (grid0.coords t) = true) t ⟨h0, h1, h2, h3⟩
/-- At the points of case A the pipeline does not write output 8's block back. -/
theorem noFlush0_8_A : ∀ t : Fin cfg0.N, cond0_0 (grid0.coords t) → ¬cond0_1 (grid0.coords t) → ¬cond0_2 (grid0.coords t) → ¬cond0_3 (grid0.coords t) → (cfg0.win 8).flush t = false :=
  fun t h0 h1 h2 h3 => (by decide +kernel : ∀ t : Fin cfg0.N, conds0_A (grid0.coords t) → (cfg0.win 8).flush t = false) t ⟨h0, h1, h2, h3⟩
/-- At the points of case B the printed configuration (`Cfg.idle`) calls output 8 idle: the case stores nothing into it. -/
theorem idleAt0_8_B : ∀ t : Fin cfg0.N, ¬cond0_0 (grid0.coords t) → ¬cond0_1 (grid0.coords t) → ¬cond0_2 (grid0.coords t) → ¬cond0_3 (grid0.coords t) → cfg0.idle 8 (grid0.coords t) = true :=
  fun t h0 h1 h2 h3 => (by decide +kernel : ∀ t : Fin cfg0.N, conds0_B (grid0.coords t) → cfg0.idle 8 (grid0.coords t) = true) t ⟨h0, h1, h2, h3⟩
/-- At the points of case B the pipeline does not write output 8's block back. -/
theorem noFlush0_8_B : ∀ t : Fin cfg0.N, ¬cond0_0 (grid0.coords t) → ¬cond0_1 (grid0.coords t) → ¬cond0_2 (grid0.coords t) → ¬cond0_3 (grid0.coords t) → (cfg0.win 8).flush t = false :=
  fun t h0 h1 h2 h3 => (by decide +kernel : ∀ t : Fin cfg0.N, conds0_B (grid0.coords t) → (cfg0.win 8).flush t = false) t ⟨h0, h1, h2, h3⟩
/-- At the points of case C the printed configuration (`Cfg.idle`) calls output 8 live: the case stores into it. -/
theorem liveAt0_8_C : ∀ t : Fin cfg0.N, ¬cond0_0 (grid0.coords t) → cond0_1 (grid0.coords t) → ¬cond0_2 (grid0.coords t) → ¬cond0_3 (grid0.coords t) → cfg0.idle 8 (grid0.coords t) = false :=
  fun t h0 h1 h2 h3 => (by decide +kernel : ∀ t : Fin cfg0.N, conds0_C (grid0.coords t) → cfg0.idle 8 (grid0.coords t) = false) t ⟨h0, h1, h2, h3⟩
/-- At the points of case D the printed configuration (`Cfg.idle`) calls output 8 idle: the case stores nothing into it. -/
theorem idleAt0_8_D : ∀ t : Fin cfg0.N, ¬cond0_0 (grid0.coords t) → ¬cond0_1 (grid0.coords t) → cond0_2 (grid0.coords t) → ¬cond0_3 (grid0.coords t) → cfg0.idle 8 (grid0.coords t) = true :=
  fun t h0 h1 h2 h3 => (by decide +kernel : ∀ t : Fin cfg0.N, conds0_D (grid0.coords t) → cfg0.idle 8 (grid0.coords t) = true) t ⟨h0, h1, h2, h3⟩
/-- At the points of case D the pipeline does not write output 8's block back. -/
theorem noFlush0_8_D : ∀ t : Fin cfg0.N, ¬cond0_0 (grid0.coords t) → ¬cond0_1 (grid0.coords t) → cond0_2 (grid0.coords t) → ¬cond0_3 (grid0.coords t) → (cfg0.win 8).flush t = false :=
  fun t h0 h1 h2 h3 => (by decide +kernel : ∀ t : Fin cfg0.N, conds0_D (grid0.coords t) → (cfg0.win 8).flush t = false) t ⟨h0, h1, h2, h3⟩
/-- At the points of case E the printed configuration (`Cfg.idle`) calls output 8 live: the case stores into it. -/
theorem idleAt0_8_E : ∀ t : Fin cfg0.N, ¬cond0_0 (grid0.coords t) → ¬cond0_1 (grid0.coords t) → ¬cond0_2 (grid0.coords t) → cond0_3 (grid0.coords t) → cfg0.idle 8 (grid0.coords t) = true :=
  fun t h0 h1 h2 h3 => (by decide +kernel : ∀ t : Fin cfg0.N, conds0_E (grid0.coords t) → cfg0.idle 8 (grid0.coords t) = true) t ⟨h0, h1, h2, h3⟩
/-- At the points of case E the pipeline writes output 8's block back, though the case stores nothing into it. -/
theorem flushAt0_8_E : ∀ t : Fin cfg0.N, ¬cond0_0 (grid0.coords t) → ¬cond0_1 (grid0.coords t) → ¬cond0_2 (grid0.coords t) → cond0_3 (grid0.coords t) → (cfg0.win 8).flush t = true :=
  fun t h0 h1 h2 h3 => (by decide +kernel : ∀ t : Fin cfg0.N, conds0_E (grid0.coords t) → (cfg0.win 8).flush t = true) t ⟨h0, h1, h2, h3⟩
/-- At the points of case E, which keeps output 8's prior contents (reads it before covering, or covers it in part), the
    window's buffer is not FRESH: something was stored into it since the region's entry or its last write-back, idle points
    between or not. -/
theorem notFresh0_8_E : ∀ t : Fin cfg0.N, ¬cond0_0 (grid0.coords t) → ¬cond0_1 (grid0.coords t) → ¬cond0_2 (grid0.coords t) → cond0_3 (grid0.coords t) → cfg0.fresh 8 t.val = false :=
  fun t h0 h1 h2 h3 => (by intro t; rw [fresh0_8_eq t]; revert t; decide +kernel : ∀ t : Fin cfg0.N, conds0_E (grid0.coords t) → cfg0.fresh 8 t.val = false) t ⟨h0, h1, h2, h3⟩
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x407fffffffffffff : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 idle: the case stores nothing into it. -/
theorem idleAt0_9_A : ∀ t : Fin cfg0.N, cond0_0 (grid0.coords t) → ¬cond0_1 (grid0.coords t) → ¬cond0_2 (grid0.coords t) → ¬cond0_3 (grid0.coords t) → cfg0.idle 9 (grid0.coords t) = true :=
  fun t h0 h1 h2 h3 => (by decide +kernel : ∀ t : Fin cfg0.N, conds0_A (grid0.coords t) → cfg0.idle 9 (grid0.coords t) = true) t ⟨h0, h1, h2, h3⟩
/-- At the points of case A the pipeline does not write output 9's block back. -/
theorem noFlush0_9_A : ∀ t : Fin cfg0.N, cond0_0 (grid0.coords t) → ¬cond0_1 (grid0.coords t) → ¬cond0_2 (grid0.coords t) → ¬cond0_3 (grid0.coords t) → (cfg0.win 9).flush t = false :=
  fun t h0 h1 h2 h3 => (by decide +kernel : ∀ t : Fin cfg0.N, conds0_A (grid0.coords t) → (cfg0.win 9).flush t = false) t ⟨h0, h1, h2, h3⟩
/-- At the points of case B the printed configuration (`Cfg.idle`) calls output 9 idle: the case stores nothing into it. -/
theorem idleAt0_9_B : ∀ t : Fin cfg0.N, ¬cond0_0 (grid0.coords t) → ¬cond0_1 (grid0.coords t) → ¬cond0_2 (grid0.coords t) → ¬cond0_3 (grid0.coords t) → cfg0.idle 9 (grid0.coords t) = true :=
  fun t h0 h1 h2 h3 => (by decide +kernel : ∀ t : Fin cfg0.N, conds0_B (grid0.coords t) → cfg0.idle 9 (grid0.coords t) = true) t ⟨h0, h1, h2, h3⟩
/-- At the points of case B the pipeline does not write output 9's block back. -/
theorem noFlush0_9_B : ∀ t : Fin cfg0.N, ¬cond0_0 (grid0.coords t) → ¬cond0_1 (grid0.coords t) → ¬cond0_2 (grid0.coords t) → ¬cond0_3 (grid0.coords t) → (cfg0.win 9).flush t = false :=
  fun t h0 h1 h2 h3 => (by decide +kernel : ∀ t : Fin cfg0.N, conds0_B (grid0.coords t) → (cfg0.win 9).flush t = false) t ⟨h0, h1, h2, h3⟩
/-- At the points of case C the printed configuration (`Cfg.idle`) calls output 9 idle: the case stores nothing into it. -/
theorem idleAt0_9_C : ∀ t : Fin cfg0.N, ¬cond0_0 (grid0.coords t) → cond0_1 (grid0.coords t) → ¬cond0_2 (grid0.coords t) → ¬cond0_3 (grid0.coords t) → cfg0.idle 9 (grid0.coords t) = true :=
  fun t h0 h1 h2 h3 => (by decide +kernel : ∀ t : Fin cfg0.N, conds0_C (grid0.coords t) → cfg0.idle 9 (grid0.coords t) = true) t ⟨h0, h1, h2, h3⟩
/-- At the points of case C the pipeline does not write output 9's block back. -/
theorem noFlush0_9_C : ∀ t : Fin cfg0.N, ¬cond0_0 (grid0.coords t) → cond0_1 (grid0.coords t) → ¬cond0_2 (grid0.coords t) → ¬cond0_3 (grid0.coords t) → (cfg0.win 9).flush t = false :=
  fun t h0 h1 h2 h3 => (by decide +kernel : ∀ t : Fin cfg0.N, conds0_C (grid0.coords t) → (cfg0.win 9).flush t = false) t ⟨h0, h1, h2, h3⟩
/-- At the points of case D the printed configuration (`Cfg.idle`) calls output 9 live: the case stores into it. -/
theorem liveAt0_9_D : ∀ t : Fin cfg0.N, ¬cond0_0 (grid0.coords t) → ¬cond0_1 (grid0.coords t) → cond0_2 (grid0.coords t) → ¬cond0_3 (grid0.coords t) → cfg0.idle 9 (grid0.coords t) = false :=
  fun t h0 h1 h2 h3 => (by decide +kernel : ∀ t : Fin cfg0.N, conds0_D (grid0.coords t) → cfg0.idle 9 (grid0.coords t) = false) t ⟨h0, h1, h2, h3⟩
/-- At the points of case E the printed configuration (`Cfg.idle`) calls output 9 live: the case stores into it. -/
theorem idleAt0_9_E : ∀ t : Fin cfg0.N, ¬cond0_0 (grid0.coords t) → ¬cond0_1 (grid0.coords t) → ¬cond0_2 (grid0.coords t) → cond0_3 (grid0.coords t) → cfg0.idle 9 (grid0.coords t) = true :=
  fun t h0 h1 h2 h3 => (by decide +kernel : ∀ t : Fin cfg0.N, conds0_E (grid0.coords t) → cfg0.idle 9 (grid0.coords t) = true) t ⟨h0, h1, h2, h3⟩
/-- At the points of case E the pipeline writes output 9's block back, though the case stores nothing into it. -/
theorem flushAt0_9_E : ∀ t : Fin cfg0.N, ¬cond0_0 (grid0.coords t) → ¬cond0_1 (grid0.coords t) → ¬cond0_2 (grid0.coords t) → cond0_3 (grid0.coords t) → (cfg0.win 9).flush t = true :=
  fun t h0 h1 h2 h3 => (by decide +kernel : ∀ t : Fin cfg0.N, conds0_E (grid0.coords t) → (cfg0.win 9).flush t = true) t ⟨h0, h1, h2, h3⟩
/-- At the points of case E, which keeps output 9's prior contents (reads it before covering, or covers it in part), the
    window's buffer is not FRESH: something was stored into it since the region's entry or its last write-back, idle points
    between or not. -/
theorem notFresh0_9_E : ∀ t : Fin cfg0.N, ¬cond0_0 (grid0.coords t) → ¬cond0_1 (grid0.coords t) → ¬cond0_2 (grid0.coords t) → cond0_3 (grid0.coords t) → cfg0.fresh 9 t.val = false :=
  fun t h0 h1 h2 h3 => (by intro t; rw [fresh0_9_eq t]; revert t; decide +kernel : ∀ t : Fin cfg0.N, conds0_E (grid0.coords t) → cfg0.fresh 9 t.val = false) t ⟨h0, h1, h2, h3⟩
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → ¬cond0_3 (grid0.coords t) → cfg0.idle 10 (grid0.coords t) = true :=
  fun t h0 h1 h2 h3 => (by decide +kernel : ∀ t : Fin cfg0.N, conds0_A (grid0.coords t) → cfg0.idle 10 (grid0.coords t) = true) t ⟨h0, h1, h2, h3⟩
/-- At the points of case A the pipeline does not write output 10's block back. -/
theorem noFlush0_10_A : ∀ t : Fin cfg0.N, cond0_0 (grid0.coords t) → ¬cond0_1 (grid0.coords t) → ¬cond0_2 (grid0.coords t) → ¬cond0_3 (grid0.coords t) → (cfg0.win 10).flush t = false :=
  fun t h0 h1 h2 h3 => (by decide +kernel : ∀ t : Fin cfg0.N, conds0_A (grid0.coords t) → (cfg0.win 10).flush t = false) t ⟨h0, h1, h2, h3⟩
/-- At the points of case B the printed configuration (`Cfg.idle`) calls output 10 idle: the case stores nothing into it. -/
theorem idleAt0_10_B : ∀ t : Fin cfg0.N, ¬cond0_0 (grid0.coords t) → ¬cond0_1 (grid0.coords t) → ¬cond0_2 (grid0.coords t) → ¬cond0_3 (grid0.coords t) → cfg0.idle 10 (grid0.coords t) = true :=
  fun t h0 h1 h2 h3 => (by decide +kernel : ∀ t : Fin cfg0.N, conds0_B (grid0.coords t) → cfg0.idle 10 (grid0.coords t) = true) t ⟨h0, h1, h2, h3⟩
/-- At the points of case B the pipeline does not write output 10's block back. -/
theorem noFlush0_10_B : ∀ t : Fin cfg0.N, ¬cond0_0 (grid0.coords t) → ¬cond0_1 (grid0.coords t) → ¬cond0_2 (grid0.coords t) → ¬cond0_3 (grid0.coords t) → (cfg0.win 10).flush t = false :=
  fun t h0 h1 h2 h3 => (by decide +kernel : ∀ t : Fin cfg0.N, conds0_B (grid0.coords t) → (cfg0.win 10).flush t = false) t ⟨h0, h1, h2, h3⟩
/-- At the points of case C the printed configuration (`Cfg.idle`) calls output 10 idle: the case stores nothing into it. -/
theorem idleAt0_10_C : ∀ t : Fin cfg0.N, ¬cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_C (grid0.coords t) → cfg0.idle 10 (grid0.coords t) = true) t ⟨h0, h1, h2, h3⟩
/-- At the points of case C the pipeline does not write output 10's block back. -/
theorem noFlush0_10_C : ∀ t : Fin cfg0.N, ¬cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_C (grid0.coords t) → (cfg0.win 10).flush t = false) t ⟨h0, h1, h2, h3⟩
/-- At the points of case D the printed configuration (`Cfg.idle`) calls output 10 idle: the case stores nothing into it. -/
theorem idleAt0_10_D : ∀ t : Fin cfg0.N, ¬cond0_0 (grid0.coords t) → ¬cond0_1 (grid0.coords t) → cond0_2 (grid0.coords t) → ¬cond0_3 (grid0.coords t) → cfg0.idle 10 (grid0.coords t) = true :=
  fun t h0 h1 h2 h3 => (by decide +kernel : ∀ t : Fin cfg0.N, conds0_D (grid0.coords t) → cfg0.idle 10 (grid0.coords t) = true) t ⟨h0, h1, h2, h3⟩
/-- At the points of case D the pipeline does not write output 10's block back. -/
theorem noFlush0_10_D : ∀ t : Fin cfg0.N, ¬cond0_0 (grid0.coords t) → ¬cond0_1 (grid0.coords t) → cond0_2 (grid0.coords t) → ¬cond0_3 (grid0.coords t) → (cfg0.win 10).flush t = false :=
  fun t h0 h1 h2 h3 => (by decide +kernel : ∀ t : Fin cfg0.N, conds0_D (grid0.coords t) → (cfg0.win 10).flush t = false) t ⟨h0, h1, h2, h3⟩
/-- At the points of case E the printed configuration (`Cfg.idle`) calls output 10 live: the case stores into it. -/
theorem liveAt0_10_E : ∀ t : Fin cfg0.N, ¬cond0_0 (grid0.coords t) → ¬cond0_1 (grid0.coords t) → ¬cond0_2 (grid0.coords t) → cond0_3 (grid0.coords t) → cfg0.idle 10 (grid0.coords t) = false :=
  fun t h0 h1 h2 h3 => (by decide +kernel : ∀ t : Fin cfg0.N, conds0_E (grid0.coords t) → cfg0.idle 10 (grid0.coords t) = false) t ⟨h0, h1, h2, h3⟩

/-! ## The kernel body on any staging memrefs: a subtype the run finds -/

/-- One staging buffer of output window 8, through which its contents are stated (`View.read_writes_of_cover`: the
    choice does not matter). -/
abbrev VO0_8 : View sig .tc .vmem S2496x1024 .bf16 := (Memref.whole cc0_stg8_0 : Memref sig .tc .vmem S2496x1024 .bf16).view
/-- One staging buffer of output window 9, through which its contents are stated (`View.read_writes_of_cover`: the
    choice does not matter). -/
abbrev VO0_9 : View sig .tc .vmem S2496x1024 .fp8e4m3 := (Memref.whole cc0_stg9_0 : Memref sig .tc .vmem S2496x1024 .fp8e4m3).view
/-- One staging buffer of output window 10, through which its contents are stated (`View.read_writes_of_cover`: the
    choice does not matter). -/
abbrev VO0_10 : View sig .tc .vmem S2496x1024 .fp8e4m3 := (Memref.whole cc0_stg10_0 : Memref sig .tc .vmem S2496x1024 .fp8e4m3).view
/-- Each window's current staging memref at point `t`, spelled as the pipeline passes it (`bodyAt0`), and its wholeness. -/
abbrev ms0_0 (t : Fin cfg0.N) : Memref sig .tc .vmem S2496x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2496x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2496x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2496x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2496x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2496x1024 .fp8e4m3 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1024 .bf16 := Memref.whole cc0_scratch0
abbrev scM0_1 : Memref sig .tc .vmem S2496x1024 .f32 := Memref.whole cc0_scratch1
/-- The scratch `arg14` the kernel carries between points, as a view: what it holds is stated through it. -/
abbrev VS0_1 : View sig .tc .vmem S2496x1024 .f32 := scM0_1.view

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelQkv.Gen

end
-- ==== Proof.QkvRun.RunA.lean ====
/- The run of the query/key/value projection's body in case A of its branch conditions, at machine numbers: the body's triple, with the
   pieces each buffer ends with as its witness. -/
module

public import proofs.«01_k».proof.Proof.QkvRun.Runs

@[expose] public section

-- membership in a rectangle with long axes
set_option maxRecDepth 16384

noncomputable section

namespace Cert.KernelQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1516000 in
/-- What the body's stores leave in each output's staging memref, as pieces (last first) IN CASE A (`scf.if` 0 taken, `scf.if` 1 not taken, `scf.if` 2 not taken, `scf.if` 3 not taken: points 0, 7, … 56: 9 of 63), WITH the
    proof that on whole staging memrefs — the inputs' at their contents, the outputs it leaves idle (8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi8 : Vec F S2496x1024 .bf16) (xi9 : Vec F S2496x1024 .fp8e4m3) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], [], [], ?_, ?_, fun xi8 xi9 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelQkv.Gen

end
-- ==== Proof.QkvRun.RunB.lean ====
/- The run of the query/key/value projection's body in case B of its branch conditions, at machine numbers: the body's triple, with the
   pieces each buffer ends with as its witness. -/
module

public import proofs.«01_k».proof.Proof.QkvRun.RunA

@[expose] public section

-- membership in a rectangle with long axes
set_option maxRecDepth 16384

noncomputable section

namespace Cert.KernelQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1504000 in
/-- What the body's stores leave in each output's staging memref, as pieces (last first) IN CASE B (`scf.if` 0 not taken, `scf.if` 1 not taken, `scf.if` 2 not taken, `scf.if` 3 not taken: points 1, 2, … 61: 45 of 63), WITH the
    proof that on whole staging memrefs — the inputs' at their contents, the outputs it leaves idle (8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi8 : Vec F S2496x1024 .bf16) (xi9 : Vec F S2496x1024 .fp8e4m3) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], [], [], ?_, ?_, fun xi8 xi9 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelQkv.Gen

end
-- ==== Proof.QkvRun.RunC.lean ====
/- The run of the query/key/value projection's body in case C of its branch conditions, at machine numbers: the body's triple, with the
   pieces each buffer ends with as its witness. -/
module

public import proofs.«01_k».proof.Proof.QkvRun.RunB

@[expose] public section

-- membership in a rectangle with long axes
set_option maxRecDepth 16384

noncomputable section

namespace Cert.KernelQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1680000 in
/-- What the body's stores leave in each output's staging memref, as pieces (last first) IN CASE C (`scf.if` 0 not taken, `scf.if` 1 taken, `scf.if` 2 not taken, `scf.if` 3 not taken: points 6, 13, … 48: 7 of 63), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi9 : Vec F S2496x1024 .fp8e4m3) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, fun xi9 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelQkv.Gen

end
-- ==== Proof.QkvRun.RunD.lean ====
/- The run of the query/key/value projection's body in case D of its branch conditions, at machine numbers: the body's triple, with the
   pieces each buffer ends with as its witness. -/
module

public import proofs.«01_k».proof.Proof.QkvRun.RunC

@[expose] public section

-- membership in a rectangle with long axes
set_option maxRecDepth 16384

noncomputable section

namespace Cert.KernelQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1728000 in
/-- What the body's stores leave in each output's staging memref, as pieces (last first) IN CASE D (`scf.if` 0 not taken, `scf.if` 1 not taken, `scf.if` 2 taken, `scf.if` 3 not taken: points 55), WITH the
    proof that on whole staging memrefs — the inputs' at their contents, the outputs it leaves idle (8, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_D (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi8 : Vec F S2496x1024 .bf16) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ owns (c : Thread nD τ) arg12 fullShare xi10 ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], ?_, [], ?_, ?_, fun xi8 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [HS0]; · iexists _; iexact HS0
    iexists _; iexact HS1

end Cert.KernelQkv.Gen

end
-- ==== Proof.QkvRun.RunE.lean ====
/- The run of the query/key/value projection's body in case E of its branch conditions, at machine numbers: the body's triple, with the
   pieces each buffer ends with as its witness. -/
module

public import proofs.«01_k».proof.Proof.QkvRun.RunD

@[expose] public section

-- membership in a rectangle with long axes
set_option maxRecDepth 16384

noncomputable section

namespace Cert.KernelQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1648000 in
/-- What the body's stores leave in each output's staging memref, as pieces (last first) IN CASE E (`scf.if` 0 not taken, `scf.if` 1 not taken, `scf.if` 2 not taken, `scf.if` 3 taken: points 62), WITH the
    proof that on whole staging memrefs — the inputs' at their contents, the outputs it reads before covering (8, 9) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_E (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) (xo9 : Vec F S2496x1024 .fp8e4m3) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ (∃ d, owns (c : Thread nD τ) arg12 fullShare d) ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, ?_, fun E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    iexists _; iexact HS1

end Cert.KernelQkv.Gen

end
-- ==== Proof.QkvRun.Frame.lean ====
/- The frame of the query/key/value projection at machine numbers: what its outputs and its accumulator hold after each grid point, in the
   five cases of the body's branch conditions, the body obligation at every point, the run and the frame claim. The text follows
   the generated frames of the other calls; the one step that is new is the write-back of the query and key blocks at the last
   point (case E), where the body stores nothing into them and their buffers still hold what an earlier point left. -/
module

public import proofs.«01_k».proof.Proof.QkvRun.RunE
public import Idealize.ShloMosaic.Lib.Claim

@[expose] public section

-- membership in a rectangle with long axes
set_option maxRecDepth 16384

noncomputable section

namespace Cert.KernelQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case A stores nothing into output 8: its buffer holds what the point before left. -/
def out0_A_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) : Vec F S2496x1024 .bf16 := xo8

/-- Case A stores nothing into output 9: its buffer holds what the point before left. -/
def out0_A_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo9 : Vec F S2496x1024 .fp8e4m3) : Vec F S2496x1024 .fp8e4m3 := xo9

/-- Case A stores nothing into output 10. -/
def out0_A_10 : Vec F S2496x1024 .fp8e4m3 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.1)

/-- Case A's stores cover scratch `arg14`. -/
theorem scover0_A_1 (y : S2496x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.1 S2496x1024.size (by sl_kernel_rfl) y

/-- What case A leaves in scratch `arg14`: its pieces read back over junk. -/
def sout0_A_1 : Vec F S2496x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case B stores nothing into output 8: its buffer holds what the point before left. -/
def out0_B_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo8 : Vec F S2496x1024 .bf16) : Vec F S2496x1024 .bf16 := xo8

/-- Case B stores nothing into output 9: its buffer holds what the point before left. -/
def out0_B_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo9 : Vec F S2496x1024 .fp8e4m3) : Vec F S2496x1024 .fp8e4m3 := xo9

/-- Case B stores nothing into output 10. -/
def out0_B_10 (xs1 : Vec F S2496x1024 .f32) : Vec F S2496x1024 .fp8e4m3 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.1)

/-- Case B's stores cover scratch `arg14`. -/
theorem scover0_B_1 (xs1 : Vec F S2496x1024 .f32) (y : S2496x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1 S2496x1024.size (by sl_kernel_rfl) y

/-- What case B leaves in scratch `arg14`: its pieces read back over junk. -/
def sout0_B_1 (xs1 : Vec F S2496x1024 .f32) : Vec F S2496x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case C's stores cover output 8. -/
theorem cover0_C_8 (xs1 : Vec F S2496x1024 .f32) (y : S2496x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).1 S2496x128.size (by sl_kernel_rfl) y

/-- What case C leaves in output 8's staging buffer: its pieces read back over junk. -/
def out0_C_8 (xs1 : Vec F S2496x1024 .f32) : Vec F S2496x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).1)

/-- Case C stores nothing into output 9: its buffer holds what the point before left. -/
def out0_C_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo9 : Vec F S2496x1024 .fp8e4m3) : Vec F S2496x1024 .fp8e4m3 := xo9

/-- Case C stores nothing into output 10. -/
def out0_C_10 (xs1 : Vec F S2496x1024 .f32) : Vec F S2496x1024 .fp8e4m3 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.1)

/-- Case C's stores cover scratch `arg14`. -/
theorem scover0_C_1 (xs1 : Vec F S2496x1024 .f32) (y : S2496x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1 S2496x1024.size (by sl_kernel_rfl) y

/-- What case C leaves in scratch `arg14`: its pieces read back over junk. -/
def sout0_C_1 (xs1 : Vec F S2496x1024 .f32) : Vec F S2496x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case D stores nothing into output 8: its buffer holds what the point before left. -/
def out0_D_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo8 : Vec F S2496x1024 .bf16) : Vec F S2496x1024 .bf16 := xo8

/-- Case D's stores cover output 9. -/
theorem cover0_D_9 (xs1 : Vec F S2496x1024 .f32) (y : S2496x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.1 S2496x128.size (by sl_kernel_rfl) y

/-- What case D leaves in output 9's staging buffer: its pieces read back over junk. -/
def out0_D_9 (xs1 : Vec F S2496x1024 .f32) : Vec F S2496x1024 .fp8e4m3 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.1)

/-- Case D stores nothing into output 10. -/
def out0_D_10 (xs1 : Vec F S2496x1024 .f32) : Vec F S2496x1024 .fp8e4m3 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.1)

/-- Case D's stores cover scratch `arg14`. -/
theorem scover0_D_1 (xs1 : Vec F S2496x1024 .f32) (y : S2496x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1 S2496x1024.size (by sl_kernel_rfl) y

/-- What case D leaves in scratch `arg14`: its pieces read back over junk. -/
def sout0_D_1 (xs1 : Vec F S2496x1024 .f32) : Vec F S2496x1024 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case E stores nothing into output 8: its buffer holds what the point before left. -/
def out0_E_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) (xo9 : Vec F S2496x1024 .fp8e4m3) (xs1 : Vec F S2496x1024 .f32) : Vec F S2496x1024 .bf16 := xo8

/-- Case E stores nothing into output 9: its buffer holds what the point before left. -/
def out0_E_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) (xo9 : Vec F S2496x1024 .fp8e4m3) (xs1 : Vec F S2496x1024 .f32) : Vec F S2496x1024 .fp8e4m3 := xo9

/-- Case E's stores cover output 10. -/
theorem cover0_E_10 (xo8 : Vec F S2496x1024 .bf16) (xo9 : Vec F S2496x1024 .fp8e4m3) (xs1 : Vec F S2496x1024 .f32) (y : S2496x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.1 S2496x128.size (by sl_kernel_rfl) y

/-- What case E leaves in output 10's staging buffer: its pieces read back over junk. -/
def out0_E_10 (xo8 : Vec F S2496x1024 .bf16) (xo9 : Vec F S2496x1024 .fp8e4m3) (xs1 : Vec F S2496x1024 .f32) : Vec F S2496x1024 .fp8e4m3 :=
  VO0_10.read (Elt F) (VO0_10.writes (Elt F) VO0_10.junk (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.1)

/-- Case E's stores cover scratch `arg14`. -/
theorem scover0_E_1 (xo8 : Vec F S2496x1024 .bf16) (xo9 : Vec F S2496x1024 .fp8e4m3) (xs1 : Vec F S2496x1024 .f32) (y : S2496x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.2.1 S2496x1024.size (by sl_kernel_rfl) y

/-- What case E leaves in scratch `arg14`: its pieces read back over junk. -/
def sout0_E_1 (xo8 : Vec F S2496x1024 .bf16) (xo9 : Vec F S2496x1024 .fp8e4m3) (xs1 : Vec F S2496x1024 .f32) : Vec F S2496x1024 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.2.1)

/-! ## What the outputs hold after each point -/

end

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2496x1024 .bf16 × Vec F S2496x1024 .fp8e4m3 × Vec F S2496x1024 .fp8e4m3 × Vec F S2496x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((VO0_8.read (Elt F) VO0_8.junk, VO0_9.read (Elt F) VO0_9.junk, VO0_10.read (Elt F) VO0_10.junk, VS0_1.read (Elt F) VS0_1.junk) : Vec F S2496x1024 .bf16 × Vec F S2496x1024 .fp8e4m3 × Vec F S2496x1024 .fp8e4m3 × Vec F S2496x1024 .f32).1, out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((VO0_8.read (Elt F) VO0_8.junk, VO0_9.read (Elt F) VO0_9.junk, VO0_10.read (Elt F) VO0_10.junk, VS0_1.read (Elt F) VS0_1.junk) : Vec F S2496x1024 .bf16 × Vec F S2496x1024 .fp8e4m3 × Vec F S2496x1024 .fp8e4m3 × Vec F S2496x1024 .f32).2.1, out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 7 = 0 then
      if h1 : (n + 1) / 7 % 9 + 36 ≤ 7 * ((n + 1) % 7) then
        False.elim (by have hN : n + 1 < 63 := lt_of_lt_of_eq hn (show cfg0.N = 63 from N_0); omega)
      else
        if h2 : (n + 1) % 63 = 55 then
          False.elim (by have hN : n + 1 < 63 := lt_of_lt_of_eq hn (show cfg0.N = 63 from N_0); omega)
        else
          if h3 : (n + 1) % 63 = 62 then
            False.elim (by have hN : n + 1 < 63 := lt_of_lt_of_eq hn (show cfg0.N = 63 from N_0); omega)
          else
            (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1, out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) / 7 % 9 + 36 ≤ 7 * ((n + 1) % 7) then
        if h2 : (n + 1) % 63 = 55 then
          False.elim (by have hN : n + 1 < 63 := lt_of_lt_of_eq hn (show cfg0.N = 63 from N_0); omega)
        else
          if h3 : (n + 1) % 63 = 62 then
            False.elim (by have hN : n + 1 < 63 := lt_of_lt_of_eq hn (show cfg0.N = 63 from N_0); omega)
          else
            (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).2.1, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
      else
        if h2 : (n + 1) % 63 = 55 then
          if h3 : (n + 1) % 63 = 62 then
            False.elim (by have hN : n + 1 < 63 := lt_of_lt_of_eq hn (show cfg0.N = 63 from N_0); omega)
          else
            (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
        else
          if h3 : (n + 1) % 63 = 62 then
            (out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2, out0_E_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2, out0_E_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2)
          else
            (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)

/-- `outsAt0` at a point of case A: that case's contents, over what the point before left. -/
theorem outsAt0_A (c : Dev nD) (t : Fin cfg0.N) (h0 : t.val % 7 = 0) (h1 : ¬t.val / 7 % 9 + 36 ≤ 7 * (t.val % 7)) (h2 : ¬t.val % 63 = 55) (h3 : ¬t.val % 63 = 62) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans ((dif_neg h2).trans ((dif_neg h3).trans rfl)))

/-- `outsAt0` at a point of case B: that case's contents, over what the point before left. -/
theorem outsAt0_B (c : Dev nD) (t : Fin cfg0.N) (h0 : ¬t.val % 7 = 0) (h1 : ¬t.val / 7 % 9 + 36 ≤ 7 * (t.val % 7)) (h2 : ¬t.val % 63 = 55) (h3 : ¬t.val % 63 = 62) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- `outsAt0` at a point of case C: that case's contents, over what the point before left. -/
theorem outsAt0_C (c : Dev nD) (t : Fin cfg0.N) (h0 : ¬t.val % 7 = 0) (h1 : t.val / 7 % 9 + 36 ≤ 7 * (t.val % 7)) (h2 : ¬t.val % 63 = 55) (h3 : ¬t.val % 63 = 62) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.1, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case D: that case's contents, over what the point before left. -/
theorem outsAt0_D (c : Dev nD) (t : Fin cfg0.N) (h0 : ¬t.val % 7 = 0) (h1 : ¬t.val / 7 % 9 + 36 ≤ 7 * (t.val % 7)) (h2 : t.val % 63 = 55) (h3 : ¬t.val % 63 = 62) :
    outsAt0 m c t.val t.isLt = (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case E: that case's contents, over what the point before left. -/
theorem outsAt0_E (c : Dev nD) (t : Fin cfg0.N) (h0 : ¬t.val % 7 = 0) (h1 : ¬t.val / 7 % 9 + 36 ≤ 7 * (t.val % 7)) (h2 : ¬t.val % 63 = 55) (h3 : t.val % 63 = 62) :
    outsAt0 m c t.val t.isLt = (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, out0_E_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 63 := lt_of_lt_of_eq t.isLt (show cfg0.N = 63 from N_0)
  rw [after0_8, after0_8]
  by_cases h0 : t.val % 7 = 0
  · by_cases h1 : t.val / 7 % 9 + 36 ≤ 7 * (t.val % 7)
    · exfalso; omega
    · by_cases h2 : t.val % 63 = 55
      · exfalso; omega
      · by_cases h3 : t.val % 63 = 62
        · exfalso; omega
        · rw [outsAt0_A m c t h0 h1 h2 h3]
          dsimp only
          unfold out0_A_8
          rfl
  · by_cases h1 : t.val / 7 % 9 + 36 ≤ 7 * (t.val % 7)
    · by_cases h2 : t.val % 63 = 55
      · exfalso; omega
      · by_cases h3 : t.val % 63 = 62
        · exfalso; omega
        · rw [liveAt0_8_C t (fun h => h0 ((hcond0_0 t).mp h)) ((hcond0_1 t).mpr h1) (fun h => h2 ((hcond0_2 t).mp h)) (fun h => h3 ((hcond0_3 t).mp h))] at hi
          exact absurd hi Bool.false_ne_true
    · by_cases h2 : t.val % 63 = 55
      · by_cases h3 : t.val % 63 = 62
        · exfalso; omega
        · rw [outsAt0_D m c t h0 h1 h2 h3]
          dsimp only
          unfold out0_D_8
          rfl
      · by_cases h3 : t.val % 63 = 62
        · rw [outsAt0_E m c t h0 h1 h2 h3]
          dsimp only
          unfold out0_E_8
          rfl
        · rw [outsAt0_B m c t h0 h1 h2 h3]
          dsimp only
          unfold out0_B_8
          rfl

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 63 := lt_of_lt_of_eq t.isLt (show cfg0.N = 63 from N_0)
  rw [after0_9, after0_9]
  by_cases h0 : t.val % 7 = 0
  · by_cases h1 : t.val / 7 % 9 + 36 ≤ 7 * (t.val % 7)
    · exfalso; omega
    · by_cases h2 : t.val % 63 = 55
      · exfalso; omega
      · by_cases h3 : t.val % 63 = 62
        · exfalso; omega
        · rw [outsAt0_A m c t h0 h1 h2 h3]
          dsimp only
          unfold out0_A_9
          rfl
  · by_cases h1 : t.val / 7 % 9 + 36 ≤ 7 * (t.val % 7)
    · by_cases h2 : t.val % 63 = 55
      · exfalso; omega
      · by_cases h3 : t.val % 63 = 62
        · exfalso; omega
        · rw [outsAt0_C m c t h0 h1 h2 h3]
          dsimp only
          unfold out0_C_9
          rfl
    · by_cases h2 : t.val % 63 = 55
      · by_cases h3 : t.val % 63 = 62
        · exfalso; omega
        · rw [liveAt0_9_D t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 63 = 62
        · rw [outsAt0_E m c t h0 h1 h2 h3]
          dsimp only
          unfold out0_E_9
          rfl
        · rw [outsAt0_B m c t h0 h1 h2 h3]
          dsimp only
          unfold out0_B_9
          rfl
/-- At a point of case E output 8's current staging buffer holds what the point before left: the buffer is not fresh
    there. -/
theorem before0_8_E (c : Dev nD) (t : Fin cfg0.N) (h0 : ¬t.val % 7 = 0) (h1 : ¬t.val / 7 % 9 + 36 ≤ 7 * (t.val % 7)) (h2 : ¬t.val % 63 = 55) (h3 : t.val % 63 = 62) (d) :
    (dats m 0 c).before 8 t d = (outsAt0 m c (t.val - 1) (Nat.lt_of_le_of_lt (Nat.sub_le _ _) t.isLt)).1 := by
  rw [Dat.before_out_traj _ 8 rfl (fun _ _ => rfl) (hcarry0_8 m c) t.val t rfl d,
    if_neg (by rw [notFresh0_8_E t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case E output 9's current staging buffer holds what the point before left: the buffer is not fresh
    there. -/
theorem before0_9_E (c : Dev nD) (t : Fin cfg0.N) (h0 : ¬t.val % 7 = 0) (h1 : ¬t.val / 7 % 9 + 36 ≤ 7 * (t.val % 7)) (h2 : ¬t.val % 63 = 55) (h3 : t.val % 63 = 62) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_E t (fun h => h0 ((hcond0_0 t).mp h)) (fun h => h1 ((hcond0_1 t).mp h)) (fun h => h2 ((hcond0_2 t).mp h)) ((hcond0_3 t).mpr h3)]; exact Bool.false_ne_true)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 63 := lt_of_lt_of_eq t.isLt (show cfg0.N = 63 from N_0)
  by_cases h0 : t.val % 7 = 0
  · by_cases h1 : t.val / 7 % 9 + 36 ≤ 7 * (t.val % 7)
    · exfalso; omega
    · by_cases h2 : t.val % 63 = 55
      · exfalso; omega
      · by_cases h3 : t.val % 63 = 62
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [Dat.leavesExact_idle (dats m 0 c) 8 t (idleAt0_8_A t ((hcond0_0 t).mpr h0) (fun h => h1 ((hcond0_1 t).mp h)) (fun h => h2 ((hcond0_2 t).mp h)) (fun h => h3 ((hcond0_3 t).mp h))) (noFlush0_8_A t ((hcond0_0 t).mpr h0) (fun h => h1 ((hcond0_1 t).mp h)) (fun h => h2 ((hcond0_2 t).mp h)) (fun h => h3 ((hcond0_3 t).mp h)))]
          rw [Dat.leavesExact_idle (dats m 0 c) 9 t (idleAt0_9_A t ((hcond0_0 t).mpr h0) (fun h => h1 ((hcond0_1 t).mp h)) (fun h => h2 ((hcond0_2 t).mp h)) (fun h => h3 ((hcond0_3 t).mp h))) (noFlush0_9_A t ((hcond0_0 t).mpr h0) (fun h => h1 ((hcond0_1 t).mp h)) (fun h => h2 ((hcond0_2 t).mp h)) (fun h => h3 ((hcond0_3 t).mp h)))]
          rw [Dat.leavesExact_idle (dats m 0 c) 10 t (idleAt0_10_A t ((hcond0_0 t).mpr h0) (fun h => h1 ((hcond0_1 t).mp h)) (fun h => h2 ((hcond0_2 t).mp h)) (fun h => h3 ((hcond0_3 t).mp h))) (noFlush0_10_A t ((hcond0_0 t).mpr h0) (fun h => h1 ((hcond0_1 t).mp h)) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)).2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [HS0]; · iexact HS0
            isplitl [HS1]; · iexact HS1
            iintro ⟨H0, H1, H2, H3, H4, H5, H6, H7, H8, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            iexists _; iexact H10
          · rw [PhiS_castSucc m c t, PhiS_pos m c _ _ hz]
            rw [outsAt0_A m c t h0 h1 h2 h3]
            unfold sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)).2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [HS0]; · iexact HS0
            isplitl [HS1]; · iexists _; iexact HS1
            iintro ⟨H0, H1, H2, H3, H4, H5, H6, H7, H8, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            iexists _; iexact H10
  · by_cases h1 : t.val / 7 % 9 + 36 ≤ 7 * (t.val % 7)
    · by_cases h2 : t.val % 63 = 55
      · exfalso; omega
      · by_cases h3 : t.val % 63 = 62
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1) (fun h => h2 ((hcond0_2 t).mp h)) (fun h => h3 ((hcond0_3 t).mp h))], after0_8]
          rw [Dat.leavesExact_idle (dats m 0 c) 9 t (idleAt0_9_C t (fun h => h0 ((hcond0_0 t).mp h)) ((hcond0_1 t).mpr h1) (fun h => h2 ((hcond0_2 t).mp h)) (fun h => h3 ((hcond0_3 t).mp h))) (noFlush0_9_C t (fun h => h0 ((hcond0_0 t).mp h)) ((hcond0_1 t).mpr h1) (fun h => h2 ((hcond0_2 t).mp h)) (fun h => h3 ((hcond0_3 t).mp h)))]
          rw [Dat.leavesExact_idle (dats m 0 c) 10 t (idleAt0_10_C t (fun h => h0 ((hcond0_0 t).mp h)) ((hcond0_1 t).mpr h1) (fun h => h2 ((hcond0_2 t).mp h)) (fun h => h3 ((hcond0_3 t).mp h))) (noFlush0_10_C t (fun h => h0 ((hcond0_0 t).mp h)) ((hcond0_1 t).mpr h1) (fun h => h2 ((hcond0_2 t).mp h)) (fun h => h3 ((hcond0_3 t).mp h)))]
          by_cases hz : t.val = 0
          · exfalso; have hN : t.val < 63 := lt_of_lt_of_eq t.isLt (show cfg0.N = 63 from N_0); omega
          · rw [PhiS_castSucc m c t, PhiS_pos m c _ _ hz]
            rw [outsAt0_C m c t h0 h1 h2 h3]
            unfold out0_C_8 sout0_C_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _).2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexact H9
            isplitl [H10]; · iexact H10
            isplitl [HS0]; · iexact HS0
            isplitl [HS1]; · iexact HS1
            iintro ⟨H0, H1, H2, H3, H4, H5, H6, H7, ⟨%e8, H8⟩, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]
            · unfold owns; iexists _; isplitr
              swap; · iexact H8
              ipureintro; exact View.read_writes_of_cover _ _ _ _ _ (cover0_C_8 c _ _ _ _ _ _ _ _ _ _ _ _ _ _ _ _ _ _ _ _ _ _ _ _ _ _ _ _ _ _ _ _ _ _ _ _ _ _ _ _)
            isplitl [H9]; · iexists _; iexact H9
            iexists _; iexact H10
    · by_cases h2 : t.val % 63 = 55
      · by_cases h3 : t.val % 63 = 62
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [Dat.leavesExact_idle (dats m 0 c) 8 t (idleAt0_8_D t (fun h => h0 ((hcond0_0 t).mp h)) (fun h => h1 ((hcond0_1 t).mp h)) ((hcond0_2 t).mpr h2) (fun h => h3 ((hcond0_3 t).mp h))) (noFlush0_8_D t (fun h => h0 ((hcond0_0 t).mp h)) (fun h => h1 ((hcond0_1 t).mp h)) ((hcond0_2 t).mpr h2) (fun h => h3 ((hcond0_3 t).mp h)))]
          rw [show (dats m 0 c).leavesExact 9 t = owns (c : Thread nD τ) (ms0_9 t) fullShare ((dats m 0 c).after 9 t) from by
      unfold Dat.leavesExact; rw [liveAt0_9_D t (fun h => h0 ((hcond0_0 t).mp h)) (fun h => h1 ((hcond0_1 t).mp h)) ((hcond0_2 t).mpr h2) (fun h => h3 ((hcond0_3 t).mp h))], after0_9]
          rw [Dat.leavesExact_idle (dats m 0 c) 10 t (idleAt0_10_D t (fun h => h0 ((hcond0_0 t).mp h)) (fun h => h1 ((hcond0_1 t).mp h)) ((hcond0_2 t).mpr h2) (fun h => h3 ((hcond0_3 t).mp h))) (noFlush0_10_D t (fun h => h0 ((hcond0_0 t).mp h)) (fun h => h1 ((hcond0_1 t).mp h)) ((hcond0_2 t).mpr h2) (fun h => h3 ((hcond0_3 t).mp h)))]
          by_cases hz : t.val = 0
          · exfalso; have hN : t.val < 63 := lt_of_lt_of_eq t.isLt (show cfg0.N = 63 from N_0); omega
          · rw [PhiS_castSucc m c t, PhiS_pos m c _ _ hz]
            rw [outsAt0_D m c t h0 h1 h2 h3]
            unfold out0_D_9 sout0_D_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _).2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [HS0]; · iexact HS0
            isplitl [HS1]; · iexact HS1
            iintro ⟨H0, H1, H2, H3, H4, H5, H6, H7, H8, ⟨%e9, H9⟩, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]
            · unfold owns; iexists _; isplitr
              swap; · iexact H9
              ipureintro; exact View.read_writes_of_cover _ _ _ _ _ (cover0_D_9 c _ _ _ _ _ _ _ _ _ _ _ _ _ _ _ _ _ _ _ _ _ _ _ _ _ _ _ _ _ _ _ _ _ _ _ _ _ _ _ _)
            iexists _; iexact H10
      · by_cases h3 : t.val % 63 = 62
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [idleAt0_8_E t (fun h => h0 ((hcond0_0 t).mp h)) (fun h => h1 ((hcond0_1 t).mp h)) (fun h => h2 ((hcond0_2 t).mp h)) ((hcond0_3 t).mpr h3), flushAt0_8_E t (fun h => h0 ((hcond0_0 t).mp h)) (fun h => h1 ((hcond0_1 t).mp h)) (fun h => h2 ((hcond0_2 t).mp h)) ((hcond0_3 t).mpr h3)], after0_8]
          rw [show (dats m 0 c).leavesExact 9 t = owns (c : Thread nD τ) (ms0_9 t) fullShare ((dats m 0 c).after 9 t) from by
      unfold Dat.leavesExact; rw [idleAt0_9_E t (fun h => h0 ((hcond0_0 t).mp h)) (fun h => h1 ((hcond0_1 t).mp h)) (fun h => h2 ((hcond0_2 t).mp h)) ((hcond0_3 t).mpr h3), flushAt0_9_E t (fun h => h0 ((hcond0_0 t).mp h)) (fun h => h1 ((hcond0_1 t).mp h)) (fun h => h2 ((hcond0_2 t).mp h)) ((hcond0_3 t).mpr h3)], after0_9]
          rw [show (dats m 0 c).leavesExact 10 t = owns (c : Thread nD τ) (ms0_10 t) fullShare ((dats m 0 c).after 10 t) from by
      unfold Dat.leavesExact; rw [liveAt0_10_E t (fun h => h0 ((hcond0_0 t).mp h)) (fun h => h1 ((hcond0_1 t).mp h)) (fun h => h2 ((hcond0_2 t).mp h)) ((hcond0_3 t).mpr h3)], after0_10]
          by_cases hz : t.val = 0
          · exfalso; have hN : t.val < 63 := lt_of_lt_of_eq t.isLt (show cfg0.N = 63 from N_0); omega
          · rw [PhiS_castSucc m c t, PhiS_pos m c _ _ hz]
            rw [outsAt0_E m c t h0 h1 h2 h3]
            simp only [before0_8_E m c t h0 h1 h2 h3, before0_9_E m c t h0 h1 h2 h3]
            unfold out0_E_8 out0_E_9 out0_E_10 sout0_E_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_E c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _ _).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [HS0]; · iexact HS0
            isplitl [HS1]; · iexact HS1
            iintro ⟨H0, H1, H2, H3, H4, H5, H6, H7, H8, H9, ⟨%e10, H10⟩, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            unfold owns; iexists _; isplitr
            swap; · iexact H10
            ipureintro; exact View.read_writes_of_cover _ _ _ _ _ (cover0_E_10 c _ _ _ _ _ _ _ _ _ _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [Dat.leavesExact_idle (dats m 0 c) 8 t (idleAt0_8_B t (fun h => h0 ((hcond0_0 t).mp h)) (fun h => h1 ((hcond0_1 t).mp h)) (fun h => h2 ((hcond0_2 t).mp h)) (fun h => h3 ((hcond0_3 t).mp h))) (noFlush0_8_B t (fun h => h0 ((hcond0_0 t).mp h)) (fun h => h1 ((hcond0_1 t).mp h)) (fun h => h2 ((hcond0_2 t).mp h)) (fun h => h3 ((hcond0_3 t).mp h)))]
          rw [Dat.leavesExact_idle (dats m 0 c) 9 t (idleAt0_9_B t (fun h => h0 ((hcond0_0 t).mp h)) (fun h => h1 ((hcond0_1 t).mp h)) (fun h => h2 ((hcond0_2 t).mp h)) (fun h => h3 ((hcond0_3 t).mp h))) (noFlush0_9_B t (fun h => h0 ((hcond0_0 t).mp h)) (fun h => h1 ((hcond0_1 t).mp h)) (fun h => h2 ((hcond0_2 t).mp h)) (fun h => h3 ((hcond0_3 t).mp h)))]
          rw [Dat.leavesExact_idle (dats m 0 c) 10 t (idleAt0_10_B t (fun h => h0 ((hcond0_0 t).mp h)) (fun h => h1 ((hcond0_1 t).mp h)) (fun h => h2 ((hcond0_2 t).mp h)) (fun h => h3 ((hcond0_3 t).mp h))) (noFlush0_10_B t (fun h => h0 ((hcond0_0 t).mp h)) (fun h => h1 ((hcond0_1 t).mp h)) (fun h => h2 ((hcond0_2 t).mp h)) (fun h => h3 ((hcond0_3 t).mp h)))]
          by_cases hz : t.val = 0
          · exfalso; have hN : t.val < 63 := lt_of_lt_of_eq t.isLt (show cfg0.N = 63 from N_0); omega
          · rw [PhiS_castSucc m c t, PhiS_pos m c _ _ hz]
            rw [outsAt0_B m c t h0 h1 h2 h3]
            unfold sout0_B_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _).2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [HS0]; · iexact HS0
            isplitl [HS1]; · iexact HS1
            iintro ⟨H0, H1, H2, H3, H4, H5, H6, H7, H8, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 63 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelQkv`'s statement (Defs.lean) at any `F` — Proof.lean cites it at `Bits`:
    `theorem Cert.Proof.claim : Cert.Claim := ⟨Cert.KernelQkv.Gen.facts, fun m ρ _ => Cert.KernelQkv.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelQkv.Gen

end
-- ==== Proof.QkvIdealRun.Runs.lean ====
/- What the runs of the query/key/value projection's frame share: the body's branch conditions in closed form, where its
   output windows are idle, and the staging and scratch memrefs. -/
module

public import proofs.«01_k».proof.Proof.Gen.KernelQkvIdeal.Frame
public import proofs.«01_k».proof.Proof.Gen.KernelQkvIdeal.Skeleton
public import Idealize.ShloMosaic.Lib.Pipeline.TableIdle

@[expose] public section

-- membership in a rectangle with long axes
set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i0 + 36 ≤ 7·i1 — decided over the grid. -/
theorem hcond0_1 : ∀ t : Fin cfg0.N, cond0_1 (grid0.coords t) ↔ t.val / 7 % 9 + 36 ≤ 7 * (t.val % 7) :=
  (by decide +kernel : ∀ t : Fin grid0.N, cond0_1 (grid0.coords t) ↔ t.val / 7 % 9 + 36 ≤ 7 * (t.val % 7))

/-- The condition of the body's `scf.if` 2 (`k0_h3`), from the grid coordinates (the skeleton's scalar
    chain substituted). -/
abbrev cond0_2 (i : grid0.Coords) : Prop := k0_cond3 i = 1#1
/-- It holds at point 55 only — by arithmetic of the point. -/
theorem hcond0_2 : ∀ t : Fin cfg0.N, cond0_2 (grid0.coords t) ↔ t.val % 63 = 55 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 63 = 55)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 63 = 62 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_3, k0_cond4, e0, e1]
    word_cmp
   : ∀ t : Fin grid0.N, cond0_3 (grid0.coords t) ↔ t.val % 63 = 62)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ ¬cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- Case E's branch conditions on the grid, as one proposition. -/
abbrev conds0_E (i : grid0.Coords) : Prop := ¬cond0_0 i ∧ ¬cond0_1 i ∧ ¬cond0_2 i ∧ cond0_3 i
instance conds0_E.dec (i : grid0.Coords) : Decidable (conds0_E i) :=
  @instDecidableAnd _ _ inferInstance (@instDecidableAnd _ _ inferInstance (@instDecidableAnd _ _ inferInstance inferInstance))
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x4000ffffffffffff : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 idle: the case stores nothing into it. -/
theorem idleAt0_8_A : ∀ t : Fin cfg0.N, cond0_0 (grid0.coords t) → ¬cond0_1 (grid0.coords t) → ¬cond0_2 (grid0.coords t) → ¬cond0_3 (grid0.coords t) → cfg0.idle 8 (grid0.coords t) = true :=
  fun t h0 h1 h2 h3 => (by decide +kernel : ∀ t : Fin cfg0.N, conds0_A (grid0.coords t) → cfg0.idle 8 (grid0.coords t) = true) t ⟨h0, h1, h2, h3⟩
/-- At the points of case A the pipeline does not write output 8's block back. -/
theorem noFlush0_8_A : ∀ t : Fin cfg0.N, cond0_0 (grid0.coords t) → ¬cond0_1 (grid0.coords t) → ¬cond0_2 (grid0.coords t) → ¬cond0_3 (grid0.coords t) → (cfg0.win 8).flush t = false :=
  fun t h0 h1 h2 h3 => (by decide +kernel : ∀ t : Fin cfg0.N, conds0_A (grid0.coords t) → (cfg0.win 8).flush t = false) t ⟨h0, h1, h2, h3⟩
/-- At the points of case B the printed configuration (`Cfg.idle`) calls output 8 idle: the case stores nothing into it. -/
theorem idleAt0_8_B : ∀ t : Fin cfg0.N, ¬cond0_0 (grid0.coords t) → ¬cond0_1 (grid0.coords t) → ¬cond0_2 (grid0.coords t) → ¬cond0_3 (grid0.coords t) → cfg0.idle 8 (grid0.coords t) = true :=
  fun t h0 h1 h2 h3 => (by decide +kernel : ∀ t : Fin cfg0.N, conds0_B (grid0.coords t) → cfg0.idle 8 (grid0.coords t) = true) t ⟨h0, h1, h2, h3⟩
/-- At the points of case B the pipeline does not write output 8's block back. -/
theorem noFlush0_8_B : ∀ t : Fin cfg0.N, ¬cond0_0 (grid0.coords t) → ¬cond0_1 (grid0.coords t) → ¬cond0_2 (grid0.coords t) → ¬cond0_3 (grid0.coords t) → (cfg0.win 8).flush t = false :=
  fun t h0 h1 h2 h3 => (by decide +kernel : ∀ t : Fin cfg0.N, conds0_B (grid0.coords t) → (cfg0.win 8).flush t = false) t ⟨h0, h1, h2, h3⟩
/-- At the points of case C the printed configuration (`Cfg.idle`) calls output 8 live: the case stores into it. -/
theorem liveAt0_8_C : ∀ t : Fin cfg0.N, ¬cond0_0 (grid0.coords t) → cond0_1 (grid0.coords t) → ¬cond0_2 (grid0.coords t) → ¬cond0_3 (grid0.coords t) → cfg0.idle 8 (grid0.coords t) = false :=
  fun t h0 h1 h2 h3 => (by decide +kernel : ∀ t : Fin cfg0.N, conds0_C (grid0.coords t) → cfg0.idle 8 (grid0.coords t) = false) t ⟨h0, h1, h2, h3⟩
/-- At the points of case D the printed configuration (`Cfg.idle`) calls output 8 idle: the case stores nothing into it. -/
theorem idleAt0_8_D : ∀ t : Fin cfg0.N, ¬cond0_0 (grid0.coords t) → ¬cond0_1 (grid0.coords t) → cond0_2 (grid0.coords t) → ¬cond0_3 (grid0.coords t) → cfg0.idle 8 (grid0.coords t) = true :=
  fun t h0 h1 h2 h3 => (by decide +kernel : ∀ t : Fin cfg0.N, conds0_D (grid0.coords t) → cfg0.idle 8 (grid0.coords t) = true) t ⟨h0, h1, h2, h3⟩
/-- At the points of case D the pipeline does not write output 8's block back. -/
theorem noFlush0_8_D : ∀ t : Fin cfg0.N, ¬cond0_0 (grid0.coords t) → ¬cond0_1 (grid0.coords t) → cond0_2 (grid0.coords t) → ¬cond0_3 (grid0.coords t) → (cfg0.win 8).flush t = false :=
  fun t h0 h1 h2 h3 => (by decide +kernel : ∀ t : Fin cfg0.N, conds0_D (grid0.coords t) → (cfg0.win 8).flush t = false) t ⟨h0, h1, h2, h3⟩
/-- At the points of case E the printed configuration (`Cfg.idle`) calls output 8 live: the case stores into it. -/
theorem idleAt0_8_E : ∀ t : Fin cfg0.N, ¬cond0_0 (grid0.coords t) → ¬cond0_1 (grid0.coords t) → ¬cond0_2 (grid0.coords t) → cond0_3 (grid0.coords t) → cfg0.idle 8 (grid0.coords t) = true :=
  fun t h0 h1 h2 h3 => (by decide +kernel : ∀ t : Fin cfg0.N, conds0_E (grid0.coords t) → cfg0.idle 8 (grid0.coords t) = true) t ⟨h0, h1, h2, h3⟩
/-- At the points of case E the pipeline writes output 8's block back, though the case stores nothing into it. -/
theorem flushAt0_8_E : ∀ t : Fin cfg0.N, ¬cond0_0 (grid0.coords t) → ¬cond0_1 (grid0.coords t) → ¬cond0_2 (grid0.coords t) → cond0_3 (grid0.coords t) → (cfg0.win 8).flush t = true :=
  fun t h0 h1 h2 h3 => (by decide +kernel : ∀ t : Fin cfg0.N, conds0_E (grid0.coords t) → (cfg0.win 8).flush t = true) t ⟨h0, h1, h2, h3⟩
/-- At the points of case E, which keeps output 8's prior contents (reads it before covering, or covers it in part), the
    window's buffer is not FRESH: something was stored into it since the region's entry or its last write-back, idle points
    between or not. -/
theorem notFresh0_8_E : ∀ t : Fin cfg0.N, ¬cond0_0 (grid0.coords t) → ¬cond0_1 (grid0.coords t) → ¬cond0_2 (grid0.coords t) → cond0_3 (grid0.coords t) → cfg0.fresh 8 t.val = false :=
  fun t h0 h1 h2 h3 => (by intro t; rw [fresh0_8_eq t]; revert t; decide +kernel : ∀ t : Fin cfg0.N, conds0_E (grid0.coords t) → cfg0.fresh 8 t.val = false) t ⟨h0, h1, h2, h3⟩
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x407fffffffffffff : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 idle: the case stores nothing into it. -/
theorem idleAt0_9_A : ∀ t : Fin cfg0.N, cond0_0 (grid0.coords t) → ¬cond0_1 (grid0.coords t) → ¬cond0_2 (grid0.coords t) → ¬cond0_3 (grid0.coords t) → cfg0.idle 9 (grid0.coords t) = true :=
  fun t h0 h1 h2 h3 => (by decide +kernel : ∀ t : Fin cfg0.N, conds0_A (grid0.coords t) → cfg0.idle 9 (grid0.coords t) = true) t ⟨h0, h1, h2, h3⟩
/-- At the points of case A the pipeline does not write output 9's block back. -/
theorem noFlush0_9_A : ∀ t : Fin cfg0.N, cond0_0 (grid0.coords t) → ¬cond0_1 (grid0.coords t) → ¬cond0_2 (grid0.coords t) → ¬cond0_3 (grid0.coords t) → (cfg0.win 9).flush t = false :=
  fun t h0 h1 h2 h3 => (by decide +kernel : ∀ t : Fin cfg0.N, conds0_A (grid0.coords t) → (cfg0.win 9).flush t = false) t ⟨h0, h1, h2, h3⟩
/-- At the points of case B the printed configuration (`Cfg.idle`) calls output 9 idle: the case stores nothing into it. -/
theorem idleAt0_9_B : ∀ t : Fin cfg0.N, ¬cond0_0 (grid0.coords t) → ¬cond0_1 (grid0.coords t) → ¬cond0_2 (grid0.coords t) → ¬cond0_3 (grid0.coords t) → cfg0.idle 9 (grid0.coords t) = true :=
  fun t h0 h1 h2 h3 => (by decide +kernel : ∀ t : Fin cfg0.N, conds0_B (grid0.coords t) → cfg0.idle 9 (grid0.coords t) = true) t ⟨h0, h1, h2, h3⟩
/-- At the points of case B the pipeline does not write output 9's block back. -/
theorem noFlush0_9_B : ∀ t : Fin cfg0.N, ¬cond0_0 (grid0.coords t) → ¬cond0_1 (grid0.coords t) → ¬cond0_2 (grid0.coords t) → ¬cond0_3 (grid0.coords t) → (cfg0.win 9).flush t = false :=
  fun t h0 h1 h2 h3 => (by decide +kernel : ∀ t : Fin cfg0.N, conds0_B (grid0.coords t) → (cfg0.win 9).flush t = false) t ⟨h0, h1, h2, h3⟩
/-- At the points of case C the printed configuration (`Cfg.idle`) calls output 9 idle: the case stores nothing into it. -/
theorem idleAt0_9_C : ∀ t : Fin cfg0.N, ¬cond0_0 (grid0.coords t) → cond0_1 (grid0.coords t) → ¬cond0_2 (grid0.coords t) → ¬cond0_3 (grid0.coords t) → cfg0.idle 9 (grid0.coords t) = true :=
  fun t h0 h1 h2 h3 => (by decide +kernel : ∀ t : Fin cfg0.N, conds0_C (grid0.coords t) → cfg0.idle 9 (grid0.coords t) = true) t ⟨h0, h1, h2, h3⟩
/-- At the points of case C the pipeline does not write output 9's block back. -/
theorem noFlush0_9_C : ∀ t : Fin cfg0.N, ¬cond0_0 (grid0.coords t) → cond0_1 (grid0.coords t) → ¬cond0_2 (grid0.coords t) → ¬cond0_3 (grid0.coords t) → (cfg0.win 9).flush t = false :=
  fun t h0 h1 h2 h3 => (by decide +kernel : ∀ t : Fin cfg0.N, conds0_C (grid0.coords t) → (cfg0.win 9).flush t = false) t ⟨h0, h1, h2, h3⟩
/-- At the points of case D the printed configuration (`Cfg.idle`) calls output 9 live: the case stores into it. -/
theorem liveAt0_9_D : ∀ t : Fin cfg0.N, ¬cond0_0 (grid0.coords t) → ¬cond0_1 (grid0.coords t) → cond0_2 (grid0.coords t) → ¬cond0_3 (grid0.coords t) → cfg0.idle 9 (grid0.coords t) = false :=
  fun t h0 h1 h2 h3 => (by decide +kernel : ∀ t : Fin cfg0.N, conds0_D (grid0.coords t) → cfg0.idle 9 (grid0.coords t) = false) t ⟨h0, h1, h2, h3⟩
/-- At the points of case E the printed configuration (`Cfg.idle`) calls output 9 live: the case stores into it. -/
theorem idleAt0_9_E : ∀ t : Fin cfg0.N, ¬cond0_0 (grid0.coords t) → ¬cond0_1 (grid0.coords t) → ¬cond0_2 (grid0.coords t) → cond0_3 (grid0.coords t) → cfg0.idle 9 (grid0.coords t) = true :=
  fun t h0 h1 h2 h3 => (by decide +kernel : ∀ t : Fin cfg0.N, conds0_E (grid0.coords t) → cfg0.idle 9 (grid0.coords t) = true) t ⟨h0, h1, h2, h3⟩
/-- At the points of case E the pipeline writes output 9's block back, though the case stores nothing into it. -/
theorem flushAt0_9_E : ∀ t : Fin cfg0.N, ¬cond0_0 (grid0.coords t) → ¬cond0_1 (grid0.coords t) → ¬cond0_2 (grid0.coords t) → cond0_3 (grid0.coords t) → (cfg0.win 9).flush t = true :=
  fun t h0 h1 h2 h3 => (by decide +kernel : ∀ t : Fin cfg0.N, conds0_E (grid0.coords t) → (cfg0.win 9).flush t = true) t ⟨h0, h1, h2, h3⟩
/-- At the points of case E, which keeps output 9's prior contents (reads it before covering, or covers it in part), the
    window's buffer is not FRESH: something was stored into it since the region's entry or its last write-back, idle points
    between or not. -/
theorem notFresh0_9_E : ∀ t : Fin cfg0.N, ¬cond0_0 (grid0.coords t) → ¬cond0_1 (grid0.coords t) → ¬cond0_2 (grid0.coords t) → cond0_3 (grid0.coords t) → cfg0.fresh 9 t.val = false :=
  fun t h0 h1 h2 h3 => (by intro t; rw [fresh0_9_eq t]; revert t; decide +kernel : ∀ t : Fin cfg0.N, conds0_E (grid0.coords t) → cfg0.fresh 9 t.val = false) t ⟨h0, h1, h2, h3⟩
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → ¬cond0_3 (grid0.coords t) → cfg0.idle 10 (grid0.coords t) = true :=
  fun t h0 h1 h2 h3 => (by decide +kernel : ∀ t : Fin cfg0.N, conds0_A (grid0.coords t) → cfg0.idle 10 (grid0.coords t) = true) t ⟨h0, h1, h2, h3⟩
/-- At the points of case A the pipeline does not write output 10's block back. -/
theorem noFlush0_10_A : ∀ t : Fin cfg0.N, cond0_0 (grid0.coords t) → ¬cond0_1 (grid0.coords t) → ¬cond0_2 (grid0.coords t) → ¬cond0_3 (grid0.coords t) → (cfg0.win 10).flush t = false :=
  fun t h0 h1 h2 h3 => (by decide +kernel : ∀ t : Fin cfg0.N, conds0_A (grid0.coords t) → (cfg0.win 10).flush t = false) t ⟨h0, h1, h2, h3⟩
/-- At the points of case B the printed configuration (`Cfg.idle`) calls output 10 idle: the case stores nothing into it. -/
theorem idleAt0_10_B : ∀ t : Fin cfg0.N, ¬cond0_0 (grid0.coords t) → ¬cond0_1 (grid0.coords t) → ¬cond0_2 (grid0.coords t) → ¬cond0_3 (grid0.coords t) → cfg0.idle 10 (grid0.coords t) = true :=
  fun t h0 h1 h2 h3 => (by decide +kernel : ∀ t : Fin cfg0.N, conds0_B (grid0.coords t) → cfg0.idle 10 (grid0.coords t) = true) t ⟨h0, h1, h2, h3⟩
/-- At the points of case B the pipeline does not write output 10's block back. -/
theorem noFlush0_10_B : ∀ t : Fin cfg0.N, ¬cond0_0 (grid0.coords t) → ¬cond0_1 (grid0.coords t) → ¬cond0_2 (grid0.coords t) → ¬cond0_3 (grid0.coords t) → (cfg0.win 10).flush t = false :=
  fun t h0 h1 h2 h3 => (by decide +kernel : ∀ t : Fin cfg0.N, conds0_B (grid0.coords t) → (cfg0.win 10).flush t = false) t ⟨h0, h1, h2, h3⟩
/-- At the points of case C the printed configuration (`Cfg.idle`) calls output 10 idle: the case stores nothing into it. -/
theorem idleAt0_10_C : ∀ t : Fin cfg0.N, ¬cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_C (grid0.coords t) → cfg0.idle 10 (grid0.coords t) = true) t ⟨h0, h1, h2, h3⟩
/-- At the points of case C the pipeline does not write output 10's block back. -/
theorem noFlush0_10_C : ∀ t : Fin cfg0.N, ¬cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_C (grid0.coords t) → (cfg0.win 10).flush t = false) t ⟨h0, h1, h2, h3⟩
/-- At the points of case D the printed configuration (`Cfg.idle`) calls output 10 idle: the case stores nothing into it. -/
theorem idleAt0_10_D : ∀ t : Fin cfg0.N, ¬cond0_0 (grid0.coords t) → ¬cond0_1 (grid0.coords t) → cond0_2 (grid0.coords t) → ¬cond0_3 (grid0.coords t) → cfg0.idle 10 (grid0.coords t) = true :=
  fun t h0 h1 h2 h3 => (by decide +kernel : ∀ t : Fin cfg0.N, conds0_D (grid0.coords t) → cfg0.idle 10 (grid0.coords t) = true) t ⟨h0, h1, h2, h3⟩
/-- At the points of case D the pipeline does not write output 10's block back. -/
theorem noFlush0_10_D : ∀ t : Fin cfg0.N, ¬cond0_0 (grid0.coords t) → ¬cond0_1 (grid0.coords t) → cond0_2 (grid0.coords t) → ¬cond0_3 (grid0.coords t) → (cfg0.win 10).flush t = false :=
  fun t h0 h1 h2 h3 => (by decide +kernel : ∀ t : Fin cfg0.N, conds0_D (grid0.coords t) → (cfg0.win 10).flush t = false) t ⟨h0, h1, h2, h3⟩
/-- At the points of case E the printed configuration (`Cfg.idle`) calls output 10 live: the case stores into it. -/
theorem liveAt0_10_E : ∀ t : Fin cfg0.N, ¬cond0_0 (grid0.coords t) → ¬cond0_1 (grid0.coords t) → ¬cond0_2 (grid0.coords t) → cond0_3 (grid0.coords t) → cfg0.idle 10 (grid0.coords t) = false :=
  fun t h0 h1 h2 h3 => (by decide +kernel : ∀ t : Fin cfg0.N, conds0_E (grid0.coords t) → cfg0.idle 10 (grid0.coords t) = false) t ⟨h0, h1, h2, h3⟩

/-! ## The kernel body on any staging memrefs: a subtype the run finds -/

/-- One staging buffer of output window 8, through which its contents are stated (`View.read_writes_of_cover`: the
    choice does not matter). -/
abbrev VO0_8 : View sig .tc .vmem S2496x1024 .bf16 := (Memref.whole cc0_stg8_0 : Memref sig .tc .vmem S2496x1024 .bf16).view
/-- One staging buffer of output window 9, through which its contents are stated (`View.read_writes_of_cover`: the
    choice does not matter). -/
abbrev VO0_9 : View sig .tc .vmem S2496x1024 .fp8e4m3 := (Memref.whole cc0_stg9_0 : Memref sig .tc .vmem S2496x1024 .fp8e4m3).view
/-- One staging buffer of output window 10, through which its contents are stated (`View.read_writes_of_cover`: the
    choice does not matter). -/
abbrev VO0_10 : View sig .tc .vmem S2496x1024 .fp8e4m3 := (Memref.whole cc0_stg10_0 : Memref sig .tc .vmem S2496x1024 .fp8e4m3).view
/-- Each window's current staging memref at point `t`, spelled as the pipeline passes it (`bodyAt0`), and its wholeness. -/
abbrev ms0_0 (t : Fin cfg0.N) : Memref sig .tc .vmem S2496x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2496x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2496x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2496x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2496x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2496x1024 .fp8e4m3 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1024 .bf16 := Memref.whole cc0_scratch0
abbrev scM0_1 : Memref sig .tc .vmem S2496x1024 .f32 := Memref.whole cc0_scratch1
/-- The scratch `arg14` the kernel carries between points, as a view: what it holds is stated through it. -/
abbrev VS0_1 : View sig .tc .vmem S2496x1024 .f32 := scM0_1.view

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelQkvIdeal.Gen

end
-- ==== Proof.QkvIdealRun.RunA.lean ====
/- The run of the query/key/value projection's body in case A of its branch conditions, at the ideal numbers: the body's triple, with the
   pieces each buffer ends with as its witness. -/
module

public import proofs.«01_k».proof.Proof.QkvIdealRun.Runs

@[expose] public section

-- membership in a rectangle with long axes
set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1516000 in
/-- What the body's stores leave in each output's staging memref, as pieces (last first) IN CASE A (`scf.if` 0 taken, `scf.if` 1 not taken, `scf.if` 2 not taken, `scf.if` 3 not taken: points 0, 7, … 56: 9 of 63), WITH the
    proof that on whole staging memrefs — the inputs' at their contents, the outputs it leaves idle (8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi8 : Vec F S2496x1024 .bf16) (xi9 : Vec F S2496x1024 .fp8e4m3) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], [], [], ?_, ?_, fun xi8 xi9 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelQkvIdeal.Gen

end
-- ==== Proof.QkvIdealRun.RunB.lean ====
/- The run of the query/key/value projection's body in case B of its branch conditions, at the ideal numbers: the body's triple, with the
   pieces each buffer ends with as its witness. -/
module

public import proofs.«01_k».proof.Proof.QkvIdealRun.RunA

@[expose] public section

-- membership in a rectangle with long axes
set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1504000 in
/-- What the body's stores leave in each output's staging memref, as pieces (last first) IN CASE B (`scf.if` 0 not taken, `scf.if` 1 not taken, `scf.if` 2 not taken, `scf.if` 3 not taken: points 1, 2, … 61: 45 of 63), WITH the
    proof that on whole staging memrefs — the inputs' at their contents, the outputs it leaves idle (8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi8 : Vec F S2496x1024 .bf16) (xi9 : Vec F S2496x1024 .fp8e4m3) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], [], [], ?_, ?_, fun xi8 xi9 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelQkvIdeal.Gen

end
-- ==== Proof.QkvIdealRun.RunC.lean ====
/- The run of the query/key/value projection's body in case C of its branch conditions, at the ideal numbers: the body's triple, with the
   pieces each buffer ends with as its witness. -/
module

public import proofs.«01_k».proof.Proof.QkvIdealRun.RunB

@[expose] public section

-- membership in a rectangle with long axes
set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1680000 in
/-- What the body's stores leave in each output's staging memref, as pieces (last first) IN CASE C (`scf.if` 0 not taken, `scf.if` 1 taken, `scf.if` 2 not taken, `scf.if` 3 not taken: points 6, 13, … 48: 7 of 63), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi9 : Vec F S2496x1024 .fp8e4m3) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, fun xi9 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelQkvIdeal.Gen

end
-- ==== Proof.QkvIdealRun.RunD.lean ====
/- The run of the query/key/value projection's body in case D of its branch conditions, at the ideal numbers: the body's triple, with the
   pieces each buffer ends with as its witness. -/
module

public import proofs.«01_k».proof.Proof.QkvIdealRun.RunC

@[expose] public section

-- membership in a rectangle with long axes
set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1728000 in
/-- What the body's stores leave in each output's staging memref, as pieces (last first) IN CASE D (`scf.if` 0 not taken, `scf.if` 1 not taken, `scf.if` 2 taken, `scf.if` 3 not taken: points 55), WITH the
    proof that on whole staging memrefs — the inputs' at their contents, the outputs it leaves idle (8, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_D (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (xi8 : Vec F S2496x1024 .bf16) (xi10 : Vec F S2496x1024 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ owns (c : Thread nD τ) arg12 fullShare xi10 ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ owns (c : Thread nD τ) arg12 fullShare xi10 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], ?_, [], ?_, ?_, fun xi8 xi10 E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [HS0]; · iexists _; iexact HS0
    iexists _; iexact HS1

end Cert.KernelQkvIdeal.Gen

end
-- ==== Proof.QkvIdealRun.RunE.lean ====
/- The run of the query/key/value projection's body in case E of its branch conditions, at the ideal numbers: the body's triple, with the
   pieces each buffer ends with as its witness. -/
module

public import proofs.«01_k».proof.Proof.QkvIdealRun.RunD

@[expose] public section

-- membership in a rectangle with long axes
set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1648000 in
/-- What the body's stores leave in each output's staging memref, as pieces (last first) IN CASE E (`scf.if` 0 not taken, `scf.if` 1 not taken, `scf.if` 2 not taken, `scf.if` 3 taken: points 62), WITH the
    proof that on whole staging memrefs — the inputs' at their contents, the outputs it reads before covering (8, 9) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_E (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) (xo9 : Vec F S2496x1024 .fp8e4m3) (xs1 : Vec F S2496x1024 .f32) :
    Σ' (L8 : List (View.Piece (Elt F) S2496x1024 .bf16)), Σ' (L9 : List (View.Piece (Elt F) S2496x1024 .fp8e4m3)), Σ' (L10 : List (View.Piece (Elt F) S2496x1024 .fp8e4m3)), Σ' (LS1 : List (View.Piece (Elt F) S2496x1024 .f32)), { LT0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ (∃ d, owns (c : Thread nD τ) arg12 fullShare d) ∗ (∃ d, owns (c : Thread nD τ) arg13 fullShare d) ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, ?_, fun E K => ?run⟩
  case run =>
    simp only [cc0_qkv_eq_skeleton]; unfold cc0_qkv_skel
    simp only [k0_part44_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    iexists _; iexact HS1

end Cert.KernelQkvIdeal.Gen

end
-- ==== Proof.QkvIdealRun.Frame.lean ====
/- The frame of the query/key/value projection at the ideal numbers: what its outputs and its accumulator hold after each grid point, in the
   five cases of the body's branch conditions, the body obligation at every point, the run and the frame claim. The text follows
   the generated frames of the other calls; the one step that is new is the write-back of the query and key blocks at the last
   point (case E), where the body stores nothing into them and their buffers still hold what an earlier point left. -/
module

public import proofs.«01_k».proof.Proof.QkvIdealRun.RunE
public import Idealize.ShloMosaic.Lib.Claim

@[expose] public section

-- membership in a rectangle with long axes
set_option maxRecDepth 16384

noncomputable section

namespace Cert.KernelQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case A stores nothing into output 8: its buffer holds what the point before left. -/
def out0_A_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) : Vec F S2496x1024 .bf16 := xo8

/-- Case A stores nothing into output 9: its buffer holds what the point before left. -/
def out0_A_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo9 : Vec F S2496x1024 .fp8e4m3) : Vec F S2496x1024 .fp8e4m3 := xo9

/-- Case A stores nothing into output 10. -/
def out0_A_10 : Vec F S2496x1024 .fp8e4m3 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.1)

/-- Case A's stores cover scratch `arg14`. -/
theorem scover0_A_1 (y : S2496x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.1 S2496x1024.size (by sl_kernel_rfl) y

/-- What case A leaves in scratch `arg14`: its pieces read back over junk. -/
def sout0_A_1 : Vec F S2496x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case B stores nothing into output 8: its buffer holds what the point before left. -/
def out0_B_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo8 : Vec F S2496x1024 .bf16) : Vec F S2496x1024 .bf16 := xo8

/-- Case B stores nothing into output 9: its buffer holds what the point before left. -/
def out0_B_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo9 : Vec F S2496x1024 .fp8e4m3) : Vec F S2496x1024 .fp8e4m3 := xo9

/-- Case B stores nothing into output 10. -/
def out0_B_10 (xs1 : Vec F S2496x1024 .f32) : Vec F S2496x1024 .fp8e4m3 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.1)

/-- Case B's stores cover scratch `arg14`. -/
theorem scover0_B_1 (xs1 : Vec F S2496x1024 .f32) (y : S2496x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1 S2496x1024.size (by sl_kernel_rfl) y

/-- What case B leaves in scratch `arg14`: its pieces read back over junk. -/
def sout0_B_1 (xs1 : Vec F S2496x1024 .f32) : Vec F S2496x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case C's stores cover output 8. -/
theorem cover0_C_8 (xs1 : Vec F S2496x1024 .f32) (y : S2496x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).1 S2496x128.size (by sl_kernel_rfl) y

/-- What case C leaves in output 8's staging buffer: its pieces read back over junk. -/
def out0_C_8 (xs1 : Vec F S2496x1024 .f32) : Vec F S2496x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).1)

/-- Case C stores nothing into output 9: its buffer holds what the point before left. -/
def out0_C_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : cond0_1 i) (hc2 : ¬cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo9 : Vec F S2496x1024 .fp8e4m3) : Vec F S2496x1024 .fp8e4m3 := xo9

/-- Case C stores nothing into output 10. -/
def out0_C_10 (xs1 : Vec F S2496x1024 .f32) : Vec F S2496x1024 .fp8e4m3 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.1)

/-- Case C's stores cover scratch `arg14`. -/
theorem scover0_C_1 (xs1 : Vec F S2496x1024 .f32) (y : S2496x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1 S2496x1024.size (by sl_kernel_rfl) y

/-- What case C leaves in scratch `arg14`: its pieces read back over junk. -/
def sout0_C_1 (xs1 : Vec F S2496x1024 .f32) : Vec F S2496x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case D stores nothing into output 8: its buffer holds what the point before left. -/
def out0_D_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : cond0_2 i) (hc3 : ¬cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xs1 : Vec F S2496x1024 .f32) (xo8 : Vec F S2496x1024 .bf16) : Vec F S2496x1024 .bf16 := xo8

/-- Case D's stores cover output 9. -/
theorem cover0_D_9 (xs1 : Vec F S2496x1024 .f32) (y : S2496x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.1 S2496x128.size (by sl_kernel_rfl) y

/-- What case D leaves in output 9's staging buffer: its pieces read back over junk. -/
def out0_D_9 (xs1 : Vec F S2496x1024 .f32) : Vec F S2496x1024 .fp8e4m3 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.1)

/-- Case D stores nothing into output 10. -/
def out0_D_10 (xs1 : Vec F S2496x1024 .f32) : Vec F S2496x1024 .fp8e4m3 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.1)

/-- Case D's stores cover scratch `arg14`. -/
theorem scover0_D_1 (xs1 : Vec F S2496x1024 .f32) (y : S2496x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1 S2496x1024.size (by sl_kernel_rfl) y

/-- What case D leaves in scratch `arg14`: its pieces read back over junk. -/
def sout0_D_1 (xs1 : Vec F S2496x1024 .f32) : Vec F S2496x1024 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1).2.2.2.1)

end

section
variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32)

/-- Case E stores nothing into output 8: its buffer holds what the point before left. -/
def out0_E_8 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) (xo9 : Vec F S2496x1024 .fp8e4m3) (xs1 : Vec F S2496x1024 .f32) : Vec F S2496x1024 .bf16 := xo8

/-- Case E stores nothing into output 9: its buffer holds what the point before left. -/
def out0_E_9 (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole) (hc0 : ¬cond0_0 i) (hc1 : ¬cond0_1 i) (hc2 : ¬cond0_2 i) (hc3 : cond0_3 i)
    (x0 : Vec F S2496x1024 .bf16) (x1 : Vec F S1024x128 .i32) (x2 : Vec F S8x128 .i32) (x3 : Vec F S8x1024 .f32) (x4 : Vec F S2496x128 .f32) (x5 : Vec F S2496x128 .f32) (x6 : Vec F S1x1024 .f32) (x7 : Vec F S1x1024 .f32) (xo8 : Vec F S2496x1024 .bf16) (xo9 : Vec F S2496x1024 .fp8e4m3) (xs1 : Vec F S2496x1024 .f32) : Vec F S2496x1024 .fp8e4m3 := xo9

/-- Case E's stores cover output 10. -/
theorem cover0_E_10 (xo8 : Vec F S2496x1024 .bf16) (xo9 : Vec F S2496x1024 .fp8e4m3) (xs1 : Vec F S2496x1024 .f32) (y : S2496x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.1 S2496x128.size (by sl_kernel_rfl) y

/-- What case E leaves in output 10's staging buffer: its pieces read back over junk. -/
def out0_E_10 (xo8 : Vec F S2496x1024 .bf16) (xo9 : Vec F S2496x1024 .fp8e4m3) (xs1 : Vec F S2496x1024 .f32) : Vec F S2496x1024 .fp8e4m3 :=
  VO0_10.read (Elt F) (VO0_10.writes (Elt F) VO0_10.junk (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.1)

/-- Case E's stores cover scratch `arg14`. -/
theorem scover0_E_1 (xo8 : Vec F S2496x1024 .bf16) (xo9 : Vec F S2496x1024 .fp8e4m3) (xs1 : Vec F S2496x1024 .f32) (y : S2496x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.2.1 S2496x1024.size (by sl_kernel_rfl) y

/-- What case E leaves in scratch `arg14`: its pieces read back over junk. -/
def sout0_E_1 (xo8 : Vec F S2496x1024 .bf16) (xo9 : Vec F S2496x1024 .fp8e4m3) (xs1 : Vec F S2496x1024 .f32) : Vec F S2496x1024 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1).2.2.2.1)

/-! ## What the outputs hold after each point -/

end

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2496x1024 .bf16 × Vec F S2496x1024 .fp8e4m3 × Vec F S2496x1024 .fp8e4m3 × Vec F S2496x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((VO0_8.read (Elt F) VO0_8.junk, VO0_9.read (Elt F) VO0_9.junk, VO0_10.read (Elt F) VO0_10.junk, VS0_1.read (Elt F) VS0_1.junk) : Vec F S2496x1024 .bf16 × Vec F S2496x1024 .fp8e4m3 × Vec F S2496x1024 .fp8e4m3 × Vec F S2496x1024 .f32).1, out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((VO0_8.read (Elt F) VO0_8.junk, VO0_9.read (Elt F) VO0_9.junk, VO0_10.read (Elt F) VO0_10.junk, VS0_1.read (Elt F) VS0_1.junk) : Vec F S2496x1024 .bf16 × Vec F S2496x1024 .fp8e4m3 × Vec F S2496x1024 .fp8e4m3 × Vec F S2496x1024 .f32).2.1, out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 7 = 0 then
      if h1 : (n + 1) / 7 % 9 + 36 ≤ 7 * ((n + 1) % 7) then
        False.elim (by have hN : n + 1 < 63 := lt_of_lt_of_eq hn (show cfg0.N = 63 from N_0); omega)
      else
        if h2 : (n + 1) % 63 = 55 then
          False.elim (by have hN : n + 1 < 63 := lt_of_lt_of_eq hn (show cfg0.N = 63 from N_0); omega)
        else
          if h3 : (n + 1) % 63 = 62 then
            False.elim (by have hN : n + 1 < 63 := lt_of_lt_of_eq hn (show cfg0.N = 63 from N_0); omega)
          else
            (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1, out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) / 7 % 9 + 36 ≤ 7 * ((n + 1) % 7) then
        if h2 : (n + 1) % 63 = 55 then
          False.elim (by have hN : n + 1 < 63 := lt_of_lt_of_eq hn (show cfg0.N = 63 from N_0); omega)
        else
          if h3 : (n + 1) % 63 = 62 then
            False.elim (by have hN : n + 1 < 63 := lt_of_lt_of_eq hn (show cfg0.N = 63 from N_0); omega)
          else
            (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).2.1, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
      else
        if h2 : (n + 1) % 63 = 55 then
          if h3 : (n + 1) % 63 = 62 then
            False.elim (by have hN : n + 1 < 63 := lt_of_lt_of_eq hn (show cfg0.N = 63 from N_0); omega)
          else
            (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
        else
          if h3 : (n + 1) % 63 = 62 then
            (out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2, out0_E_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2, out0_E_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.2)
          else
            (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)

/-- `outsAt0` at a point of case A: that case's contents, over what the point before left. -/
theorem outsAt0_A (c : Dev nD) (t : Fin cfg0.N) (h0 : t.val % 7 = 0) (h1 : ¬t.val / 7 % 9 + 36 ≤ 7 * (t.val % 7)) (h2 : ¬t.val % 63 = 55) (h3 : ¬t.val % 63 = 62) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans ((dif_neg h2).trans ((dif_neg h3).trans rfl)))

/-- `outsAt0` at a point of case B: that case's contents, over what the point before left. -/
theorem outsAt0_B (c : Dev nD) (t : Fin cfg0.N) (h0 : ¬t.val % 7 = 0) (h1 : ¬t.val / 7 % 9 + 36 ≤ 7 * (t.val % 7)) (h2 : ¬t.val % 63 = 55) (h3 : ¬t.val % 63 = 62) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- `outsAt0` at a point of case C: that case's contents, over what the point before left. -/
theorem outsAt0_C (c : Dev nD) (t : Fin cfg0.N) (h0 : ¬t.val % 7 = 0) (h1 : t.val / 7 % 9 + 36 ≤ 7 * (t.val % 7)) (h2 : ¬t.val % 63 = 55) (h3 : ¬t.val % 63 = 62) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.1, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case D: that case's contents, over what the point before left. -/
theorem outsAt0_D (c : Dev nD) (t : Fin cfg0.N) (h0 : ¬t.val % 7 = 0) (h1 : ¬t.val / 7 % 9 + 36 ≤ 7 * (t.val % 7)) (h2 : t.val % 63 = 55) (h3 : ¬t.val % 63 = 62) :
    outsAt0 m c t.val t.isLt = (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case E: that case's contents, over what the point before left. -/
theorem outsAt0_E (c : Dev nD) (t : Fin cfg0.N) (h0 : ¬t.val % 7 = 0) (h1 : ¬t.val / 7 % 9 + 36 ≤ 7 * (t.val % 7)) (h2 : ¬t.val % 63 = 55) (h3 : t.val % 63 = 62) :
    outsAt0 m c t.val t.isLt = (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, out0_E_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 63 := lt_of_lt_of_eq t.isLt (show cfg0.N = 63 from N_0)
  rw [after0_8, after0_8]
  by_cases h0 : t.val % 7 = 0
  · by_cases h1 : t.val / 7 % 9 + 36 ≤ 7 * (t.val % 7)
    · exfalso; omega
    · by_cases h2 : t.val % 63 = 55
      · exfalso; omega
      · by_cases h3 : t.val % 63 = 62
        · exfalso; omega
        · rw [outsAt0_A m c t h0 h1 h2 h3]
          dsimp only
          unfold out0_A_8
          rfl
  · by_cases h1 : t.val / 7 % 9 + 36 ≤ 7 * (t.val % 7)
    · by_cases h2 : t.val % 63 = 55
      · exfalso; omega
      · by_cases h3 : t.val % 63 = 62
        · exfalso; omega
        · rw [liveAt0_8_C t (fun h => h0 ((hcond0_0 t).mp h)) ((hcond0_1 t).mpr h1) (fun h => h2 ((hcond0_2 t).mp h)) (fun h => h3 ((hcond0_3 t).mp h))] at hi
          exact absurd hi Bool.false_ne_true
    · by_cases h2 : t.val % 63 = 55
      · by_cases h3 : t.val % 63 = 62
        · exfalso; omega
        · rw [outsAt0_D m c t h0 h1 h2 h3]
          dsimp only
          unfold out0_D_8
          rfl
      · by_cases h3 : t.val % 63 = 62
        · rw [outsAt0_E m c t h0 h1 h2 h3]
          dsimp only
          unfold out0_E_8
          rfl
        · rw [outsAt0_B m c t h0 h1 h2 h3]
          dsimp only
          unfold out0_B_8
          rfl

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 63 := lt_of_lt_of_eq t.isLt (show cfg0.N = 63 from N_0)
  rw [after0_9, after0_9]
  by_cases h0 : t.val % 7 = 0
  · by_cases h1 : t.val / 7 % 9 + 36 ≤ 7 * (t.val % 7)
    · exfalso; omega
    · by_cases h2 : t.val % 63 = 55
      · exfalso; omega
      · by_cases h3 : t.val % 63 = 62
        · exfalso; omega
        · rw [outsAt0_A m c t h0 h1 h2 h3]
          dsimp only
          unfold out0_A_9
          rfl
  · by_cases h1 : t.val / 7 % 9 + 36 ≤ 7 * (t.val % 7)
    · by_cases h2 : t.val % 63 = 55
      · exfalso; omega
      · by_cases h3 : t.val % 63 = 62
        · exfalso; omega
        · rw [outsAt0_C m c t h0 h1 h2 h3]
          dsimp only
          unfold out0_C_9
          rfl
    · by_cases h2 : t.val % 63 = 55
      · by_cases h3 : t.val % 63 = 62
        · exfalso; omega
        · rw [liveAt0_9_D t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 63 = 62
        · rw [outsAt0_E m c t h0 h1 h2 h3]
          dsimp only
          unfold out0_E_9
          rfl
        · rw [outsAt0_B m c t h0 h1 h2 h3]
          dsimp only
          unfold out0_B_9
          rfl
/-- At a point of case E output 8's current staging buffer holds what the point before left: the buffer is not fresh
    there. -/
theorem before0_8_E (c : Dev nD) (t : Fin cfg0.N) (h0 : ¬t.val % 7 = 0) (h1 : ¬t.val / 7 % 9 + 36 ≤ 7 * (t.val % 7)) (h2 : ¬t.val % 63 = 55) (h3 : t.val % 63 = 62) (d) :
    (dats m 0 c).before 8 t d = (outsAt0 m c (t.val - 1) (Nat.lt_of_le_of_lt (Nat.sub_le _ _) t.isLt)).1 := by
  rw [Dat.before_out_traj _ 8 rfl (fun _ _ => rfl) (hcarry0_8 m c) t.val t rfl d,
    if_neg (by rw [notFresh0_8_E t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case E output 9's current staging buffer holds what the point before left: the buffer is not fresh
    there. -/
theorem before0_9_E (c : Dev nD) (t : Fin cfg0.N) (h0 : ¬t.val % 7 = 0) (h1 : ¬t.val / 7 % 9 + 36 ≤ 7 * (t.val % 7)) (h2 : ¬t.val % 63 = 55) (h3 : t.val % 63 = 62) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_E t (fun h => h0 ((hcond0_0 t).mp h)) (fun h => h1 ((hcond0_1 t).mp h)) (fun h => h2 ((hcond0_2 t).mp h)) ((hcond0_3 t).mpr h3)]; exact Bool.false_ne_true)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 63 := lt_of_lt_of_eq t.isLt (show cfg0.N = 63 from N_0)
  by_cases h0 : t.val % 7 = 0
  · by_cases h1 : t.val / 7 % 9 + 36 ≤ 7 * (t.val % 7)
    · exfalso; omega
    · by_cases h2 : t.val % 63 = 55
      · exfalso; omega
      · by_cases h3 : t.val % 63 = 62
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [Dat.leavesExact_idle (dats m 0 c) 8 t (idleAt0_8_A t ((hcond0_0 t).mpr h0) (fun h => h1 ((hcond0_1 t).mp h)) (fun h => h2 ((hcond0_2 t).mp h)) (fun h => h3 ((hcond0_3 t).mp h))) (noFlush0_8_A t ((hcond0_0 t).mpr h0) (fun h => h1 ((hcond0_1 t).mp h)) (fun h => h2 ((hcond0_2 t).mp h)) (fun h => h3 ((hcond0_3 t).mp h)))]
          rw [Dat.leavesExact_idle (dats m 0 c) 9 t (idleAt0_9_A t ((hcond0_0 t).mpr h0) (fun h => h1 ((hcond0_1 t).mp h)) (fun h => h2 ((hcond0_2 t).mp h)) (fun h => h3 ((hcond0_3 t).mp h))) (noFlush0_9_A t ((hcond0_0 t).mpr h0) (fun h => h1 ((hcond0_1 t).mp h)) (fun h => h2 ((hcond0_2 t).mp h)) (fun h => h3 ((hcond0_3 t).mp h)))]
          rw [Dat.leavesExact_idle (dats m 0 c) 10 t (idleAt0_10_A t ((hcond0_0 t).mpr h0) (fun h => h1 ((hcond0_1 t).mp h)) (fun h => h2 ((hcond0_2 t).mp h)) (fun h => h3 ((hcond0_3 t).mp h))) (noFlush0_10_A t ((hcond0_0 t).mpr h0) (fun h => h1 ((hcond0_1 t).mp h)) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)).2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [HS0]; · iexact HS0
            isplitl [HS1]; · iexact HS1
            iintro ⟨H0, H1, H2, H3, H4, H5, H6, H7, H8, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            iexists _; iexact H10
          · rw [PhiS_castSucc m c t, PhiS_pos m c _ _ hz]
            rw [outsAt0_A m c t h0 h1 h2 h3]
            unfold sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)).2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [HS0]; · iexact HS0
            isplitl [HS1]; · iexists _; iexact HS1
            iintro ⟨H0, H1, H2, H3, H4, H5, H6, H7, H8, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            iexists _; iexact H10
  · by_cases h1 : t.val / 7 % 9 + 36 ≤ 7 * (t.val % 7)
    · by_cases h2 : t.val % 63 = 55
      · exfalso; omega
      · by_cases h3 : t.val % 63 = 62
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1) (fun h => h2 ((hcond0_2 t).mp h)) (fun h => h3 ((hcond0_3 t).mp h))], after0_8]
          rw [Dat.leavesExact_idle (dats m 0 c) 9 t (idleAt0_9_C t (fun h => h0 ((hcond0_0 t).mp h)) ((hcond0_1 t).mpr h1) (fun h => h2 ((hcond0_2 t).mp h)) (fun h => h3 ((hcond0_3 t).mp h))) (noFlush0_9_C t (fun h => h0 ((hcond0_0 t).mp h)) ((hcond0_1 t).mpr h1) (fun h => h2 ((hcond0_2 t).mp h)) (fun h => h3 ((hcond0_3 t).mp h)))]
          rw [Dat.leavesExact_idle (dats m 0 c) 10 t (idleAt0_10_C t (fun h => h0 ((hcond0_0 t).mp h)) ((hcond0_1 t).mpr h1) (fun h => h2 ((hcond0_2 t).mp h)) (fun h => h3 ((hcond0_3 t).mp h))) (noFlush0_10_C t (fun h => h0 ((hcond0_0 t).mp h)) ((hcond0_1 t).mpr h1) (fun h => h2 ((hcond0_2 t).mp h)) (fun h => h3 ((hcond0_3 t).mp h)))]
          by_cases hz : t.val = 0
          · exfalso; have hN : t.val < 63 := lt_of_lt_of_eq t.isLt (show cfg0.N = 63 from N_0); omega
          · rw [PhiS_castSucc m c t, PhiS_pos m c _ _ hz]
            rw [outsAt0_C m c t h0 h1 h2 h3]
            unfold out0_C_8 sout0_C_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _).2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexact H9
            isplitl [H10]; · iexact H10
            isplitl [HS0]; · iexact HS0
            isplitl [HS1]; · iexact HS1
            iintro ⟨H0, H1, H2, H3, H4, H5, H6, H7, ⟨%e8, H8⟩, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]
            · unfold owns; iexists _; isplitr
              swap; · iexact H8
              ipureintro; exact View.read_writes_of_cover _ _ _ _ _ (cover0_C_8 c _ _ _ _ _ _ _ _ _ _ _ _ _ _ _ _ _ _ _ _ _ _ _ _ _ _ _ _ _ _ _ _ _ _ _ _ _ _ _ _)
            isplitl [H9]; · iexists _; iexact H9
            iexists _; iexact H10
    · by_cases h2 : t.val % 63 = 55
      · by_cases h3 : t.val % 63 = 62
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [Dat.leavesExact_idle (dats m 0 c) 8 t (idleAt0_8_D t (fun h => h0 ((hcond0_0 t).mp h)) (fun h => h1 ((hcond0_1 t).mp h)) ((hcond0_2 t).mpr h2) (fun h => h3 ((hcond0_3 t).mp h))) (noFlush0_8_D t (fun h => h0 ((hcond0_0 t).mp h)) (fun h => h1 ((hcond0_1 t).mp h)) ((hcond0_2 t).mpr h2) (fun h => h3 ((hcond0_3 t).mp h)))]
          rw [show (dats m 0 c).leavesExact 9 t = owns (c : Thread nD τ) (ms0_9 t) fullShare ((dats m 0 c).after 9 t) from by
      unfold Dat.leavesExact; rw [liveAt0_9_D t (fun h => h0 ((hcond0_0 t).mp h)) (fun h => h1 ((hcond0_1 t).mp h)) ((hcond0_2 t).mpr h2) (fun h => h3 ((hcond0_3 t).mp h))], after0_9]
          rw [Dat.leavesExact_idle (dats m 0 c) 10 t (idleAt0_10_D t (fun h => h0 ((hcond0_0 t).mp h)) (fun h => h1 ((hcond0_1 t).mp h)) ((hcond0_2 t).mpr h2) (fun h => h3 ((hcond0_3 t).mp h))) (noFlush0_10_D t (fun h => h0 ((hcond0_0 t).mp h)) (fun h => h1 ((hcond0_1 t).mp h)) ((hcond0_2 t).mpr h2) (fun h => h3 ((hcond0_3 t).mp h)))]
          by_cases hz : t.val = 0
          · exfalso; have hN : t.val < 63 := lt_of_lt_of_eq t.isLt (show cfg0.N = 63 from N_0); omega
          · rw [PhiS_castSucc m c t, PhiS_pos m c _ _ hz]
            rw [outsAt0_D m c t h0 h1 h2 h3]
            unfold out0_D_9 sout0_D_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _).2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [HS0]; · iexact HS0
            isplitl [HS1]; · iexact HS1
            iintro ⟨H0, H1, H2, H3, H4, H5, H6, H7, H8, ⟨%e9, H9⟩, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]
            · unfold owns; iexists _; isplitr
              swap; · iexact H9
              ipureintro; exact View.read_writes_of_cover _ _ _ _ _ (cover0_D_9 c _ _ _ _ _ _ _ _ _ _ _ _ _ _ _ _ _ _ _ _ _ _ _ _ _ _ _ _ _ _ _ _ _ _ _ _ _ _ _ _)
            iexists _; iexact H10
      · by_cases h3 : t.val % 63 = 62
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [idleAt0_8_E t (fun h => h0 ((hcond0_0 t).mp h)) (fun h => h1 ((hcond0_1 t).mp h)) (fun h => h2 ((hcond0_2 t).mp h)) ((hcond0_3 t).mpr h3), flushAt0_8_E t (fun h => h0 ((hcond0_0 t).mp h)) (fun h => h1 ((hcond0_1 t).mp h)) (fun h => h2 ((hcond0_2 t).mp h)) ((hcond0_3 t).mpr h3)], after0_8]
          rw [show (dats m 0 c).leavesExact 9 t = owns (c : Thread nD τ) (ms0_9 t) fullShare ((dats m 0 c).after 9 t) from by
      unfold Dat.leavesExact; rw [idleAt0_9_E t (fun h => h0 ((hcond0_0 t).mp h)) (fun h => h1 ((hcond0_1 t).mp h)) (fun h => h2 ((hcond0_2 t).mp h)) ((hcond0_3 t).mpr h3), flushAt0_9_E t (fun h => h0 ((hcond0_0 t).mp h)) (fun h => h1 ((hcond0_1 t).mp h)) (fun h => h2 ((hcond0_2 t).mp h)) ((hcond0_3 t).mpr h3)], after0_9]
          rw [show (dats m 0 c).leavesExact 10 t = owns (c : Thread nD τ) (ms0_10 t) fullShare ((dats m 0 c).after 10 t) from by
      unfold Dat.leavesExact; rw [liveAt0_10_E t (fun h => h0 ((hcond0_0 t).mp h)) (fun h => h1 ((hcond0_1 t).mp h)) (fun h => h2 ((hcond0_2 t).mp h)) ((hcond0_3 t).mpr h3)], after0_10]
          by_cases hz : t.val = 0
          · exfalso; have hN : t.val < 63 := lt_of_lt_of_eq t.isLt (show cfg0.N = 63 from N_0); omega
          · rw [PhiS_castSucc m c t, PhiS_pos m c _ _ hz]
            rw [outsAt0_E m c t h0 h1 h2 h3]
            simp only [before0_8_E m c t h0 h1 h2 h3, before0_9_E m c t h0 h1 h2 h3]
            unfold out0_E_8 out0_E_9 out0_E_10 sout0_E_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_E c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _ _).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [HS0]; · iexact HS0
            isplitl [HS1]; · iexact HS1
            iintro ⟨H0, H1, H2, H3, H4, H5, H6, H7, H8, H9, ⟨%e10, H10⟩, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            unfold owns; iexists _; isplitr
            swap; · iexact H10
            ipureintro; exact View.read_writes_of_cover _ _ _ _ _ (cover0_E_10 c _ _ _ _ _ _ _ _ _ _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [Dat.leavesExact_idle (dats m 0 c) 8 t (idleAt0_8_B t (fun h => h0 ((hcond0_0 t).mp h)) (fun h => h1 ((hcond0_1 t).mp h)) (fun h => h2 ((hcond0_2 t).mp h)) (fun h => h3 ((hcond0_3 t).mp h))) (noFlush0_8_B t (fun h => h0 ((hcond0_0 t).mp h)) (fun h => h1 ((hcond0_1 t).mp h)) (fun h => h2 ((hcond0_2 t).mp h)) (fun h => h3 ((hcond0_3 t).mp h)))]
          rw [Dat.leavesExact_idle (dats m 0 c) 9 t (idleAt0_9_B t (fun h => h0 ((hcond0_0 t).mp h)) (fun h => h1 ((hcond0_1 t).mp h)) (fun h => h2 ((hcond0_2 t).mp h)) (fun h => h3 ((hcond0_3 t).mp h))) (noFlush0_9_B t (fun h => h0 ((hcond0_0 t).mp h)) (fun h => h1 ((hcond0_1 t).mp h)) (fun h => h2 ((hcond0_2 t).mp h)) (fun h => h3 ((hcond0_3 t).mp h)))]
          rw [Dat.leavesExact_idle (dats m 0 c) 10 t (idleAt0_10_B t (fun h => h0 ((hcond0_0 t).mp h)) (fun h => h1 ((hcond0_1 t).mp h)) (fun h => h2 ((hcond0_2 t).mp h)) (fun h => h3 ((hcond0_3 t).mp h))) (noFlush0_10_B t (fun h => h0 ((hcond0_0 t).mp h)) (fun h => h1 ((hcond0_1 t).mp h)) (fun h => h2 ((hcond0_2 t).mp h)) (fun h => h3 ((hcond0_3 t).mp h)))]
          by_cases hz : t.val = 0
          · exfalso; have hN : t.val < 63 := lt_of_lt_of_eq t.isLt (show cfg0.N = 63 from N_0); omega
          · rw [PhiS_castSucc m c t, PhiS_pos m c _ _ hz]
            rw [outsAt0_B m c t h0 h1 h2 h3]
            unfold sout0_B_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _).2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [HS0]; · iexact HS0
            isplitl [HS1]; · iexact HS1
            iintro ⟨H0, H1, H2, H3, H4, H5, H6, H7, H8, H9, H10, ⟨%fT0, HS0⟩, ⟨%es1, HS1⟩⟩
            isplitl [HS0 HS1 Hg]
            · isplitl [HS0 HS1]
              · isplitl [HS0]
                · iexists _; unfold owns; iexists _; isplitr
                  swap; · iexact HS0
                  ipureintro; rfl
                unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexists _; iexact H9
            iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 63 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelQkvIdeal`'s statement (Defs.lean) at any `F` — Proof.lean cites it at `Bits`:
    `theorem Cert.Proof.claim : Cert.Claim := ⟨Cert.KernelQkvIdeal.Gen.facts, fun m ρ _ => Cert.KernelQkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelQkvIdeal.Gen

end
-- ==== Proof.Load.lean ====
/-
  A whole load of the weight scratch after its 64 tile stores, for any program: it reads the block's dequantized weights.
-/
module

public import proofs.«01_k».proof.Proof.Tile

@[expose] public section

noncomputable section
namespace Cert.Awq
open Idealize.ShloMosaic Idealize.ShloMosaic.Pipeline

theorem zero2 : (![0, 0] : Fin 2 → Nat) = fun _ => 0 := funext fun a => by fin_cases a <;> rfl

/-- A whole load after the 64 tile stores reads the dequantized block. -/
theorem load_tiles {sig : RefSig} (v : View sig .tc .vmem LD .bf16) (L : List (View.Piece (Elt Ideal) LD .bf16))
    (inb : ∀ a, (![0, 0] : Fin 2 → Nat) a + LD.size a ≤ LD.size a)
    (x : Vec Ideal LW .i32) (z : Vec Ideal L8 .i32) (s : Vec Ideal LS .f32)
    (h : L = tiles (fun g => View.ld (Val := Elt Ideal) (e' := .i32) x (Rect.unit ![128 * (g : ℕ), 0] ![128, 128] (inbW g))) z
      (fun p => View.ld (Val := Elt Ideal) (e' := .f32) s (Rect.unit ![0, 128 * (p : ℕ)] ![8, 128] (inbS p)))) :
    v.readCov L (Rect.unit ![0, 0] LD.size inb).toLoadRect = dq x z s := by
  rw [View.readCov_eq_canon', h]
  have e := canon_tiles x z s
  rw [← e]
  funext j
  exact congrFun (View.ld_unit_zero (S := LD) zero2 inb _) j

end Cert.Awq

end
-- ==== Proof.Strip.lean ====
/-
  A block of 2496 rows and 1024 columns written as eight strips of 128 columns, last strip first, and a strip of a block
  that was stored whole.
-/
module

public import proofs.«01_k».proof.Proof.Load

@[expose] public section

noncomputable section
namespace Cert.Awq
open Idealize.ShloMosaic Idealize.ShloMosaic.Pipeline Idealize.ShloMosaic.Pointwise

/-- A block, one strip of it, a row of 1024 entries and one strip of that. -/
abbrev LB : Shape := ⟨2, ![2496, 1024]⟩
abbrev LT : Shape := ⟨2, ![2496, 128]⟩
abbrev LR : Shape := ⟨2, ![1, 1024]⟩

theorem inbH (h : Fin 8) : ∀ a, (![0, 128 * (h : ℕ)] : Fin 2 → ℕ) a + (![2496, 128] : Fin 2 → ℕ) a ≤ LB.size a := by
  revert h; decide

theorem inbR (h : Fin 8) : ∀ a, (![0, 128 * (h : ℕ)] : Fin 2 → ℕ) a + (![1, 128] : Fin 2 → ℕ) a ≤ LR.size a := by
  revert h; decide

/-- Strip `h` of a block, and of a row. -/
def strip (f : FVec Ideal LB .f32) (h : Fin 8) : FVec Ideal LT .f32 :=
  View.ld (Val := Elt Ideal) (e' := .f32) f (Rect.unit ![0, 128 * (h : ℕ)] ![2496, 128] (inbH h))
def rowStrip (f : FVec Ideal LR .f32) (h : Fin 8) : FVec Ideal L1 .f32 :=
  View.ld (Val := Elt Ideal) (e' := .f32) f (Rect.unit ![0, 128 * (h : ℕ)] ![1, 128] (inbR h))

/-- Column `l` of strip `h`. -/
def hcol (h : Fin 8) (l : Fin 128) : Fin 1024 := ⟨128 * h + l, by omega⟩

theorem strip_apply (f : FVec Ideal LB .f32) (h : Fin 8) (i : Fin 2496) (l : Fin 128) :
    strip f h (ix2 i l : LT.Idx) = f (ix2 i (hcol h l) : LB.Idx) := by
  have e : (Rect.unit (s := LB) ![0, 128 * (h : ℕ)] ![2496, 128] (inbH h)).emb (ix2 i l : LT.Idx) = (ix2 i (hcol h l) : LB.Idx) := by
    funext a; apply Fin.ext; rw [Rect.emb_apply]; fin_cases a <;> simp [Rect.unit, hcol]
  exact congrArg f e

theorem rowStrip_apply (f : FVec Ideal LR .f32) (h : Fin 8) (i : Fin 1) (l : Fin 128) :
    rowStrip f h (ix2 i l : L1.Idx) = f (ix2 i (hcol h l) : LR.Idx) := by
  have e : (Rect.unit (s := LR) ![0, 128 * (h : ℕ)] ![1, 128] (inbR h)).emb (ix2 i l : L1.Idx) = (ix2 i (hcol h l) : LR.Idx) := by
    funext a; apply Fin.ext; rw [Rect.emb_apply]; fin_cases a <;> simp [Rect.unit, hcol]
  exact congrArg f e

/-- The eight stores of strips. -/
def strips {e : EltTy} (f : Fin 8 → Vec Ideal LT e) : List (View.Piece (Elt Ideal) LB e) :=
  ([7, 6, 5, 4, 3, 2, 1, 0] : List (Fin 8)).map fun h : Fin 8 => ⟨Rect.unit ![0, 128 * (h : ℕ)] ![2496, 128] (inbH h), f h⟩

/-- The eight strips together, read at a column of one of them. -/
theorem canon_strips {e : EltTy} (f : Fin 8 → Vec Ideal LT e) (y : LB.Idx) :
    View.canon (strips f) y = f ⟨(y 1).val / 128, by have : (y 1).val < 1024 := (y 1).isLt; omega⟩
      (ix2 (y 0) ⟨(y 1).val % 128, Nat.mod_lt _ (by decide)⟩ : LT.Idx) := by
  have all : ∀ k : Fin 8, k ∈ ([7, 6, 5, 4, 3, 2, 1, 0] : List (Fin 8)) := by decide
  refine View.canon_apply_of_pieces (Val := Elt Ideal) (e := e) (fun y : LB.Idx => f ⟨(y 1).val / 128, by have : (y 1).val < 1024 := (y 1).isLt; omega⟩
      (ix2 (y 0) ⟨(y 1).val % 128, Nat.mod_lt _ (by decide)⟩ : LT.Idx)) _ ?_ y ?_
  · intro q hq j
    unfold strips at hq
    obtain ⟨h, -, rfl⟩ := List.mem_map.1 hq
    have hj1 : (j 1).val < 128 := (j 1).isLt
    have e0 : ((Rect.unit (s := LB) ![0, 128 * (h : ℕ)] ![2496, 128] (inbH h)).emb j 0).val = (j 0).val := by
      rw [Rect.emb_apply]; simp [Rect.unit]
    have e1 : ((Rect.unit (s := LB) ![0, 128 * (h : ℕ)] ![2496, 128] (inbH h)).emb j 1).val = 128 * h + (j 1).val := by
      rw [Rect.emb_apply]; simp [Rect.unit]
    have hh : (⟨((Rect.unit (s := LB) ![0, 128 * (h : ℕ)] ![2496, 128] (inbH h)).emb j 1).val / 128, by rw [e1]; omega⟩ : Fin 8) = h :=
      Fin.ext (by show _ / 128 = _; rw [e1]; omega)
    show f h j = f _ _
    refine congrArg₂ (fun (h : Fin 8) (j : LT.Idx) => f h j) hh.symm (funext fun a => Fin.ext ?_)
    fin_cases a
    · exact e0.symm
    · show (j 1).val = _ % 128
      rw [e1]; omega
  · have h0 : (y 0).val < 2496 := (y 0).isLt
    have h1 : (y 1).val < 1024 := (y 1).isLt
    refine ⟨_, List.mem_map.2 ⟨⟨(y 1).val / 128, by omega⟩, all _, rfl⟩, ?_⟩
    refine (Rect.mem_set_unit (inb := inbH ⟨(y 1).val / 128, by omega⟩)).2 fun a => ?_
    fin_cases a
    · show 0 ≤ (y 0).val ∧ (y 0).val < 0 + 2496
      omega
    · show 128 * ((y 1).val / 128) ≤ (y 1).val ∧ (y 1).val < 128 * ((y 1).val / 128) + 128
      omega

/-- A load of part of a block after a store of the whole block reads that part of what was stored. -/
theorem load_whole {sig : RefSig} {S : Shape} {e : EltTy} {off : Fin S.rank → ℕ} (v : View sig .tc .vmem S e) (ho : off = fun _ => 0)
    (inb : ∀ a, off a + S.size a ≤ S.size a) (f : Vec Ideal S e) (r : Rect S) :
    v.readCov [⟨Rect.unit off S.size inb, f⟩] r.toLoadRect = View.ld (Val := Elt Ideal) (e' := e) f r := by
  rw [View.readCov_eq_canon', View.canon_unit_zero (S := S) ho]

end Cert.Awq

end
-- ==== Proof.Rope.lean ====
/-
  The rotary embedding of one head, and the clip to the range of the 8-bit numbers.
-/
module

public import proofs.«01_k».proof.Proof.Strip

@[expose] public section

noncomputable section
namespace Cert.Awq
open Idealize.ShloMosaic

/-- Column `l` of a head with the two halves rotated by the angles `a`. -/
def ropeOf (t : Fin 128 → EReal) (a : Fin 64 → EReal) (l : Fin 128) : EReal :=
  if h : l.val < 64 then t l * Ideal.cos (a ⟨l, h⟩) - t ⟨64 + l, by omega⟩ * Ideal.sin (a ⟨l, h⟩)
  else t l * Ideal.cos (a ⟨l - 64, by omega⟩) + t ⟨l - 64, by omega⟩ * Ideal.sin (a ⟨l - 64, by omega⟩)

/-- The clip to the range of the 8-bit numbers. -/
def clip (x : EReal) : EReal := min (Ideal.ofBits .f32 0x43E00000#32) (max (Ideal.ofBits .f32 0xC3E00000#32) x)

end Cert.Awq

end
-- ==== Proof.QkvPay.lean ====
/-
  What the query, key and value projection computes from one strip of the accumulator, read at an index.
-/
module

public import proofs.«01_k».proof.Proof.Rope
public import proofs.«01_k».proof.Proof.Gen.KernelQkvIdeal.Skeleton
public import Idealize.ShloMosaic.Lib.Pointwise

@[expose] public section

noncomputable section
namespace Cert.KernelQkvIdeal.Gen
open Idealize.ShloMosaic Idealize.ShloMosaic.Pipeline Idealize.ShloMosaic.Tactic Idealize.ShloMosaic.Pointwise
open Cert.KernelQkvIdeal Cert.Awq

/-- One accumulation step: the accumulator plus the block of `x` times the block of weights. -/
def step (acc : Vec Ideal S2496x1024 .f32) (x : Vec Ideal S2496x1024 .bf16) (w : Vec Ideal S1024x1024 .bf16) :
    Vec Ideal S2496x1024 .f32 := k0_pay153 (F := Ideal) acc x w

theorem step_apply (acc : Vec Ideal S2496x1024 .f32) (x : Vec Ideal S2496x1024 .bf16) (w : Vec Ideal S1024x1024 .bf16)
    (j : S2496x1024.Idx) : step acc x w j = acc j + ∑ k : Fin 1024, x (ix2 (j 0) k) * w (ix2 k (j 1)) := by
  unfold step k0_pay153
  idx_vars j
  pointwise

/-- The zero accumulator. -/
def zacc : Vec Ideal S2496x1024 .f32 := k0_pay31 (F := Ideal)

theorem zacc_apply (j : S2496x1024.Idx) : zacc j = 0 := by
  unfold zacc k0_pay31
  idx_vars j
  pointwise

/-- Column `l` turned by half a head. -/
def rot (l : Fin 128) : Fin 128 := ⟨(l.val + 128 - 64) % 128, Nat.mod_lt _ (by decide)⟩

/-- The rotation of one strip. -/
def ropeAt (t cos sin : Vec Ideal S2496x128 .f32) (i : Fin 2496) (l : Fin 128) : EReal :=
  t (ix2 i l : LT.Idx) * cos (ix2 i l : LT.Idx) + t (ix2 i (rot l) : LT.Idx) * sin (ix2 i l : LT.Idx)

/-- A strip of the queries, of the keys and of the values. -/
def qStrip (t cos sin : Vec Ideal S2496x128 .f32) : Vec Ideal S2496x128 .bf16 := k0_pay4 (F := Ideal) t cos sin
def kStrip (t cos sin : Vec Ideal S2496x128 .f32) (kinv : Vec Ideal S1x128 .f32) : Vec Ideal S2496x128 .fp8e4m3 :=
  k0_pay11 (F := Ideal) t cos sin kinv
def vStrip (t : Vec Ideal S2496x128 .f32) (vinv : Vec Ideal S1x128 .f32) : Vec Ideal S2496x128 .fp8e4m3 :=
  k0_pay25 (F := Ideal) t vinv

theorem qStrip_apply (t cos sin : Vec Ideal S2496x128 .f32) (i : Fin 2496) (l : Fin 128) :
    qStrip t cos sin (ix2 i l : LT.Idx) = ropeAt t cos sin i l := by
  unfold qStrip k0_pay4 ropeAt rot
  pointwise

theorem kStrip_apply (t cos sin : Vec Ideal S2496x128 .f32) (kinv : Vec Ideal S1x128 .f32) (i : Fin 2496) (l : Fin 128) :
    kStrip t cos sin kinv (ix2 i l : LT.Idx) = clip (ropeAt t cos sin i l * kinv (ix2 0 l : L1.Idx)) := by
  unfold kStrip k0_pay11 ropeAt rot clip
  pointwise

theorem vStrip_apply (t : Vec Ideal S2496x128 .f32) (vinv : Vec Ideal S1x128 .f32) (i : Fin 2496) (l : Fin 128) :
    vStrip t vinv (ix2 i l : LT.Idx) = clip (t (ix2 i l : LT.Idx) * vinv (ix2 0 l : L1.Idx)) := by
  unfold vStrip k0_pay25 clip
  pointwise

end Cert.KernelQkvIdeal.Gen
-- ==== Proof.QkvCase.lean ====
/-
  What one grid point of the query, key and value projection leaves behind, in each case of the point: the first of a run
  of 7 starts the accumulator from zero, every point adds the block of `x` times its dequantized block of weights, and the
  last one of a run writes a block of queries, the keys or the values, strip by strip.
-/
module

public import proofs.«01_k».proof.Proof.QkvPay
public import proofs.«01_k».proof.Proof.QkvIdealRun.Frame
public import Idealize.ShloMosaic.Lib.Pointwise

@[expose] public section

noncomputable section
namespace Cert.KernelQkvIdeal.Gen
open Idealize.ShloMosaic Idealize.ShloMosaic.Pipeline Idealize.ShloMosaic.Tactic Idealize.ShloMosaic.Pointwise
open Cert.KernelQkvIdeal Cert.Awq

section
variable (c : Dev nD) (a1 : Memref sig .tc .vmem S1024x128 .i32) (h1 : a1.IsWhole) (a2 : Memref sig .tc .vmem S8x128 .i32)
  (h2 : a2.IsWhole) (a3 : Memref sig .tc .vmem S8x1024 .f32) (h3 : a3.IsWhole) (a4 : Memref sig .tc .vmem S1024x1024 .bf16)
  (x : Vec Ideal S1024x128 .i32) (z : Vec Ideal S8x128 .i32) (s : Vec Ideal S8x1024 .f32)

set_option maxHeartbeats 400000 in
/-- The weights a point multiplies by are the block's dequantized weights. -/
theorem weights_B : kernelRun0_B.sl.v1533 c a1 h1 a2 h2 a3 h3 a4 x z s = dq x z s := by
  unfold kernelRun0_B.sl.v1533
  refine load_tiles _ _ _ x z s ?_
  unfold kernelRun0_B.sl.HS0_64
  sl_unfold_words
  unfold_payloads
  simp only [View.readAt_eq_ld, h1.read_unread, h2.read_unread, h3.read_unread, View.ld_unit_zero (S := S8x128) zero2]
  simp only [tiles, List.flatMap_cons, List.map_cons, List.map_nil, List.flatMap_nil, List.cons_append, List.nil_append,
    tile, wordsTile, zerosTile, scalesTile, rowOf, laneWord, laneShift, lane128, lane8]
  rfl

set_option maxHeartbeats 400000 in
theorem weights_A : kernelRun0_A.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)

set_option maxHeartbeats 400000 in
theorem weights_C : kernelRun0_C.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)

set_option maxHeartbeats 400000 in
theorem weights_D : kernelRun0_D.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)

set_option maxHeartbeats 400000 in
theorem weights_E : kernelRun0_E.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)
end

variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x128 .f32) (harg6 : arg6.IsWhole) (arg7 : Memref sig .tc .vmem S2496x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2496x1024 .bf16) (harg10 : arg10.IsWhole) (arg11 : Memref sig .tc .vmem S2496x1024 .fp8e4m3) (harg11 : arg11.IsWhole) (arg12 : Memref sig .tc .vmem S2496x1024 .fp8e4m3) (harg12 : arg12.IsWhole) (arg13 : Memref sig .tc .vmem S1024x1024 .bf16) (harg13 : arg13.IsWhole) (arg14 : Memref sig .tc .vmem S2496x1024 .f32) (harg14 : arg14.IsWhole)
    (x0 : Vec Ideal S2496x1024 .bf16) (x1 : Vec Ideal S1024x128 .i32) (x2 : Vec Ideal S8x128 .i32) (x3 : Vec Ideal S8x1024 .f32) (x4 x5 : Vec Ideal S2496x128 .f32) (x6 x7 : Vec Ideal S1x1024 .f32) (xs1 : Vec Ideal S2496x1024 .f32)

/-- The accumulator after a point that starts a run. -/
theorem acc_A (hc0 : cond0_0 i) (hc1 : ¬cond0_1 i) (hc2 : ¬cond0_2 i) (hc3 : ¬cond0_3 i) : sout0_A_1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 = step zacc x0 (dq x1 x2 x3) := by
  unfold sout0_A_1; rw [View.read_writes_junk_eq_canon]; unfold kernelRun0_A; dsimp only
  rw [View.canon_cons_unit_zero (S := S2496x1024) zero2, weights_A]
  unfold kernelRun0_A.sl.v1531 kernelRun0_A.sl.HS1_1
  rw [View.readCov_unit_zero (S := S2496x1024) _ zero2, View.readAt_eq_ld, harg2.read_unread, View.ld_unit_zero (S := S2496x1024) zero2]
  rfl

/-- The accumulator after a point inside a run. -/
theorem acc_B (hc0 : ¬cond0_0 i) (hc1 : ¬cond0_1 i) (hc2 : ¬cond0_2 i) (hc3 : ¬cond0_3 i) : sout0_B_1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1 = step xs1 x0 (dq x1 x2 x3) := by
  unfold sout0_B_1; rw [View.read_writes_junk_eq_canon]; unfold kernelRun0_B; dsimp only
  rw [View.canon_unit_zero (S := S2496x1024) zero2, weights_B]
  unfold kernelRun0_B.sl.r_41
  simp only [View.readAt_eq_ld, harg2.read_unread, harg14.read_unread, View.ld_unit_zero (S := S2496x1024) zero2]
  rfl

/-- The accumulator a run's last point works on, as it was stored: in one piece. -/
theorem acc_C : kernelRun0_C.sl.HS1_1 c arg2 harg2 arg3 harg3 arg4 harg4 arg5 harg5 arg13 arg14 harg14 x0 x1 x2 x3 xs1
    = [⟨Rect.unit ![0, 0] S2496x1024.size inb_S2496x1024_S2496x1024_0_0, step xs1 x0 (dq x1 x2 x3)⟩] := by
  unfold kernelRun0_C.sl.HS1_1
  rw [weights_C]
  unfold kernelRun0_C.sl.r_41
  simp only [View.readAt_eq_ld, harg2.read_unread, harg14.read_unread, View.ld_unit_zero (S := S2496x1024) zero2]
  rfl

/-- The accumulator a run's last point works on, as it was stored: in one piece. -/
theorem acc_D : kernelRun0_D.sl.HS1_1 c arg2 harg2 arg3 harg3 arg4 harg4 arg5 harg5 arg13 arg14 harg14 x0 x1 x2 x3 xs1
    = [⟨Rect.unit ![0, 0] S2496x1024.size inb_S2496x1024_S2496x1024_0_0, step xs1 x0 (dq x1 x2 x3)⟩] := by
  unfold kernelRun0_D.sl.HS1_1
  rw [weights_D]
  unfold kernelRun0_D.sl.r_41
  simp only [View.readAt_eq_ld, harg2.read_unread, harg14.read_unread, View.ld_unit_zero (S := S2496x1024) zero2]
  rfl

/-- The accumulator a run's last point works on, as it was stored: in one piece. -/
theorem acc_E : kernelRun0_E.sl.HS1_1 c arg2 harg2 arg3 harg3 arg4 harg4 arg5 harg5 arg13 arg14 harg14 x0 x1 x2 x3 xs1
    = [⟨Rect.unit ![0, 0] S2496x1024.size inb_S2496x1024_S2496x1024_0_0, step xs1 x0 (dq x1 x2 x3)⟩] := by
  unfold kernelRun0_E.sl.HS1_1
  rw [weights_E]
  unfold kernelRun0_E.sl.r_41
  simp only [View.readAt_eq_ld, harg2.read_unread, harg14.read_unread, View.ld_unit_zero (S := S2496x1024) zero2]
  rfl

set_option maxHeartbeats 1000000 in
/-- The queries a run's last point writes. -/
theorem out_C (hc0 : ¬cond0_0 i) (hc1 : cond0_1 i) (hc2 : ¬cond0_2 i) (hc3 : ¬cond0_3 i) : out0_C_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1
    = View.canon (strips fun h => qStrip (strip (step xs1 x0 (dq x1 x2 x3)) h) x4 x5) := by
  unfold out0_C_8; rw [View.read_writes_junk_eq_canon]; unfold kernelRun0_C; dsimp only
  unfold kernelRun0_C.sl.r_42 kernelRun0_C.sl.r_43 kernelRun0_C.sl.r_44 kernelRun0_C.sl.v1554 kernelRun0_C.sl.v1565 kernelRun0_C.sl.v1576 kernelRun0_C.sl.v1587 kernelRun0_C.sl.v1598 kernelRun0_C.sl.v1609 kernelRun0_C.sl.v1620 kernelRun0_C.sl.v1631
  rw [acc_C]
  simp only [load_whole (S := S2496x1024) _ zero2, View.readAt_eq_ld, harg6.read_unread, harg7.read_unread, harg8.read_unread, harg9.read_unread, View.ld_unit_zero (S := S2496x128) zero2]
  refine congrArg View.canon ?_
  simp only [strips, List.map_cons, List.map_nil]
  generalize step xs1 x0 (dq x1 x2 x3) = f
  iterate 8 refine congrArg₂ List.cons (by rfl) ?_
  rfl

set_option maxHeartbeats 1000000 in
/-- The keys. -/
theorem out_D (hc0 : ¬cond0_0 i) (hc1 : ¬cond0_1 i) (hc2 : cond0_2 i) (hc3 : ¬cond0_3 i) : out0_D_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs1
    = View.canon (strips fun h => kStrip (strip (step xs1 x0 (dq x1 x2 x3)) h) x4 x5 (rowStrip x6 h)) := by
  unfold out0_D_9; rw [View.read_writes_junk_eq_canon]; unfold kernelRun0_D; dsimp only
  unfold kernelRun0_D.sl.r_42 kernelRun0_D.sl.r_43 kernelRun0_D.sl.r_44 kernelRun0_D.sl.r_45 kernelRun0_D.sl.r_46 kernelRun0_D.sl.r_47 kernelRun0_D.sl.v1554 kernelRun0_D.sl.v1573 kernelRun0_D.sl.v1592 kernelRun0_D.sl.v1611 kernelRun0_D.sl.v1630 kernelRun0_D.sl.v1649 kernelRun0_D.sl.v1668 kernelRun0_D.sl.v1687
  rw [acc_D]
  simp only [load_whole (S := S2496x1024) _ zero2, View.readAt_eq_ld, harg6.read_unread, harg7.read_unread, harg8.read_unread, harg9.read_unread, View.ld_unit_zero (S := S2496x128) zero2]
  refine congrArg View.canon ?_
  simp only [strips, List.map_cons, List.map_nil]
  generalize step xs1 x0 (dq x1 x2 x3) = f
  iterate 8 refine congrArg₂ List.cons (by rfl) ?_
  rfl

set_option maxHeartbeats 1000000 in
/-- The values. -/
theorem out_E (xo8 : Vec Ideal S2496x1024 .bf16) (xo9 : Vec Ideal S2496x1024 .fp8e4m3) (hc0 : ¬cond0_0 i) (hc1 : ¬cond0_1 i) (hc2 : ¬cond0_2 i) (hc3 : cond0_3 i) : out0_E_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo8 xo9 xs1
    = View.canon (strips fun h => vStrip (strip (step xs1 x0 (dq x1 x2 x3)) h) (rowStrip x7 h)) := by
  unfold out0_E_10; rw [View.read_writes_junk_eq_canon]; unfold kernelRun0_E; dsimp only
  unfold kernelRun0_E.sl.v1554 kernelRun0_E.sl.v1565 kernelRun0_E.sl.v1576 kernelRun0_E.sl.v1587 kernelRun0_E.sl.v1598 kernelRun0_E.sl.v1609 kernelRun0_E.sl.v1620 kernelRun0_E.sl.v1631
  rw [acc_E]
  simp only [load_whole (S := S2496x1024) _ zero2, View.readAt_eq_ld, harg6.read_unread, harg7.read_unread, harg8.read_unread, harg9.read_unread, View.ld_unit_zero (S := S2496x128) zero2]
  refine congrArg View.canon ?_
  simp only [strips, List.map_cons, List.map_nil]
  generalize step xs1 x0 (dq x1 x2 x3) = f
  iterate 8 refine congrArg₂ List.cons (by rfl) ?_
  rfl

end Cert.KernelQkvIdeal.Gen
-- ==== Proof.QkvHost.lean ====
/-
  The arrays that the query, key and value projection's kernel call is handed besides its arguments: the cosines and the
  sines of the angles, each doubled to a head's width, and the inverse scales, repeated over each head.
-/
module

public import proofs.«01_k».proof.Proof.QkvPay
public import proofs.«01_k».proof.Proof.Gen.KernelQkvIdeal.Frame
public import Idealize.ShloMosaic.Lib.StableHlo.Run
public import Idealize.ShloMosaic.Lib.Pointwise

@[expose] public section

noncomputable section
namespace Cert.KernelQkvIdeal.Host
open Idealize.ShloMosaic Idealize.ShloMosaic.TcCoe Idealize.ShloMosaic.Pointwise Idealize.ShloMosaic.StableHlo
open Cert.KernelQkvIdeal Cert.KernelQkvIdeal.Gen Cert.Awq

/-- The inverse frequencies. -/
def invFreq : FVec Ideal S64 .f32 :=
  Host.divf (broadcastInDim S64 ![] bcast_S_S64 (constant S_ .f32 0x3F800000#32)) (Host.powf (broadcastInDim S64 ![] bcast_S_S64 (constant S_ .f32 0x48F42400#32))
    (Host.divf (addf (broadcastInDim S64 ![] bcast_S_S64 (constant S_ .f32 0x00000000#32)) (mulf (broadcastInDim S64 ![] bcast_S_S64 (constant S_ .f32 0x40000000#32))
      (sitofp .f32 (iotaInDim S64 32 0)))) (broadcastInDim S64 ![] bcast_S_S64 (constant S_ .f32 0x43000000#32))))

/-- The angles, one row per position. -/
def angle (ctx : IVec S26 32) (tree : IVec S96 32) (f : FVec Ideal S64 .f32) : FVec Ideal S2496x64 .f32 :=
  mulf (broadcastInDim S2496x64 ![0, 1] bcast_S2496x1_S2496x64_0_1 (shapeCast S2496x1 (sitofp .f32 (addi (broadcastInDim S26x96 ![0, 1] bcast_S26x1_S26x96_0_1 (broadcastInDim S26x1 ![0] bcast_S26_S26x1_0 ctx))
    (broadcastInDim S26x96 ![0, 1] bcast_S1x96_S26x96_0_1 (broadcastInDim S1x96 ![1] bcast_S96_S1x96_1 tree)))) shapeCasts_S26x96_S2496x1))
    (broadcastInDim S2496x64 ![0, 1] bcast_S1x64_S2496x64_0_1 (broadcastInDim S1x64 ![1] bcast_S64_S1x64_1 f))

/-- The doubled cosines and sines, and the repeated inverse scales. -/
def cosTab (a : FVec Ideal S2496x64 .f32) : FVec Ideal S2496x128 .f32 :=
  concatenate S2496x128 1 [⟨S2496x64, Host.cos a⟩, ⟨S2496x64, Host.cos a⟩] concatenates_S2496x64_S2496x64_S2496x128_d1
def sinTab (a : FVec Ideal S2496x64 .f32) : FVec Ideal S2496x128 .f32 :=
  concatenate S2496x128 1 [⟨S2496x64, Host.negf (Host.sin a)⟩, ⟨S2496x64, Host.sin a⟩] concatenates_S2496x64_S2496x64_S2496x128_d1
def invTab (s : FVec Ideal S8 .f32) : FVec Ideal S1x1024 .f32 :=
  shapeCast S1x1024 (shapeCast S1024 (broadcastInDim S8x128 ![0] bcast_S8_S8x128_0 (Host.divf (broadcastInDim S8 ![] bcast_S_S8 (constant S_ .f32 0x3F800000#32)) s)) shapeCasts_S8x128_S1024) shapeCasts_S1024_S1x1024

variable (m : (ℓ : Loc nD τ sig) → Buf (Elt Ideal) ℓ) (c : Dev nD)

/-- The angles of a run's arguments. -/
abbrev ang : FVec Ideal S2496x64 .f32 := angle (m ((c : Thread nD τ).loc main_arg4)) (m ((c : Thread nD τ).loc main_arg5)) invFreq

set_option maxHeartbeats 2000000 in
theorem V_cos : V m c main_v24 = cosTab (ang m c) := by
  unfold V; after_results <;> rfl
set_option maxHeartbeats 2000000 in
theorem V_sin : V m c main_v26 = sinTab (ang m c) := by
  unfold V; after_results <;> rfl
set_option maxHeartbeats 2000000 in
theorem V_kinv : V m c main_v31 = invTab (m ((c : Thread nD τ).loc main_arg6)) := by
  unfold V; after_results <;> rfl
set_option maxHeartbeats 2000000 in
theorem V_vinv : V m c main_v36 = invTab (m ((c : Thread nD τ).loc main_arg7)) := by
  unfold V; after_results <;> rfl

/-- The angle at a row and a frequency. -/
def angAt (ctx : IVec S26 32) (tree : IVec S96 32) (f : FVec Ideal S64 .f32) (b : Fin 26) (s : Fin 96) (k : Fin 64) : EReal :=
  (FloatOps.sitofp .f32 (IntOp.addi (ctx (ix1 b)) (tree (ix1 s))) : Ideal .f32) * f (ix1 k)

theorem angle_apply (ctx : IVec S26 32) (tree : IVec S96 32) (f : FVec Ideal S64 .f32) (i : Fin 2496) (k : Fin 64) :
    angle ctx tree f (ix2 i k) = angAt ctx tree f ⟨i / 96, by omega⟩ ⟨i % 96, by omega⟩ k := by
  unfold angle angAt
  pointwise

theorem cosTab_lo (a : FVec Ideal S2496x64 .f32) (i : Fin 2496) (l : Fin 128) (h : l.val < 64) :
    cosTab a (ix2 i l : LT.Idx) = Ideal.cos (a (ix2 i ⟨l, h⟩)) := by
  unfold cosTab
  pointwise
  exact dif_pos h

theorem cosTab_hi (a : FVec Ideal S2496x64 .f32) (i : Fin 2496) (l : Fin 128) (h : ¬ l.val < 64) :
    cosTab a (ix2 i l : LT.Idx) = Ideal.cos (a (ix2 i ⟨l - 64, by omega⟩)) := by
  unfold cosTab
  pointwise
  exact dif_neg h

theorem sinTab_lo (a : FVec Ideal S2496x64 .f32) (i : Fin 2496) (l : Fin 128) (h : l.val < 64) :
    sinTab a (ix2 i l : LT.Idx) = - Ideal.sin (a (ix2 i ⟨l, h⟩)) := by
  unfold sinTab
  pointwise
  exact dif_pos h

theorem sinTab_hi (a : FVec Ideal S2496x64 .f32) (i : Fin 2496) (l : Fin 128) (h : ¬ l.val < 64) :
    sinTab a (ix2 i l : LT.Idx) = Ideal.sin (a (ix2 i ⟨l - 64, by omega⟩)) := by
  unfold sinTab
  pointwise
  exact dif_neg h

/-- The rotation with the doubled tables is the rotation of the two halves. -/
theorem ropeAt_tab (t : FVec Ideal S2496x128 .f32) (a : FVec Ideal S2496x64 .f32) (i : Fin 2496) (l : Fin 128) :
    ropeAt t (cosTab a) (sinTab a) i l = ropeOf (fun l => t (ix2 i l : LT.Idx)) (fun k => a (ix2 i k)) l := by
  unfold ropeAt ropeOf
  by_cases h : l.val < 64
  · rw [dif_pos h, cosTab_lo _ _ _ h, sinTab_lo _ _ _ h, mul_neg, ← sub_eq_add_neg]
    have e : rot l = (⟨64 + l, by omega⟩ : Fin 128) := Fin.ext (by show (l.val + 128 - 64) % 128 = 64 + l.val; omega)
    rw [e]
  · rw [dif_neg h, cosTab_hi _ _ _ h, sinTab_hi _ _ _ h]
    have e : rot l = (⟨l - 64, by omega⟩ : Fin 128) := Fin.ext (by show (l.val + 128 - 64) % 128 = l.val - 64; omega)
    rw [e]

theorem invTab_apply (s : FVec Ideal S8 .f32) (l : Fin 1024) :
    invTab s (ix2 0 l : LR.Idx) = Ideal.div (Ideal.ofBits .f32 0x3F800000#32) (s (ix1 ⟨l / 128, by omega⟩)) := by
  unfold invTab
  pointwise

end Cert.KernelQkvIdeal.Host
-- ==== Proof.QkvValue.lean ====
/-
  The three result arrays of the query, key and value projection after the run, given what every write-back puts out. The
  queries are written back in seven blocks of 1024 columns, the last of them only at the end of the grid, long after its
  own column block is done; the keys and the values are one block each, written back at the end of the grid.
-/
module

public import proofs.«01_k».proof.Proof.QkvIdealRun.Frame
public import Idealize.ShloMosaic.Lib.Pipeline.Value
public import Idealize.ShloMosaic.Lib.Pointwise

@[expose] public section

noncomputable section

namespace Cert.KernelQkvIdeal.Value

open Cert.KernelQkvIdeal Cert.KernelQkvIdeal.Gen Idealize.ShloMosaic Idealize.ShloMosaic.TcCoe Idealize.SL.Sem
open Idealize.ShloMosaic.Pointwise
open Idealize.ShloMosaic.Pipeline (Dat)

variable {F : FTy → Type} [FloatOps F]
variable (m : (ℓ : Loc nD τ sig) → Buf (Elt F) ℓ) (ρ : Dev nD → PrngReg)

/-- The query block a point's write-back goes to. -/
def qBlk (t : ℕ) : ℕ := min (t / 7) 6

theorem qBlk_le (t : ℕ) : qBlk t ≤ 6 := Nat.min_le_right _ _

theorem index8 : ∀ t : Fin cfg0.N, win0_8.index t = ![0, qBlk t.val] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)

/-- The points that write a query block back. -/
theorem flushes8 : ∀ t : Fin cfg0.N, (cfg0.win 8).flush t = true → (t.val % 7 = 6 ∧ t.val < 42) ∨ t.val = 62 :=
  (by decide +kernel : ∀ t : Fin grid0.N, win0_8.flush t = true → (t.val % 7 = 6 ∧ t.val < 42) ∨ t.val = 62)
theorem flushes9 : ∀ t : Fin cfg0.N, (cfg0.win 9).flush t = true → t.val = 62 :=
  (by decide +kernel : ∀ t : Fin grid0.N, win0_9.flush t = true → t.val = 62)
theorem flushes10 : ∀ t : Fin cfg0.N, (cfg0.win 10).flush t = true → t.val = 62 :=
  (by decide +kernel : ∀ t : Fin grid0.N, win0_10.flush t = true → t.val = 62)

/-- The point that writes back query block `q`. -/
abbrev qPt (q : Fin 7) : Fin grid0.N := ⟨if q.val < 6 then 7 * q.val + 6 else 62, lt_of_lt_of_eq (by split <;> omega) N_0.symm⟩
abbrev lastPt : Fin grid0.N := ⟨62, lt_of_lt_of_eq (by decide) N_0.symm⟩

theorem flush8_qPt : ∀ q : Fin 7, (cfg0.win 8).flush (qPt q) = true ∧ win0_8.index (qPt q) = ![0, q.val] :=
  (by decide +kernel : ∀ q : Fin 7, win0_8.flush (qPt q) = true ∧ win0_8.index (qPt q) = ![0, q.val])
theorem flush9_last : (cfg0.win 9).flush lastPt = true := (by decide +kernel : win0_9.flush lastPt = true)
theorem flush10_last : (cfg0.win 10).flush lastPt = true := (by decide +kernel : win0_10.flush lastPt = true)

/-- An index is in a point's block exactly if each coordinate is in the block's range. -/
theorem mem_blk8 (t : Fin cfg0.N) (i : S2496x7168.Idx) :
    i ∈ ((cfg0.win 8).blk t).view.set ↔ ∀ a : Fin 2, win0_8.index t a * S2496x1024.size a ≤ (i a).val ∧ (i a).val < win0_8.index t a * S2496x1024.size a + S2496x1024.size a := by
  show i ∈ ((View.whole main_v37_0).slice (win0_8.rect t)).set ↔ _
  rw [View.set_slice_whole, Rect.mem_set_unit]
  exact Iff.rfl

theorem mem_blk9 (t : Fin cfg0.N) (i : S2496x1024.Idx) :
    i ∈ ((cfg0.win 9).blk t).view.set ↔ ∀ a : Fin 2, win0_9.index t a * S2496x1024.size a ≤ (i a).val ∧ (i a).val < win0_9.index t a * S2496x1024.size a + S2496x1024.size a := by
  show i ∈ ((View.whole main_v37_1).slice (win0_9.rect t)).set ↔ _
  rw [View.set_slice_whole, Rect.mem_set_unit]
  exact Iff.rfl

theorem mem_blk10 (t : Fin cfg0.N) (i : S2496x1024.Idx) :
    i ∈ ((cfg0.win 10).blk t).view.set ↔ ∀ a : Fin 2, win0_10.index t a * S2496x1024.size a ≤ (i a).val ∧ (i a).val < win0_10.index t a * S2496x1024.size a + S2496x1024.size a := by
  show i ∈ ((View.whole main_v37_2).slice (win0_10.rect t)).set ↔ _
  rw [View.set_slice_whole, Rect.mem_set_unit]
  exact Iff.rfl

/-- THE QUERY ARRAY is `G` if every write-back puts out its block of `G`. -/
theorem final8 (c : Dev nD) (G : Buf (Elt F) ((c : Thread nD τ).loc main_v37_0))
    (h : ∀ t : Fin cfg0.N, (t.val % 7 = 6 ∧ t.val < 42) ∨ t.val = 62 → ∀ y : S2496x1024.Idx,
      (outsAt0 m c t.val t.isLt).1 y = G (ix2 (y 0) ⟨1024 * qBlk t.val + (y 1).val, by have := qBlk_le t.val; have : (y 1).val < 1024 := (y 1).isLt; omega⟩ : S2496x7168.Idx)) :
    (dats m 0 c).arrAt 8 cfg0.N = G := by
  refine (dats m 0 c).arrAt_eq_of_cover 8 _ (fun t hf => ?_) (fun i => ?_)
  · show (cfg0.win 8).cut (grid0.coords t) ((dats m 0 c).after 8 t) = _
    rw [after0_8]
    funext y
    show (outsAt0 m c t.val t.isLt).1 ((cfg0.win 8).xinj (grid0.coords t) y) = G (((cfg0.win 8).blk t).view.emb y)
    rw [h t (flushes8 t hf)]
    congr 1
    funext a
    apply Fin.ext
    have e := index8 t
    match a with
    | ⟨0, _⟩ => show (y 0).val = win0_8.index t (0 : Fin 2) * 2496 + 1 * (y 0).val; rw [e]; simp
    | ⟨1, _⟩ => show 1024 * qBlk t.val + (y 1).val = win0_8.index t (1 : Fin 2) * 1024 + 1 * (y 1).val; rw [e]; simp; omega
  · have hi0 : (i 0).val < 2496 := (i 0).isLt
    have hi1 : (i 1).val < 7168 := (i 1).isLt
    obtain ⟨hf, e⟩ := flush8_qPt ⟨(i 1).val / 1024, by omega⟩
    refine ⟨_, hf, ?_⟩
    rw [mem_blk8]
    intro a
    match a with
    | ⟨0, _⟩ => show win0_8.index _ (0 : Fin 2) * 2496 ≤ (i 0).val ∧ (i 0).val < win0_8.index _ (0 : Fin 2) * 2496 + 2496; rw [e]; simp; omega
    | ⟨1, _⟩ => show win0_8.index _ (1 : Fin 2) * 1024 ≤ (i 1).val ∧ (i 1).val < win0_8.index _ (1 : Fin 2) * 1024 + 1024; rw [e]; simp; omega

/-- THE KEY ARRAY is what the last point leaves. -/
theorem final9 (c : Dev nD) (G : Buf (Elt F) ((c : Thread nD τ).loc main_v37_1))
    (h : ∀ t : Fin cfg0.N, t.val = 62 → ∀ y : S2496x1024.Idx, (outsAt0 m c t.val t.isLt).2.1 y = G y) : (dats m 0 c).arrAt 9 cfg0.N = G := by
  refine (dats m 0 c).arrAt_eq_of_cover 9 _ (fun t hf => ?_) (fun i => ?_)
  · show (cfg0.win 9).cut (grid0.coords t) ((dats m 0 c).after 9 t) = _
    rw [after0_9]
    funext y
    show (outsAt0 m c t.val t.isLt).2.1 ((cfg0.win 9).xinj (grid0.coords t) y) = G (((cfg0.win 9).blk t).view.emb y)
    rw [h t (flushes9 t hf)]
    congr 1
    funext a
    apply Fin.ext
    have e := index9 t
    match a with
    | ⟨0, _⟩ => show (y 0).val = win0_9.index t (0 : Fin 2) * 2496 + 1 * (y 0).val; rw [e]; simp
    | ⟨1, _⟩ => show (y 1).val = win0_9.index t (1 : Fin 2) * 1024 + 1 * (y 1).val; rw [e]; simp
  · have hi0 : (i 0).val < 2496 := (i 0).isLt
    have hi1 : (i 1).val < 1024 := (i 1).isLt
    refine ⟨_, flush9_last, ?_⟩
    have e := index9 lastPt
    rw [mem_blk9]
    intro a
    match a with
    | ⟨0, _⟩ => show win0_9.index _ (0 : Fin 2) * 2496 ≤ (i 0).val ∧ (i 0).val < win0_9.index _ (0 : Fin 2) * 2496 + 2496; rw [e]; simp; omega
    | ⟨1, _⟩ => show win0_9.index _ (1 : Fin 2) * 1024 ≤ (i 1).val ∧ (i 1).val < win0_9.index _ (1 : Fin 2) * 1024 + 1024; rw [e]; simp; omega

/-- THE VALUE ARRAY is what the last point leaves. -/
theorem final10 (c : Dev nD) (G : Buf (Elt F) ((c : Thread nD τ).loc main_v37_2))
    (h : ∀ t : Fin cfg0.N, t.val = 62 → ∀ y : S2496x1024.Idx, (outsAt0 m c t.val t.isLt).2.2.1 y = G y) : (dats m 0 c).arrAt 10 cfg0.N = G := by
  refine (dats m 0 c).arrAt_eq_of_cover 10 _ (fun t hf => ?_) (fun i => ?_)
  · show (cfg0.win 10).cut (grid0.coords t) ((dats m 0 c).after 10 t) = _
    rw [after0_10]
    funext y
    show (outsAt0 m c t.val t.isLt).2.2.1 ((cfg0.win 10).xinj (grid0.coords t) y) = G (((cfg0.win 10).blk t).view.emb y)
    rw [h t (flushes10 t hf)]
    congr 1
    funext a
    apply Fin.ext
    have e := index10 t
    match a with
    | ⟨0, _⟩ => show (y 0).val = win0_10.index t (0 : Fin 2) * 2496 + 1 * (y 0).val; rw [e]; simp
    | ⟨1, _⟩ => show (y 1).val = win0_10.index t (1 : Fin 2) * 1024 + 1 * (y 1).val; rw [e]; simp
  · have hi0 : (i 0).val < 2496 := (i 0).isLt
    have hi1 : (i 1).val < 1024 := (i 1).isLt
    refine ⟨_, flush10_last, ?_⟩
    have e := index10 lastPt
    rw [mem_blk10]
    intro a
    match a with
    | ⟨0, _⟩ => show win0_10.index _ (0 : Fin 2) * 2496 ≤ (i 0).val ∧ (i 0).val < win0_10.index _ (0 : Fin 2) * 2496 + 2496; rw [e]; simp; omega
    | ⟨1, _⟩ => show win0_10.index _ (1 : Fin 2) * 1024 ≤ (i 1).val ∧ (i 1).val < win0_10.index _ (1 : Fin 2) * 1024 + 1024; rw [e]; simp; omega

/-! ## The run -/

theorem post8 (r : PUnit × MemSt nD τ sig (Elt F)) (h : Pipeline.FramePost cfgs (dats m) 0 (V m) r) (c : Dev nD) :
    r.2.mem ((c : Thread nD τ).loc main_v37_0) = (dats m 0 c).arrAt 8 cfg0.N := (h c).1 8

theorem post9 (r : PUnit × MemSt nD τ sig (Elt F)) (h : Pipeline.FramePost cfgs (dats m) 0 (V m) r) (c : Dev nD) :
    r.2.mem ((c : Thread nD τ).loc main_v37_1) = (dats m 0 c).arrAt 9 cfg0.N := (h c).1 9

theorem post10 (r : PUnit × MemSt nD τ sig (Elt F)) (h : Pipeline.FramePost cfgs (dats m) 0 (V m) r) (c : Dev nD) :
    r.2.mem ((c : Thread nD τ).loc main_v37_2) = (dats m 0 c).arrAt 10 cfg0.N := (h c).1 10

/-- The arguments are as launched after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The run with the three result arrays named and the arguments unchanged. -/
theorem run : θ_run defs (onTc (τ := τ) (main (F := F))) ⟨m, fun _ => 0, ρ⟩ fun r => ∀ c : Dev nD,
      r.2.mem ((c : Thread nD τ).loc main_v37_0) = (dats m 0 c).arrAt 8 cfg0.N
      ∧ r.2.mem ((c : Thread nD τ).loc main_v37_1) = (dats m 0 c).arrAt 9 cfg0.N
      ∧ r.2.mem ((c : Thread nD τ).loc main_v37_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c, post9 m r h c, post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelQkvIdeal.Value

end
-- ==== Proof.QkvFold.lean ====
/-
  What the three result arrays of the query, key and value projection hold. The grid walks nine column blocks, and for each
  of them 7 depth blocks of 1024: before the last of these the accumulator holds the dot products over the depth blocks
  done, and the last one writes a block of rotated queries, or the quantized keys, or the quantized values, and every other
  point leaves the three blocks as they were.
-/
module

public import proofs.«01_k».proof.Proof.QkvCase
public import proofs.«01_k».proof.Proof.QkvHost
public import proofs.«01_k».proof.Proof.QkvValue
public import proofs.«01_k».proof.Proof.Sum

@[expose] public section

noncomputable section
namespace Cert.KernelQkvIdeal.Value
open Idealize.ShloMosaic Idealize.ShloMosaic.Pipeline Idealize.ShloMosaic.TcCoe Idealize.ShloMosaic.Pointwise
open Cert.KernelQkvIdeal Cert.KernelQkvIdeal.Gen Cert.KernelQkvIdeal.Host Cert.Awq

variable (m : (ℓ : Loc nD τ sig) → Buf (Elt Ideal) ℓ) (c : Dev nD)

/-- The block each window shows at a grid point. -/
theorem idx : ∀ t : Fin cfg0.N, win0_0.index t = ![0, t.val % 7] ∧ win0_1.index t = ![t.val % 7, t.val / 7]
    ∧ win0_2.index t = ![t.val % 7, t.val / 7] ∧ win0_3.index t = ![t.val % 7, t.val / 7] := (by decide +kernel : ∀ t : Fin grid0.N, _)
theorem idxT4 : ∀ t : Fin cfg0.N, win0_4.index t = ![0, 0] := (by decide +kernel : ∀ t : Fin grid0.N, _)
theorem idxT5 : ∀ t : Fin cfg0.N, win0_5.index t = ![0, 0] := (by decide +kernel : ∀ t : Fin grid0.N, _)
theorem idxT6 : ∀ t : Fin cfg0.N, win0_6.index t = ![0, 0] := (by decide +kernel : ∀ t : Fin grid0.N, _)
theorem idxT7 : ∀ t : Fin cfg0.N, win0_7.index t = ![0, 0] := (by decide +kernel : ∀ t : Fin grid0.N, _)

theorem lt_N (t : Fin cfg0.N) : t.val < 63 := lt_of_lt_of_eq t.isLt (show cfg0.N = 63 from N_0)

/-- The blocks of the arguments that a grid point works on. -/
abbrev xB (t : Fin cfg0.N) : FVec Ideal S2496x1024 .bf16 := iblk m c 0 t
abbrev wB (t : Fin cfg0.N) : IVec S1024x128 32 := iblk m c 1 t
abbrev zB (t : Fin cfg0.N) : IVec S8x128 32 := iblk m c 2 t
abbrev sB (t : Fin cfg0.N) : FVec Ideal S8x1024 .f32 := iblk m c 3 t

/-- The column of the array that column `l` of a block is. -/
def col (t : Fin cfg0.N) (l : Fin 1024) : Fin 9216 := ⟨1024 * (t.val / 7) + l, by have := lt_N t; omega⟩

theorem x_blk (t : Fin cfg0.N) (i : Fin 2496) (k : Fin 1024) :
    xB m c t (ix2 i k)
      = (m ((c : Thread nD τ).loc main_arg0) : FVec Ideal S2496x7168 .bf16) (ix2 i ⟨1024 * (t.val % 7) + k, by omega⟩) := by
  have h := (idx t).1
  unfold xB iblk
  rw [View.read_apply]
  show V m c main_arg0 _ = _
  rw [V_main_arg0 m c]
  congr 1
  funext a
  apply Fin.ext
  match a with
  | ⟨0, _⟩ => show win0_0.index t 0 * 2496 + 1 * i.val = i.val; rw [h]; simp
  | ⟨1, _⟩ => show win0_0.index t 1 * 1024 + 1 * k.val = 1024 * (t.val % 7) + k.val; rw [h]; simp; omega

theorem w_blk (t : Fin cfg0.N) (k : Fin 1024) (l : Fin 128) :
    wB m c t (ix2 k l)
      = (m ((c : Thread nD τ).loc main_arg1) : IVec S7168x1152 32) (ix2 ⟨1024 * (t.val % 7) + k, by omega⟩
          ⟨128 * (t.val / 7) + l, by have := lt_N t; omega⟩) := by
  have h := (idx t).2.1
  unfold wB iblk
  rw [View.read_apply]
  show V m c main_arg1 _ = _
  rw [V_main_arg1 m c]
  congr 1
  funext a
  apply Fin.ext
  match a with
  | ⟨0, _⟩ => show win0_1.index t 0 * 1024 + 1 * k.val = 1024 * (t.val % 7) + k.val; rw [h]; simp; omega
  | ⟨1, _⟩ => show win0_1.index t 1 * 128 + 1 * l.val = 128 * (t.val / 7) + l.val; rw [h]; simp; omega

theorem z_blk (t : Fin cfg0.N) (k : Fin 8) (l : Fin 128) :
    zB m c t (ix2 k l)
      = (m ((c : Thread nD τ).loc main_arg2) : IVec S56x1152 32) (ix2 ⟨8 * (t.val % 7) + k, by omega⟩
          ⟨128 * (t.val / 7) + l, by have := lt_N t; omega⟩) := by
  have h := (idx t).2.2.1
  unfold zB iblk
  rw [View.read_apply]
  show V m c main_arg2 _ = _
  rw [V_main_arg2 m c]
  congr 1
  funext a
  apply Fin.ext
  match a with
  | ⟨0, _⟩ => show win0_2.index t 0 * 8 + 1 * k.val = 8 * (t.val % 7) + k.val; rw [h]; simp; omega
  | ⟨1, _⟩ => show win0_2.index t 1 * 128 + 1 * l.val = 128 * (t.val / 7) + l.val; rw [h]; simp; omega

theorem s_blk (t : Fin cfg0.N) (k : Fin 8) (l : Fin 1024) :
    sB m c t (ix2 k l)
      = (m ((c : Thread nD τ).loc main_arg3) : FVec Ideal S56x9216 .f32) (ix2 ⟨8 * (t.val % 7) + k, by omega⟩
          ⟨1024 * (t.val / 7) + l, by have := lt_N t; omega⟩) := by
  have h := (idx t).2.2.2
  unfold sB iblk
  rw [View.read_apply]
  show V m c main_arg3 _ = _
  rw [V_main_arg3 m c]
  congr 1
  funext a
  apply Fin.ext
  match a with
  | ⟨0, _⟩ => show win0_3.index t 0 * 8 + 1 * k.val = 8 * (t.val % 7) + k.val; rw [h]; simp; omega
  | ⟨1, _⟩ => show win0_3.index t 1 * 1024 + 1 * l.val = 1024 * (t.val / 7) + l.val; rw [h]; simp; omega

/-- The terms of the dot product for row `i` and column `n`. -/
def prodAt (i : Fin 2496) (n : Fin 9216) (k : Fin 7168) : EReal :=
  dotAt (m ((c : Thread nD τ).loc main_arg0)) (m ((c : Thread nD τ).loc main_arg1)) (m ((c : Thread nD τ).loc main_arg2))
    (m ((c : Thread nD τ).loc main_arg3)) (by norm_num) (by norm_num) i n k

theorem prod_term (t : Fin cfg0.N) (i : Fin 2496) (l : Fin 1024) (k : Fin 1024) :
    xB m c t (ix2 i k) * dq (wB m c t) (zB m c t) (sB m c t) (ix2 k l)
      = prodAt m c i (col t l) ⟨1024 * (t.val % 7) + k, by omega⟩ := by
  have h := lt_N t
  exact term_block _ _ _ _ _ _ (t.val % 7) (t.val / 7) (by omega) (by omega) _ _ _ _ (x_blk m c t) (w_blk m c t) (z_blk m c t) (s_blk m c t) i k l

/-- A step from the sum over the first depth blocks reaches the sum over one block more. -/
theorem prod_step (t : Fin cfg0.N) (acc : Vec Ideal S2496x1024 .f32) (j : S2496x1024.Idx)
    (h : acc j = psum (prodAt m c (j 0) (col t (j 1))) (1024 * (t.val % 7))) :
    step acc (xB m c t) (dq (wB m c t) (zB m c t) (sB m c t)) j
      = psum (prodAt m c (j 0) (col t (j 1))) (1024 * (t.val % 7) + 1024) := by
  rw [step_apply, psum_add _ _ _ (by omega), h]
  exact congrArg _ (Finset.sum_congr rfl fun k _ => prod_term m c t (j 0) (j 1) k)

/-- What the accumulator holds after a point that does not end a run. -/
theorem acc_eq (n : ℕ) : ∀ (hn : n < cfg0.N), n % 7 ≠ 6 → ∀ j : S2496x1024.Idx,
    (outsAt0 m c n hn).2.2.2 j = psum (prodAt m c (j 0) (col ⟨n, hn⟩ (j 1))) (1024 * (n % 7) + 1024) := by
  induction n with
  | zero =>
    intro hn _ j
    rw [outsAt0_A m c ⟨0, hn⟩ (Nat.zero_mod _) (by dsimp only; omega) (by dsimp only; omega) (by dsimp only; omega)]
    dsimp only
    rw [acc_A]
    exact prod_step m c ⟨0, hn⟩ _ j (by rw [zacc_apply]; exact (psum_zero _).symm)
  | succ n ih =>
    intro hn h6 j
    by_cases h0 : (n + 1) % 7 = 0
    · rw [outsAt0_A m c ⟨n + 1, hn⟩ h0 (by dsimp only; omega) (by dsimp only; omega) (by dsimp only; omega)]
      dsimp only
      rw [acc_A]
      have hz : 1024 * ((n + 1) % 7) = 0 := by rw [h0]
      exact prod_step m c ⟨n + 1, hn⟩ _ j (by dsimp only; rw [zacc_apply, hz]; exact (psum_zero _).symm)
    · rw [outsAt0_B m c ⟨n + 1, hn⟩ h0 (by dsimp only; omega) (by dsimp only; omega) (by dsimp only; omega)]
      dsimp only
      rw [acc_B]
      have hi := ih (Nat.lt_of_succ_lt hn) (by omega) j
      have hc : col ⟨n + 1, hn⟩ (j 1) = col ⟨n, Nat.lt_of_succ_lt hn⟩ (j 1) := by
        apply Fin.ext; show 1024 * ((n + 1) / 7) + _ = 1024 * (n / 7) + _; omega
      have hk : 1024 * ((n + 1) % 7) = 1024 * (n % 7) + 1024 := by omega
      exact prod_step m c ⟨n + 1, hn⟩ _ j (by rw [hc]; dsimp only; rw [hk]; exact hi)

/-- The projection at row `i` and column `n`. -/
def projAt (i : Fin 2496) (n : Fin 9216) : EReal := ∑ k, prodAt m c i n k

/-- What the last point of a run works on: the projection. -/
abbrev full (t : Fin cfg0.N) : FVec Ideal S2496x1024 .f32 :=
  step (outsAt0 m c (t.val - 1) (Nat.lt_of_le_of_lt (Nat.sub_le _ _) t.isLt)).2.2.2 (xB m c t) (dq (wB m c t) (zB m c t) (sB m c t))

theorem full_eq (t : Fin cfg0.N) (h6 : t.val % 7 = 6) (i : Fin 2496) (l : Fin 1024) : full m c t (ix2 i l) = projAt m c i (col t l) := by
  have hi := acc_eq m c (t.val - 1) (Nat.lt_of_le_of_lt (Nat.sub_le _ _) t.isLt) (by omega) (ix2 i l)
  have hc : col t l = col ⟨t.val - 1, Nat.lt_of_le_of_lt (Nat.sub_le _ _) t.isLt⟩ l := by
    apply Fin.ext; show 1024 * (t.val / 7) + _ = 1024 * ((t.val - 1) / 7) + _; omega
  have hk : 1024 * (t.val % 7) = 1024 * ((t.val - 1) % 7) + 1024 := by omega
  have hg := prod_step m c t (outsAt0 m c (t.val - 1) (Nat.lt_of_le_of_lt (Nat.sub_le _ _) t.isLt)).2.2.2 (ix2 i l)
    (by show _ = psum (prodAt m c i (col t l)) _; rw [hc, hk]; exact hi)
  have hK : 1024 * (t.val % 7) + 1024 = 7168 := by omega
  rw [hK, psum_all] at hg
  exact hg

/-- The tables, whole at every point. -/
theorem tab4 (t : Fin cfg0.N) : (iblk m c 4 t : FVec Ideal S2496x128 .f32) = cosTab (ang m c) := by
  have h : win0_4.index t = ![0, 0] := idxT4 t
  funext y
  unfold iblk
  rw [View.read_apply]
  show V m c main_v24 _ = _
  rw [V_cos m c]
  congr 1
  funext a
  apply Fin.ext
  match a with
  | ⟨0, _⟩ => show win0_4.index t 0 * 2496 + 1 * (y 0).val = (y 0).val; rw [h]; simp
  | ⟨1, _⟩ => show win0_4.index t 1 * 128 + 1 * (y 1).val = (y 1).val; rw [h]; simp

theorem tab5 (t : Fin cfg0.N) : (iblk m c 5 t : FVec Ideal S2496x128 .f32) = sinTab (ang m c) := by
  have h : win0_5.index t = ![0, 0] := idxT5 t
  funext y
  unfold iblk
  rw [View.read_apply]
  show V m c main_v26 _ = _
  rw [V_sin m c]
  congr 1
  funext a
  apply Fin.ext
  match a with
  | ⟨0, _⟩ => show win0_5.index t 0 * 2496 + 1 * (y 0).val = (y 0).val; rw [h]; simp
  | ⟨1, _⟩ => show win0_5.index t 1 * 128 + 1 * (y 1).val = (y 1).val; rw [h]; simp

theorem tab6 (t : Fin cfg0.N) : (iblk m c 6 t : FVec Ideal S1x1024 .f32) = invTab (m ((c : Thread nD τ).loc main_arg6)) := by
  have h : win0_6.index t = ![0, 0] := idxT6 t
  funext y
  unfold iblk
  rw [View.read_apply]
  show V m c main_v31 _ = _
  rw [V_kinv m c]
  congr 1
  funext a
  apply Fin.ext
  match a with
  | ⟨0, _⟩ => show win0_6.index t 0 * 1 + 1 * (y 0).val = (y 0).val; rw [h]; simp
  | ⟨1, _⟩ => show win0_6.index t 1 * 1024 + 1 * (y 1).val = (y 1).val; rw [h]; simp

theorem tab7 (t : Fin cfg0.N) : (iblk m c 7 t : FVec Ideal S1x1024 .f32) = invTab (m ((c : Thread nD τ).loc main_arg7)) := by
  have h : win0_7.index t = ![0, 0] := idxT7 t
  funext y
  unfold iblk
  rw [View.read_apply]
  show V m c main_v36 _ = _
  rw [V_vinv m c]
  congr 1
  funext a
  apply Fin.ext
  match a with
  | ⟨0, _⟩ => show win0_7.index t 0 * 1 + 1 * (y 0).val = (y 0).val; rw [h]; simp
  | ⟨1, _⟩ => show win0_7.index t 1 * 1024 + 1 * (y 1).val = (y 1).val; rw [h]; simp

/-- The angles of row `i`. -/
def angRow (i : Fin 2496) (k : Fin 64) : EReal :=
  angAt (m ((c : Thread nD τ).loc main_arg4)) (m ((c : Thread nD τ).loc main_arg5)) invFreq ⟨i / 96, by omega⟩ ⟨i % 96, by omega⟩ k

/-- One head, its first column at `q`, of the rotated projection. -/
def ropeAtCol (i : Fin 2496) (q : ℕ) (hq : q + 128 ≤ 9216) (l : Fin 128) : EReal :=
  ropeOf (fun l => projAt m c i ⟨q + l, by omega⟩) (angRow m c i) l

theorem ropeAtCol_congr (i : Fin 2496) (q q' : ℕ) (hq : q + 128 ≤ 9216) (hq' : q' + 128 ≤ 9216) (h : q = q') (l l' : Fin 128) (hl : l = l') :
    ropeAtCol m c i q hq l = ropeAtCol m c i q' hq' l' := by subst h; subst hl; rfl

theorem rope_strip (t : Fin cfg0.N) (h6 : t.val % 7 = 6) (h : Fin 8) (i : Fin 2496) (l : Fin 128) :
    ropeAt (strip (full m c t) h) (cosTab (ang m c)) (sinTab (ang m c)) i l
      = ropeAtCol m c i (1024 * (t.val / 7) + 128 * h) (by have := lt_N t; omega) l := by
  rw [ropeAt_tab]
  unfold ropeAtCol
  refine congrArg₂ (fun f g => ropeOf f g l) (funext fun l => ?_) (funext fun k => angle_apply _ _ _ i k)
  rw [strip_apply, full_eq m c t h6]
  refine congrArg (projAt m c i) (Fin.ext ?_)
  show 1024 * (t.val / 7) + (128 * h.val + l.val) = 1024 * (t.val / 7) + 128 * h.val + l.val
  omega

/-- A block of queries, as the last point of its run leaves it. -/
theorem q_eq (t : Fin cfg0.N) (h6 : t.val % 7 = 6) (h49 : t.val < 49) (y : S2496x1024.Idx) :
    (outsAt0 m c t.val t.isLt).1 y
      = ropeAtCol m c (y 0) (1024 * (t.val / 7) + 128 * ((y 1).val / 128)) (by have : (y 1).val < 1024 := (y 1).isLt; omega) ⟨(y 1).val % 128, by omega⟩ := by
  rw [outsAt0_C m c t (by omega) (by omega) (by omega) (by omega)]
  dsimp only
  rw [out_C, canon_strips, tab4, tab5]
  refine (qStrip_apply _ _ _ _ _).trans ?_
  exact rope_strip m c t h6 _ _ _

/-- The keys, as the last point of their run leaves them. -/
theorem k_eq (t : Fin cfg0.N) (h55 : t.val = 55) (y : S2496x1024.Idx) :
    (outsAt0 m c t.val t.isLt).2.1 y
      = clip (ropeAtCol m c (y 0) (7168 + 128 * ((y 1).val / 128)) (by have : (y 1).val < 1024 := (y 1).isLt; omega) ⟨(y 1).val % 128, by omega⟩
        * invTab (m ((c : Thread nD τ).loc main_arg6)) (ix2 0 (y 1))) := by
  have hy : (y 1).val < 1024 := (y 1).isLt
  rw [outsAt0_D m c t (by omega) (by omega) (by omega) (by omega)]
  dsimp only
  rw [out_D, canon_strips, tab4, tab5, tab6]
  refine (kStrip_apply _ _ _ _ _ _).trans ?_
  refine congrArg clip (congrArg₂ (fun a b : EReal => a * b) ((rope_strip m c t (by omega) _ _ _).trans ?_) ?_)
  · refine ropeAtCol_congr m c _ _ _ _ _ ?_ _ _ rfl
    show 1024 * (t.val / 7) + 128 * ((y 1).val / 128) = _
    omega
  · rw [rowStrip_apply]
    refine congrArg (fun l : Fin 1024 => invTab (m ((c : Thread nD τ).loc main_arg6)) (ix2 0 l)) (Fin.ext ?_)
    show 128 * ((y 1).val / 128) + (y 1).val % 128 = (y 1).val
    omega

/-- The values, as the last point leaves them. -/
theorem v_eq (t : Fin cfg0.N) (h62 : t.val = 62) (y : S2496x1024.Idx) :
    (outsAt0 m c t.val t.isLt).2.2.1 y
      = clip (projAt m c (y 0) ⟨8192 + (y 1).val, by have : (y 1).val < 1024 := (y 1).isLt; omega⟩
        * invTab (m ((c : Thread nD τ).loc main_arg7)) (ix2 0 (y 1))) := by
  have hy : (y 1).val < 1024 := (y 1).isLt
  rw [outsAt0_E m c t (by omega) (by omega) (by omega) (by omega)]
  dsimp only
  rw [out_E, canon_strips, tab7]
  refine (vStrip_apply _ _ _ _).trans ?_
  refine congrArg clip (congrArg₂ (fun a b : EReal => a * b) ?_ ?_)
  · refine (strip_apply _ _ _ _).trans ((full_eq m c t (by omega) _ _).trans ?_)
    refine congrArg (projAt m c (y 0)) (Fin.ext ?_)
    show 1024 * (t.val / 7) + (128 * ((y 1).val / 128) + (y 1).val % 128) = 8192 + (y 1).val
    omega
  · rw [rowStrip_apply]
    refine congrArg (fun l : Fin 1024 => invTab (m ((c : Thread nD τ).loc main_arg7)) (ix2 0 l)) (Fin.ext ?_)
    show 128 * ((y 1).val / 128) + (y 1).val % 128 = (y 1).val
    omega

/-- A point that does not end a run of queries leaves the query block as it was. -/
theorem q_idle (t : Fin cfg0.N) (h : 49 ≤ t.val) :
    (outsAt0 m c t.val t.isLt).1 = (outsAt0 m c (t.val - 1) (Nat.lt_of_le_of_lt (Nat.sub_le _ _) t.isLt)).1 := by
  have hN := lt_N t
  by_cases h0 : t.val % 7 = 0
  · rw [outsAt0_A m c t h0 (by omega) (by omega) (by omega)]; rfl
  by_cases h2 : t.val % 63 = 55
  · rw [outsAt0_D m c t h0 (by omega) h2 (by omega)]; rfl
  by_cases h3 : t.val % 63 = 62
  · rw [outsAt0_E m c t h0 (by omega) h2 h3]; rfl
  · rw [outsAt0_B m c t h0 (by omega) h2 h3]; rfl

/-- A point after the keys' run leaves the key block as it was. -/
theorem k_idle (t : Fin cfg0.N) (h : 56 ≤ t.val) :
    (outsAt0 m c t.val t.isLt).2.1 = (outsAt0 m c (t.val - 1) (Nat.lt_of_le_of_lt (Nat.sub_le _ _) t.isLt)).2.1 := by
  have hN := lt_N t
  by_cases h0 : t.val % 7 = 0
  · rw [outsAt0_A m c t h0 (by omega) (by omega) (by omega)]; rfl
  by_cases h3 : t.val % 63 = 62
  · rw [outsAt0_E m c t h0 (by omega) (by omega) h3]; rfl
  · rw [outsAt0_B m c t h0 (by omega) (by omega) h3]; rfl

theorem q_carry (d : ℕ) : ∀ t s : Fin cfg0.N, s.val = 48 → t.val = s.val + d →
    (outsAt0 m c t.val t.isLt).1 = (outsAt0 m c s.val s.isLt).1 := by
  induction d with
  | zero => intro t s hs ht; rw [show t = s from Fin.ext ht]
  | succ d ih =>
    exact fun t s hs ht => (q_idle m c t (by omega)).trans (ih ⟨t.val - 1, Nat.lt_of_le_of_lt (Nat.sub_le _ _) t.isLt⟩ s hs (by dsimp only; omega))

theorem k_carry (d : ℕ) : ∀ t s : Fin cfg0.N, s.val = 55 → t.val = s.val + d →
    (outsAt0 m c t.val t.isLt).2.1 = (outsAt0 m c s.val s.isLt).2.1 := by
  induction d with
  | zero => intro t s hs ht; rw [show t = s from Fin.ext ht]
  | succ d ih =>
    exact fun t s hs ht => (k_idle m c t (by omega)).trans (ih ⟨t.val - 1, Nat.lt_of_le_of_lt (Nat.sub_le _ _) t.isLt⟩ s hs (by dsimp only; omega))

/-- The point of value `n`, without showing which. -/
theorem exists_pt (n : ℕ) (h : n < 63) : ∃ s : Fin cfg0.N, s.val = n := ⟨⟨n, lt_of_lt_of_eq h N_0.symm⟩, rfl⟩

/-- The three arrays. -/
def Gq : FVec Ideal S2496x7168 .bf16 := fun y => ropeAtCol m c (y 0) (128 * ((y 1).val / 128)) (by have : (y 1).val < 7168 := (y 1).isLt; omega) ⟨(y 1).val % 128, by omega⟩
def Gk : FVec Ideal S2496x1024 .fp8e4m3 := fun y =>
  clip (ropeAtCol m c (y 0) (7168 + 128 * ((y 1).val / 128)) (by have : (y 1).val < 1024 := (y 1).isLt; omega) ⟨(y 1).val % 128, by omega⟩
        * invTab (m ((c : Thread nD τ).loc main_arg6)) (ix2 0 (y 1)))
def Gv : FVec Ideal S2496x1024 .fp8e4m3 := fun y =>
  clip (projAt m c (y 0) ⟨8192 + (y 1).val, by have : (y 1).val < 1024 := (y 1).isLt; omega⟩
        * invTab (m ((c : Thread nD τ).loc main_arg7)) (ix2 0 (y 1)))

theorem Gq_block (b : ℕ) (hb : b ≤ 6) (y : S2496x1024.Idx) (hq : 1024 * b + 128 * ((y 1).val / 128) + 128 ≤ 9216) (hl : (y 1).val % 128 < 128)
    (hy : 1024 * b + (y 1).val < 7168) :
    ropeAtCol m c (y 0) (1024 * b + 128 * ((y 1).val / 128)) hq ⟨(y 1).val % 128, hl⟩ = Gq m c (ix2 (y 0) ⟨1024 * b + (y 1).val, hy⟩ : S2496x7168.Idx) := by
  unfold Gq
  refine ropeAtCol_congr m c _ _ _ _ _ ?_ _ _ (Fin.ext ?_)
  · show 1024 * b + 128 * ((y 1).val / 128) = 128 * ((1024 * b + (y 1).val) / 128)
    omega
  · show (y 1).val % 128 = (1024 * b + (y 1).val) % 128
    omega

theorem q_arr : (dats m 0 c).arrAt 8 cfg0.N = Gq m c := by
  have hN : cfg0.N = 63 := N_0
  refine final8 m c (Gq m c) fun t ht y => ?_
  have hy : (y 1).val < 1024 := (y 1).isLt
  rcases ht with ⟨h6, h42⟩ | h62
  · rw [q_eq m c t h6 (by omega) y]
    have e : qBlk t.val = t.val / 7 := Nat.min_eq_left (by omega)
    refine (Gq_block m c (t.val / 7) (by omega) y _ _ (by omega)).trans (congrArg (fun l : Fin 7168 => Gq m c (ix2 (y 0) l)) (Fin.ext ?_))
    show 1024 * (t.val / 7) + (y 1).val = 1024 * qBlk t.val + (y 1).val
    rw [e]
  · obtain ⟨s, hs⟩ := exists_pt 48 (by decide)
    rw [q_carry m c 14 t s hs (by omega), q_eq m c s (by omega) (by omega) y]
    have e : qBlk t.val = s.val / 7 := (Nat.min_eq_right (by omega)).trans (by omega)
    refine (Gq_block m c (s.val / 7) (by omega) y _ _ (by omega)).trans (congrArg (fun l : Fin 7168 => Gq m c (ix2 (y 0) l)) (Fin.ext ?_))
    show 1024 * (s.val / 7) + (y 1).val = 1024 * qBlk t.val + (y 1).val
    rw [e]

theorem k_arr : (dats m 0 c).arrAt 9 cfg0.N = Gk m c := by
  have hN : cfg0.N = 63 := N_0
  refine final9 m c (Gk m c) fun t ht y => ?_
  obtain ⟨s, hs⟩ := exists_pt 55 (by decide)
  rw [k_carry m c 7 t s hs (by omega)]
  exact k_eq m c s hs y

theorem v_arr : (dats m 0 c).arrAt 10 cfg0.N = Gv m c :=
  final10 m c (Gv m c) fun t ht y => v_eq m c t ht y

end Cert.KernelQkvIdeal.Value

end
-- ==== Proof.QkvRef.lean ====
/-
  The query, key and value projection's reference, read at an index: the dot product over the whole depth with the plain
  dequantized weights, the rotation by the two halves of a head, and the quantization of the keys and values.
-/
module

public import proofs.«01_k».proof.Proof.Rope
public import proofs.«01_k».proof.Proof.Sum
public import proofs.«01_k».proof.Proof.Gen.ReferenceQkvIdeal.Value
public import Idealize.ShloMosaic.Lib.StableHlo.Run
public import Idealize.ShloMosaic.Lib.Pointwise

@[expose] public section

noncomputable section
namespace Cert.ReferenceQkvIdeal.Value
open Idealize.ShloMosaic Idealize.ShloMosaic.TcCoe Idealize.ShloMosaic.Pointwise Idealize.ShloMosaic.StableHlo
open Cert.ReferenceQkvIdeal Cert.ReferenceQkvIdeal.Gen Cert.Awq

/-- The reference's dequantized weight matrix. -/
def wmat (w : IVec S7168x1152 32) (z : IVec S56x1152 32) (s : FVec Ideal S56x9216 .f32) : FVec Ideal S7168x9216 .bf16 :=
  shapeCast _ (truncf .bf16 (mulf (sitofp .f32 (subi (shapeCast _ (andi (Host.shrsi (broadcastInDim S7168x1152x8 ![0, 1, 2] bcast_S7168x1152x1_S7168x1152x8_0_1_2 (broadcastInDim S7168x1152x1 ![0, 1] bcast_S7168x1152_S7168x1152x1_0_1 w)) (broadcastInDim S7168x1152x8 ![0, 1, 2] bcast_S1x1x8_S7168x1152x8_0_1_2 (broadcastInDim S1x1x8 ![2] bcast_S8_S1x1x8_2 ((fun i => lit0 (S8.rowMajor i)))))) (broadcastInDim S7168x1152x8 ![] bcast_S_S7168x1152x8 (constantI S_ 32 15#32))) shapeCasts_S7168x1152x8_S56x128x1152x8) (broadcastInDim S56x128x1152x8 ![0, 1, 2, 3] bcast_S56x1x1152x8_S56x128x1152x8_0_1_2_3 (broadcastInDim S56x1x1152x8 ![0, 2, 3] bcast_S56x1152x8_S56x1x1152x8_0_2_3 (andi (Host.shrsi (broadcastInDim S56x1152x8 ![0, 1, 2] bcast_S56x1152x1_S56x1152x8_0_1_2 (broadcastInDim S56x1152x1 ![0, 1] bcast_S56x1152_S56x1152x1_0_1 z)) (broadcastInDim S56x1152x8 ![0, 1, 2] bcast_S1x1x8_S56x1152x8_0_1_2 (broadcastInDim S1x1x8 ![2] bcast_S8_S1x1x8_2 ((fun i => lit0 (S8.rowMajor i)))))) (broadcastInDim S56x1152x8 ![] bcast_S_S56x1152x8 (constantI S_ 32 15#32))))))) (broadcastInDim S56x128x1152x8 ![0, 1, 2, 3] bcast_S56x1x1152x8_S56x128x1152x8_0_1_2_3 (shapeCast _ s shapeCasts_S56x9216_S56x1x1152x8))) bitsLt_bf16_f32) shapeCasts_S56x128x1152x8_S7168x9216

theorem lit0_eq : ∀ k : Fin 8, lit0 k = BitVec.ofNat 32 (shift k) := by decide

theorem lane_eq (j : Fin 8) : lit0 (S8.rowMajor (ix1 j)) = BitVec.ofNat 32 (shift j) := by
  rw [show S8.rowMajor (ix1 j) = j from Fin.ext (Shape.rowMajor_val_one _)]
  exact lit0_eq j

theorem wmat_apply (w : IVec S7168x1152 32) (z : IVec S56x1152 32) (s : FVec Ideal S56x9216 .f32) (k : Fin 7168) (n : Fin 9216) :
    wmat w z s (ix2 k n) = wAt w z s (by norm_num) (by norm_num) k n := by
  unfold wmat wAt
  pointwise
  have h8 : (n : ℕ) % 8 < 8 := Nat.mod_lt _ (by decide)
  have e : lit0 (S8.rowMajor (ix1 ⟨(n : ℕ) % 8, h8⟩)) = BitVec.ofNat 32 (shift ((n : ℕ) % 8)) := lane_eq _
  simp only [e, nib_shr _ _ h8]
  rfl

/-- The projection, all heads side by side. -/
def proj (x : FVec Ideal S2496x7168 .bf16) (w : IVec S7168x1152 32) (z : IVec S56x1152 32) (s : FVec Ideal S56x9216 .f32) : FVec Ideal S2496x9216 .f32 :=
  Host.dotGeneral dot_S2496x7168_S7168x9216_S2496x9216_1_0_0_1_n_n none x (wmat w z s)

theorem proj_apply (x : FVec Ideal S2496x7168 .bf16) (w : IVec S7168x1152 32) (z : IVec S56x1152 32) (s : FVec Ideal S56x9216 .f32) (i : Fin 2496) (n : Fin 9216) :
    proj x w z s (ix2 i n) = ∑ k : Fin 7168, dotAt x w z s (by norm_num) (by norm_num) i n k := by
  unfold proj
  pointwise
  simp only [wmat_apply]
  rfl

/-- The inverse frequencies and the angles. -/
def invFreq : FVec Ideal S64 .f32 :=
  Host.divf (broadcastInDim S64 ![] bcast_S_S64 (constant S_ .f32 0x3F800000#32)) (Host.powf (broadcastInDim S64 ![] bcast_S_S64 (constant S_ .f32 0x48F42400#32))
    (Host.divf (addf (broadcastInDim S64 ![] bcast_S_S64 (constant S_ .f32 0x00000000#32)) (mulf (broadcastInDim S64 ![] bcast_S_S64 (constant S_ .f32 0x40000000#32))
      (sitofp .f32 (iotaInDim S64 32 0)))) (broadcastInDim S64 ![] bcast_S_S64 (constant S_ .f32 0x43000000#32))))

def angle (ctx : IVec S26 32) (tree : IVec S96 32) (f : FVec Ideal S64 .f32) : FVec Ideal S26x96x64 .f32 :=
  mulf (broadcastInDim S26x96x64 ![0, 1, 2] bcast_S26x96x1_S26x96x64_0_1_2 (broadcastInDim S26x96x1 ![0, 1] bcast_S26x96_S26x96x1_0_1
    (sitofp .f32 (addi (broadcastInDim S26x96 ![0, 1] bcast_S26x1_S26x96_0_1 (broadcastInDim S26x1 ![0] bcast_S26_S26x1_0 ctx))
    (broadcastInDim S26x96 ![0, 1] bcast_S1x96_S26x96_0_1 (broadcastInDim S1x96 ![1] bcast_S96_S1x96_1 tree))))))
    (broadcastInDim S26x96x64 ![0, 1, 2] bcast_S1x1x64_S26x96x64_0_1_2 (broadcastInDim S1x1x64 ![2] bcast_S64_S1x1x64_2 f))

/-- The cosines and the sines with an axis for the heads. -/
def cosA (a : FVec Ideal S26x96x64 .f32) : FVec Ideal S26x96x1x64 .f32 :=
  broadcastInDim S26x96x1x64 ![0, 1, 3] bcast_S26x96x64_S26x96x1x64_0_1_3 (Host.cos a)
def sinA (a : FVec Ideal S26x96x64 .f32) : FVec Ideal S26x96x1x64 .f32 :=
  broadcastInDim S26x96x1x64 ![0, 1, 3] bcast_S26x96x64_S26x96x1x64_0_1_3 (Host.sin a)

/-- The rotated heads of the q, from the projection. -/
def qHeads (p : FVec Ideal S2496x9216 .f32) : FVec Ideal S26x96x56x128 .f32 :=
  shapeCast S26x96x56x128 (extractStridedSlice S2496x7168 ![0, 0] p slices_S2496x9216_S2496x7168_0_0) shapeCasts_S2496x7168_S26x96x56x128
def qRot (t : FVec Ideal S26x96x56x128 .f32) (cos sin : FVec Ideal S26x96x1x64 .f32) : FVec Ideal S2496x7168 .f32 :=
  shapeCast S2496x7168 (concatenate S26x96x56x128 3 [
    ⟨S26x96x56x64, subf (mulf (extractStridedSlice S26x96x56x64 ![0, 0, 0, 0] t slices_S26x96x56x128_S26x96x56x64_0_0_0_0) (broadcastInDim S26x96x56x64 ![0, 1, 2, 3] bcast_S26x96x1x64_S26x96x56x64_0_1_2_3 cos)) (mulf (extractStridedSlice S26x96x56x64 ![0, 0, 0, 64] t slices_S26x96x56x128_S26x96x56x64_0_0_0_64) (broadcastInDim S26x96x56x64 ![0, 1, 2, 3] bcast_S26x96x1x64_S26x96x56x64_0_1_2_3 sin))⟩,
    ⟨S26x96x56x64, addf (mulf (extractStridedSlice S26x96x56x64 ![0, 0, 0, 64] t slices_S26x96x56x128_S26x96x56x64_0_0_0_64) (broadcastInDim S26x96x56x64 ![0, 1, 2, 3] bcast_S26x96x1x64_S26x96x56x64_0_1_2_3 cos)) (mulf (extractStridedSlice S26x96x56x64 ![0, 0, 0, 0] t slices_S26x96x56x128_S26x96x56x64_0_0_0_0) (broadcastInDim S26x96x56x64 ![0, 1, 2, 3] bcast_S26x96x1x64_S26x96x56x64_0_1_2_3 sin))⟩]
    concatenates_S26x96x56x64_S26x96x56x64_S26x96x56x128_d3) shapeCasts_S26x96x56x128_S2496x7168

/-- The rotated heads of the k, from the projection. -/
def kHeads (p : FVec Ideal S2496x9216 .f32) : FVec Ideal S26x96x8x128 .f32 :=
  shapeCast S26x96x8x128 (extractStridedSlice S2496x1024 ![0, 7168] p slices_S2496x9216_S2496x1024_0_7168) shapeCasts_S2496x1024_S26x96x8x128
def kRot (t : FVec Ideal S26x96x8x128 .f32) (cos sin : FVec Ideal S26x96x1x64 .f32) : FVec Ideal S2496x1024 .f32 :=
  shapeCast S2496x1024 (concatenate S26x96x8x128 3 [
    ⟨S26x96x8x64, subf (mulf (extractStridedSlice S26x96x8x64 ![0, 0, 0, 0] t slices_S26x96x8x128_S26x96x8x64_0_0_0_0) (broadcastInDim S26x96x8x64 ![0, 1, 2, 3] bcast_S26x96x1x64_S26x96x8x64_0_1_2_3 cos)) (mulf (extractStridedSlice S26x96x8x64 ![0, 0, 0, 64] t slices_S26x96x8x128_S26x96x8x64_0_0_0_64) (broadcastInDim S26x96x8x64 ![0, 1, 2, 3] bcast_S26x96x1x64_S26x96x8x64_0_1_2_3 sin))⟩,
    ⟨S26x96x8x64, addf (mulf (extractStridedSlice S26x96x8x64 ![0, 0, 0, 64] t slices_S26x96x8x128_S26x96x8x64_0_0_0_64) (broadcastInDim S26x96x8x64 ![0, 1, 2, 3] bcast_S26x96x1x64_S26x96x8x64_0_1_2_3 cos)) (mulf (extractStridedSlice S26x96x8x64 ![0, 0, 0, 0] t slices_S26x96x8x128_S26x96x8x64_0_0_0_0) (broadcastInDim S26x96x8x64 ![0, 1, 2, 3] bcast_S26x96x1x64_S26x96x8x64_0_1_2_3 sin))⟩]
    concatenates_S26x96x8x64_S26x96x8x64_S26x96x8x128_d3) shapeCasts_S26x96x8x128_S2496x1024

/-- The values, and the repeated inverse scales. -/
def vCols (p : FVec Ideal S2496x9216 .f32) : FVec Ideal S2496x1024 .f32 :=
  extractStridedSlice S2496x1024 ![0, 8192] p slices_S2496x9216_S2496x1024_0_8192
def invTab (s : FVec Ideal S8 .f32) : FVec Ideal S1x1024 .f32 :=
  shapeCast S1x1024 (broadcastInDim S8x128 ![0, 1] bcast_S8x1_S8x128_0_1 (broadcastInDim S8x1 ![0] bcast_S8_S8x1_0
    (Host.divf (broadcastInDim S8 ![] bcast_S_S8 (constant S_ .f32 0x3F800000#32)) s))) shapeCasts_S8x128_S1x1024

theorem invTab_apply (s : FVec Ideal S8 .f32) (l : Fin 1024) :
    invTab s (ix2 0 l : LR.Idx) = Ideal.div (Ideal.ofBits .f32 0x3F800000#32) (s (ix1 ⟨l / 128, by omega⟩)) := by
  unfold invTab
  pointwise

theorem vCols_apply (p : FVec Ideal S2496x9216 .f32) (i : Fin 2496) (l : Fin 1024) :
    vCols p (ix2 i l) = p (ix2 i ⟨8192 + l, by omega⟩) := by
  unfold vCols
  pointwise

theorem angle_apply (ctx : IVec S26 32) (tree : IVec S96 32) (f : FVec Ideal S64 .f32) (b : Fin 26) (s : Fin 96) (k : Fin 64) :
    angle ctx tree f (ix3 b s k) = (FloatOps.sitofp .f32 (IntOp.addi (ctx (ix1 b)) (tree (ix1 s))) : Ideal .f32) * f (ix1 k) := by
  unfold angle
  pointwise

theorem qRot_apply (p : FVec Ideal S2496x9216 .f32) (a : FVec Ideal S26x96x64 .f32) (i : Fin 2496) (n : Fin 7168) :
    qRot (qHeads p) (cosA a) (sinA a) (ix2 i n) = ropeOf (fun l => p (ix2 i ⟨128 * (n / 128) + l, by omega⟩))
      (fun k => a (ix3 ⟨i / 96, by omega⟩ ⟨i % 96, by omega⟩ k)) ⟨n % 128, by omega⟩ := by
  unfold qRot qHeads cosA sinA ropeOf
  pointwise
  have key : ∀ a b : Fin 9216, a.val = b.val → p (ix2 i a) = p (ix2 i b) := fun a b h => congrArg (fun a : Fin 9216 => p (ix2 i a)) (Fin.ext h)
  refine dite_congr rfl (fun h => ?_) fun h => ?_
  · refine congrArg₂ (fun a b : EReal => a - b) (congrArg (fun a : EReal => a * _) (key _ _ ?_)) (congrArg (fun a : EReal => a * _) (key _ _ ?_)) <;>
      (dsimp only; omega)
  · refine congrArg₂ (fun a b : EReal => a + b) (congrArg (fun a : EReal => a * _) (key _ _ ?_)) (congrArg (fun a : EReal => a * _) (key _ _ ?_)) <;>
      (dsimp only; omega)

theorem kRot_apply (p : FVec Ideal S2496x9216 .f32) (a : FVec Ideal S26x96x64 .f32) (i : Fin 2496) (n : Fin 1024) :
    kRot (kHeads p) (cosA a) (sinA a) (ix2 i n) = ropeOf (fun l => p (ix2 i ⟨7168 + (128 * (n / 128) + l), by omega⟩))
      (fun k => a (ix3 ⟨i / 96, by omega⟩ ⟨i % 96, by omega⟩ k)) ⟨n % 128, by omega⟩ := by
  unfold kRot kHeads cosA sinA ropeOf
  pointwise
  have key : ∀ a b : Fin 9216, a.val = b.val → p (ix2 i a) = p (ix2 i b) := fun a b h => congrArg (fun a : Fin 9216 => p (ix2 i a)) (Fin.ext h)
  refine dite_congr rfl (fun h => ?_) fun h => ?_
  · refine congrArg₂ (fun a b : EReal => a - b) (congrArg (fun a : EReal => a * _) (key _ _ ?_)) (congrArg (fun a : EReal => a * _) (key _ _ ?_)) <;>
      (dsimp only; omega)
  · refine congrArg₂ (fun a b : EReal => a + b) (congrArg (fun a : EReal => a * _) (key _ _ ?_)) (congrArg (fun a : EReal => a * _) (key _ _ ?_)) <;>
      (dsimp only; omega)

/-! ## The arrays -/

variable (m : (ℓ : Loc nD τ sig) → Buf (Elt Ideal) ℓ) (c : Dev nD)

/-- The projection and the angles of a run's arguments. -/
abbrev pr : FVec Ideal S2496x9216 .f32 :=
  proj (m ((c : Thread nD τ).loc main_arg0)) (m ((c : Thread nD τ).loc main_arg1)) (m ((c : Thread nD τ).loc main_arg2)) (m ((c : Thread nD τ).loc main_arg3))
abbrev ang : FVec Ideal S26x96x64 .f32 := angle (m ((c : Thread nD τ).loc main_arg4)) (m ((c : Thread nD τ).loc main_arg5)) invFreq

set_option maxHeartbeats 4000000 in
theorem V_q : V m c main_v65 = qRot (qHeads (pr m c)) (cosA (ang m c)) (sinA (ang m c)) := by
  unfold V; after_results <;> rfl
set_option maxHeartbeats 4000000 in
theorem V_k : V m c main_v81 = kRot (kHeads (pr m c)) (cosA (ang m c)) (sinA (ang m c)) := by
  unfold V; after_results <;> rfl
set_option maxHeartbeats 4000000 in
theorem V_v : V m c main_v82 = vCols (pr m c) := by
  unfold V; after_results <;> rfl
set_option maxHeartbeats 4000000 in
theorem V_kinv : V m c main_v87 = invTab (m ((c : Thread nD τ).loc main_arg6)) := by
  unfold V; after_results <;> rfl
set_option maxHeartbeats 4000000 in
theorem V_vinv : V m c main_v92 = invTab (m ((c : Thread nD τ).loc main_arg7)) := by
  unfold V; after_results <;> rfl

end Cert.ReferenceQkvIdeal.Value
-- ==== Proof.QkvEq.lean ====
/-
  The query, key and value projection's reference, its three result arrays, and that the kernel's arrays are the same.
-/
module

public import proofs.«01_k».proof.Proof.QkvFold
public import proofs.«01_k».proof.Proof.QkvRef

@[expose] public section

noncomputable section
namespace Cert.ReferenceQkvIdeal.Value
open Idealize.ShloMosaic Idealize.ShloMosaic.TcCoe Idealize.ShloMosaic.Pointwise
open Cert.ReferenceQkvIdeal Cert.ReferenceQkvIdeal.Gen Cert.Awq

variable (m : (ℓ : Loc nD τ sig) → Buf (Elt Ideal) ℓ) (c : Dev nD)

/-- Every window's one block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The quantization of an array with one scale per column. -/
def quant (x : FVec Ideal S2496x1024 .f32) (s : FVec Ideal S1x1024 .f32) : FVec Ideal S2496x1024 .fp8e4m3 :=
  fun y => clip (x y * s (ix2 0 (y 1)))

abbrev pt : Fin grid0.N := ⟨0, lt_of_lt_of_eq (by decide) N_0.symm⟩
theorem flush_pt : (cfg0.win 5).flush pt = true ∧ (cfg0.win 6).flush pt = true ∧ (cfg0.win 7).flush pt = true :=
  (by decide +kernel : win0_5.flush pt = true ∧ win0_6.flush pt = true ∧ win0_7.flush pt = true)

/-- The three results from the blocks. -/
theorem out5 (x0 : Vec Ideal S2496x7168 .f32) (x1 x2 : Vec Ideal S2496x1024 .f32) (x3 x4 : Vec Ideal S1x1024 .f32) (y : S2496x7168.Idx) :
    out0_5 x0 x1 x2 x3 x4 y = x0 y := by
  unfold out0_5
  rw [canon5_eq, View.ld_unit_zero (S := S2496x7168) zero2]
  refine congrArg x0 (funext fun a => ?_)
  match a with
  | ⟨0, _⟩ => rfl
  | ⟨1, _⟩ => rfl

theorem out6 (x0 : Vec Ideal S2496x7168 .f32) (x1 x2 : Vec Ideal S2496x1024 .f32) (x3 x4 : Vec Ideal S1x1024 .f32) (y : S2496x1024.Idx) :
    out0_6 x0 x1 x2 x3 x4 y = quant x1 x3 y := by
  unfold out0_6
  rw [canon6_eq, View.ld_unit_zero (S := S2496x1024) zero2, View.ld_unit_zero (S := S1x1024) zero2]
  refine congrArg clip (congrArg₂ (fun a b : EReal => a * b) (congrArg x1 (funext fun a => ?_)) (congrArg x3 (funext fun a => ?_)))
  · match a with
    | ⟨0, _⟩ => rfl
    | ⟨1, _⟩ => rfl
  · match a with
    | ⟨0, _⟩ => rfl
    | ⟨1, _⟩ => rfl

theorem out7 (x0 : Vec Ideal S2496x7168 .f32) (x1 x2 : Vec Ideal S2496x1024 .f32) (x3 x4 : Vec Ideal S1x1024 .f32) (y : S2496x1024.Idx) :
    out0_7 x0 x1 x2 x3 x4 y = quant x2 x4 y := by
  unfold out0_7
  rw [canon7_eq, View.ld_unit_zero (S := S2496x1024) zero2, View.ld_unit_zero (S := S1x1024) zero2]
  refine congrArg clip (congrArg₂ (fun a b : EReal => a * b) (congrArg x2 (funext fun a => ?_)) (congrArg x4 (funext fun a => ?_)))
  · match a with
    | ⟨0, _⟩ => rfl
    | ⟨1, _⟩ => rfl
  · match a with
    | ⟨0, _⟩ => rfl
    | ⟨1, _⟩ => rfl

/-- The arrays a run's one point reads. -/
def qR : FVec Ideal S2496x7168 .f32 := qRot (qHeads (pr m c)) (cosA (ang m c)) (sinA (ang m c))
def kR : FVec Ideal S2496x1024 .f32 := kRot (kHeads (pr m c)) (cosA (ang m c)) (sinA (ang m c))
def vR : FVec Ideal S2496x1024 .f32 := vCols (pr m c)

theorem V_qR : V m c main_v65 = qR m c := V_q m c
theorem V_kR : V m c main_v81 = kR m c := V_k m c
theorem V_vR : V m c main_v82 = vR m c := V_v m c

theorem tab0 (t : Fin cfg0.N) : (iblk m c 0 t : FVec Ideal S2496x7168 .f32) = qR m c := by
  have h : win0_0.index t = ![0, 0] := (idx t).1
  funext y
  unfold iblk
  rw [View.read_apply]
  show V m c main_v65 _ = _
  rw [V_qR m c]
  refine congrArg (qR m c) ?_
  funext a
  apply Fin.ext
  match a with
  | ⟨0, _⟩ => show win0_0.index t 0 * 2496 + 1 * (y 0).val = (y 0).val; rw [h]; simp
  | ⟨1, _⟩ => show win0_0.index t 1 * 7168 + 1 * (y 1).val = (y 1).val; rw [h]; simp

theorem tab1 (t : Fin cfg0.N) : (iblk m c 1 t : FVec Ideal S2496x1024 .f32) = kR m c := by
  have h : win0_1.index t = ![0, 0] := (idx t).2.1
  funext y
  unfold iblk
  rw [View.read_apply]
  show V m c main_v81 _ = _
  rw [V_kR m c]
  refine congrArg (kR m c) ?_
  funext a
  apply Fin.ext
  match a with
  | ⟨0, _⟩ => show win0_1.index t 0 * 2496 + 1 * (y 0).val = (y 0).val; rw [h]; simp
  | ⟨1, _⟩ => show win0_1.index t 1 * 1024 + 1 * (y 1).val = (y 1).val; rw [h]; simp

theorem tab2 (t : Fin cfg0.N) : (iblk m c 2 t : FVec Ideal S2496x1024 .f32) = vR m c := by
  have h : win0_2.index t = ![0, 0] := (idx t).2.2.1
  funext y
  unfold iblk
  rw [View.read_apply]
  show V m c main_v82 _ = _
  rw [V_vR m c]
  refine congrArg (vR m c) ?_
  funext a
  apply Fin.ext
  match a with
  | ⟨0, _⟩ => show win0_2.index t 0 * 2496 + 1 * (y 0).val = (y 0).val; rw [h]; simp
  | ⟨1, _⟩ => show win0_2.index t 1 * 1024 + 1 * (y 1).val = (y 1).val; rw [h]; simp

theorem tab3 (t : Fin cfg0.N) : (iblk m c 3 t : FVec Ideal S1x1024 .f32) = invTab (m ((c : Thread nD τ).loc main_arg6)) := by
  have h : win0_3.index t = ![0, 0] := (idx t).2.2.2.1
  funext y
  unfold iblk
  rw [View.read_apply]
  show V m c main_v87 _ = _
  rw [V_kinv m c]
  refine congrArg (invTab (m ((c : Thread nD τ).loc main_arg6))) ?_
  funext a
  apply Fin.ext
  match a with
  | ⟨0, _⟩ => show win0_3.index t 0 * 1 + 1 * (y 0).val = (y 0).val; rw [h]; simp
  | ⟨1, _⟩ => show win0_3.index t 1 * 1024 + 1 * (y 1).val = (y 1).val; rw [h]; simp

theorem tab4 (t : Fin cfg0.N) : (iblk m c 4 t : FVec Ideal S1x1024 .f32) = invTab (m ((c : Thread nD τ).loc main_arg7)) := by
  have h : win0_4.index t = ![0, 0] := (idx t).2.2.2.2.1
  funext y
  unfold iblk
  rw [View.read_apply]
  show V m c main_v92 _ = _
  rw [V_vinv m c]
  refine congrArg (invTab (m ((c : Thread nD τ).loc main_arg7))) ?_
  funext a
  apply Fin.ext
  match a with
  | ⟨0, _⟩ => show win0_4.index t 0 * 1 + 1 * (y 0).val = (y 0).val; rw [h]; simp
  | ⟨1, _⟩ => show win0_4.index t 1 * 1024 + 1 * (y 1).val = (y 1).val; rw [h]; simp

theorem mem_blk5 (t : Fin cfg0.N) (i : S2496x7168.Idx) :
    i ∈ ((cfg0.win 5).blk t).view.set ↔ ∀ a : Fin 2, win0_5.index t a * S2496x7168.size a ≤ (i a).val ∧ (i a).val < win0_5.index t a * S2496x7168.size a + S2496x7168.size a := by
  show i ∈ ((View.whole main_v93_0).slice (win0_5.rect t)).set ↔ _
  rw [View.set_slice_whole, Rect.mem_set_unit]
  exact Iff.rfl

theorem q_arr : (dats m 0 c).arrAt 5 cfg0.N = (qR m c : FVec Ideal S2496x7168 .bf16) := by
  refine (dats m 0 c).arrAt_eq_of_cover 5 _ (fun t hf => ?_) (fun i => ?_)
  · rw [flushed5]
    have e : win0_5.index t = ![0, 0] := (idx t).2.2.2.2.2.1
    funext y
    refine (out5 (iblk m c 0 t) (iblk m c 1 t) (iblk m c 2 t) (iblk m c 3 t) (iblk m c 4 t) ((cfg0.win 5).xinj (grid0.coords t) y)).trans ?_
    rw [tab0]
    have ey : (cfg0.win 5).xinj (grid0.coords t) y = ((cfg0.win 5).blk t).view.emb y := by
      funext a
      apply Fin.ext
      match a with
      | ⟨0, _⟩ => show (y 0).val = win0_5.index t 0 * 2496 + 1 * (y 0).val; rw [e]; simp
      | ⟨1, _⟩ => show (y 1).val = win0_5.index t 1 * 7168 + 1 * (y 1).val; rw [e]; simp
    exact congrArg ((qR m c : FVec Ideal S2496x7168 .bf16)) ey
  · have e : win0_5.index pt = ![0, 0] := (idx pt).2.2.2.2.2.1
    have hi0 : (i 0).val < 2496 := (i 0).isLt
    have hi1 : (i 1).val < 7168 := (i 1).isLt
    refine ⟨pt, flush_pt.1, ?_⟩
    rw [mem_blk5]
    intro a
    match a with
    | ⟨0, _⟩ => show win0_5.index pt 0 * 2496 ≤ (i 0).val ∧ (i 0).val < win0_5.index pt 0 * 2496 + 2496; rw [e]; simp; omega
    | ⟨1, _⟩ => show win0_5.index pt 1 * 7168 ≤ (i 1).val ∧ (i 1).val < win0_5.index pt 1 * 7168 + 7168; rw [e]; simp; omega

theorem mem_blk6 (t : Fin cfg0.N) (i : S2496x1024.Idx) :
    i ∈ ((cfg0.win 6).blk t).view.set ↔ ∀ a : Fin 2, win0_6.index t a * S2496x1024.size a ≤ (i a).val ∧ (i a).val < win0_6.index t a * S2496x1024.size a + S2496x1024.size a := by
  show i ∈ ((View.whole main_v93_1).slice (win0_6.rect t)).set ↔ _
  rw [View.set_slice_whole, Rect.mem_set_unit]
  exact Iff.rfl

theorem k_arr : (dats m 0 c).arrAt 6 cfg0.N = quant (kR m c) (invTab (m ((c : Thread nD τ).loc main_arg6))) := by
  refine (dats m 0 c).arrAt_eq_of_cover 6 _ (fun t hf => ?_) (fun i => ?_)
  · rw [flushed6]
    have e : win0_6.index t = ![0, 0] := (idx t).2.2.2.2.2.2.1
    funext y
    refine (out6 (iblk m c 0 t) (iblk m c 1 t) (iblk m c 2 t) (iblk m c 3 t) (iblk m c 4 t) ((cfg0.win 6).xinj (grid0.coords t) y)).trans ?_
    rw [tab1, tab3]
    have ey : (cfg0.win 6).xinj (grid0.coords t) y = ((cfg0.win 6).blk t).view.emb y := by
      funext a
      apply Fin.ext
      match a with
      | ⟨0, _⟩ => show (y 0).val = win0_6.index t 0 * 2496 + 1 * (y 0).val; rw [e]; simp
      | ⟨1, _⟩ => show (y 1).val = win0_6.index t 1 * 1024 + 1 * (y 1).val; rw [e]; simp
    exact congrArg (quant (kR m c) (invTab (m ((c : Thread nD τ).loc main_arg6)))) ey
  · have e : win0_6.index pt = ![0, 0] := (idx pt).2.2.2.2.2.2.1
    have hi0 : (i 0).val < 2496 := (i 0).isLt
    have hi1 : (i 1).val < 1024 := (i 1).isLt
    refine ⟨pt, flush_pt.2.1, ?_⟩
    rw [mem_blk6]
    intro a
    match a with
    | ⟨0, _⟩ => show win0_6.index pt 0 * 2496 ≤ (i 0).val ∧ (i 0).val < win0_6.index pt 0 * 2496 + 2496; rw [e]; simp; omega
    | ⟨1, _⟩ => show win0_6.index pt 1 * 1024 ≤ (i 1).val ∧ (i 1).val < win0_6.index pt 1 * 1024 + 1024; rw [e]; simp; omega

theorem mem_blk7 (t : Fin cfg0.N) (i : S2496x1024.Idx) :
    i ∈ ((cfg0.win 7).blk t).view.set ↔ ∀ a : Fin 2, win0_7.index t a * S2496x1024.size a ≤ (i a).val ∧ (i a).val < win0_7.index t a * S2496x1024.size a + S2496x1024.size a := by
  show i ∈ ((View.whole main_v93_2).slice (win0_7.rect t)).set ↔ _
  rw [View.set_slice_whole, Rect.mem_set_unit]
  exact Iff.rfl

theorem v_arr : (dats m 0 c).arrAt 7 cfg0.N = quant (vR m c) (invTab (m ((c : Thread nD τ).loc main_arg7))) := by
  refine (dats m 0 c).arrAt_eq_of_cover 7 _ (fun t hf => ?_) (fun i => ?_)
  · rw [flushed7]
    have e : win0_7.index t = ![0, 0] := (idx t).2.2.2.2.2.2.2
    funext y
    refine (out7 (iblk m c 0 t) (iblk m c 1 t) (iblk m c 2 t) (iblk m c 3 t) (iblk m c 4 t) ((cfg0.win 7).xinj (grid0.coords t) y)).trans ?_
    rw [tab2, tab4]
    have ey : (cfg0.win 7).xinj (grid0.coords t) y = ((cfg0.win 7).blk t).view.emb y := by
      funext a
      apply Fin.ext
      match a with
      | ⟨0, _⟩ => show (y 0).val = win0_7.index t 0 * 2496 + 1 * (y 0).val; rw [e]; simp
      | ⟨1, _⟩ => show (y 1).val = win0_7.index t 1 * 1024 + 1 * (y 1).val; rw [e]; simp
    exact congrArg (quant (vR m c) (invTab (m ((c : Thread nD τ).loc main_arg7)))) ey
  · have e : win0_7.index pt = ![0, 0] := (idx pt).2.2.2.2.2.2.2
    have hi0 : (i 0).val < 2496 := (i 0).isLt
    have hi1 : (i 1).val < 1024 := (i 1).isLt
    refine ⟨pt, flush_pt.2.2, ?_⟩
    rw [mem_blk7]
    intro a
    match a with
    | ⟨0, _⟩ => show win0_7.index pt 0 * 2496 ≤ (i 0).val ∧ (i 0).val < win0_7.index pt 0 * 2496 + 2496; rw [e]; simp; omega
    | ⟨1, _⟩ => show win0_7.index pt 1 * 1024 ≤ (i 1).val ∧ (i 1).val < win0_7.index pt 1 * 1024 + 1024; rw [e]; simp; omega

end Cert.ReferenceQkvIdeal.Value

namespace Cert.Awq
open Idealize.ShloMosaic Idealize.ShloMosaic.Pointwise Idealize.ShloMosaic.TcCoe

variable (m : (ℓ : Loc KernelQkvIdeal.nD KernelQkvIdeal.τ KernelQkvIdeal.sig) → Buf (Elt Ideal) ℓ)
    (m' : (ℓ : Loc ReferenceQkvIdeal.nD ReferenceQkvIdeal.τ ReferenceQkvIdeal.sig) → Buf (Elt Ideal) ℓ) (c : Dev KernelQkvIdeal.nD)

/-- The two projections. -/
theorem qkv_proj
    (a0 : m' (c.tc.loc ReferenceQkvIdeal.main_arg0) = m (c.tc.loc KernelQkvIdeal.main_arg0))
    (a1 : m' (c.tc.loc ReferenceQkvIdeal.main_arg1) = m (c.tc.loc KernelQkvIdeal.main_arg1))
    (a2 : m' (c.tc.loc ReferenceQkvIdeal.main_arg2) = m (c.tc.loc KernelQkvIdeal.main_arg2))
    (a3 : m' (c.tc.loc ReferenceQkvIdeal.main_arg3) = m (c.tc.loc KernelQkvIdeal.main_arg3)) (i : Fin 2496) (n : Fin 9216) :
    ReferenceQkvIdeal.Value.pr m' c (ix2 i n) = KernelQkvIdeal.Value.projAt m c i n := by
  refine (ReferenceQkvIdeal.Value.proj_apply _ _ _ _ i n).trans ?_
  unfold KernelQkvIdeal.Value.projAt KernelQkvIdeal.Value.prodAt
  rw [a0, a1, a2, a3]

/-- The two sets of angles. -/
theorem qkv_ang
    (a4 : m' (c.tc.loc ReferenceQkvIdeal.main_arg4) = m (c.tc.loc KernelQkvIdeal.main_arg4))
    (a5 : m' (c.tc.loc ReferenceQkvIdeal.main_arg5) = m (c.tc.loc KernelQkvIdeal.main_arg5)) (i : Fin 2496) (k : Fin 64) :
    ReferenceQkvIdeal.Value.ang m' c (ix3 ⟨i / 96, by omega⟩ ⟨i % 96, by omega⟩ k) = KernelQkvIdeal.Value.angRow m c i k := by
  refine (ReferenceQkvIdeal.Value.angle_apply _ _ _ _ _ k).trans ?_
  rw [a4, a5]
  rfl

theorem qkv_Gq_apply (i : Fin 2496) (n : Fin 7168) : (KernelQkvIdeal.Value.Gq m c : FVec Ideal KernelQkvIdeal.S2496x7168 .bf16) (ix2 i n)
    = KernelQkvIdeal.Value.ropeAtCol m c i (128 * (n.val / 128)) (by omega) ⟨n.val % 128, by omega⟩ := by
  unfold KernelQkvIdeal.Value.Gq
  rfl

theorem qkv_q_eq
    (a0 : m' (c.tc.loc ReferenceQkvIdeal.main_arg0) = m (c.tc.loc KernelQkvIdeal.main_arg0))
    (a1 : m' (c.tc.loc ReferenceQkvIdeal.main_arg1) = m (c.tc.loc KernelQkvIdeal.main_arg1))
    (a2 : m' (c.tc.loc ReferenceQkvIdeal.main_arg2) = m (c.tc.loc KernelQkvIdeal.main_arg2))
    (a3 : m' (c.tc.loc ReferenceQkvIdeal.main_arg3) = m (c.tc.loc KernelQkvIdeal.main_arg3))
    (a4 : m' (c.tc.loc ReferenceQkvIdeal.main_arg4) = m (c.tc.loc KernelQkvIdeal.main_arg4))
    (a5 : m' (c.tc.loc ReferenceQkvIdeal.main_arg5) = m (c.tc.loc KernelQkvIdeal.main_arg5)) :
    ((ReferenceQkvIdeal.Gen.dats (F := Ideal) m' 0 c).arrAt 5 ReferenceQkvIdeal.cfg0.N : FVec Ideal KernelQkvIdeal.S2496x7168 .bf16)
      = ((KernelQkvIdeal.Gen.dats (F := Ideal) m 0 c).arrAt 8 KernelQkvIdeal.cfg0.N : FVec Ideal KernelQkvIdeal.S2496x7168 .bf16) := by
  have e : ReferenceQkvIdeal.Value.qR m' c = (KernelQkvIdeal.Value.Gq m c : FVec Ideal KernelQkvIdeal.S2496x7168 .bf16) := by
    refine funext fun j => ?_
    obtain ⟨i, n, rfl⟩ : ∃ (i : Fin 2496) (n : Fin 7168), j = ix2 i n := ⟨j 0, j 1, funext fun a => by fin_cases a <;> rfl⟩
    unfold ReferenceQkvIdeal.Value.qR
    refine (ReferenceQkvIdeal.Value.qRot_apply _ _ i n).trans ?_
    refine Eq.trans ?_ (qkv_Gq_apply m c i n).symm
    unfold KernelQkvIdeal.Value.ropeAtCol
    refine congrArg₂ (fun f g => ropeOf f g ⟨n % 128, by omega⟩) (funext fun l => ?_) (funext fun k => qkv_ang m m' c a4 a5 i k)
    exact qkv_proj m m' c a0 a1 a2 a3 i _
  exact (ReferenceQkvIdeal.Value.q_arr m' c).trans (Eq.trans e (KernelQkvIdeal.Value.q_arr m c).symm)

theorem qkv_k_eq
    (a0 : m' (c.tc.loc ReferenceQkvIdeal.main_arg0) = m (c.tc.loc KernelQkvIdeal.main_arg0))
    (a1 : m' (c.tc.loc ReferenceQkvIdeal.main_arg1) = m (c.tc.loc KernelQkvIdeal.main_arg1))
    (a2 : m' (c.tc.loc ReferenceQkvIdeal.main_arg2) = m (c.tc.loc KernelQkvIdeal.main_arg2))
    (a3 : m' (c.tc.loc ReferenceQkvIdeal.main_arg3) = m (c.tc.loc KernelQkvIdeal.main_arg3))
    (a4 : m' (c.tc.loc ReferenceQkvIdeal.main_arg4) = m (c.tc.loc KernelQkvIdeal.main_arg4))
    (a5 : m' (c.tc.loc ReferenceQkvIdeal.main_arg5) = m (c.tc.loc KernelQkvIdeal.main_arg5))
    (a6 : m' (c.tc.loc ReferenceQkvIdeal.main_arg6) = m (c.tc.loc KernelQkvIdeal.main_arg6)) :
    ((ReferenceQkvIdeal.Gen.dats (F := Ideal) m' 0 c).arrAt 6 ReferenceQkvIdeal.cfg0.N : FVec Ideal KernelQkvIdeal.S2496x1024 .fp8e4m3)
      = ((KernelQkvIdeal.Gen.dats (F := Ideal) m 0 c).arrAt 9 KernelQkvIdeal.cfg0.N : FVec Ideal KernelQkvIdeal.S2496x1024 .fp8e4m3) := by
  refine (ReferenceQkvIdeal.Value.k_arr m' c).trans (Eq.trans ?_ (KernelQkvIdeal.Value.k_arr m c).symm)
  refine funext fun j => ?_
  obtain ⟨i, n, rfl⟩ : ∃ (i : Fin 2496) (n : Fin 1024), j = ix2 i n := ⟨j 0, j 1, funext fun a => by fin_cases a <;> rfl⟩
  rw [a6]
  refine congrArg clip (congrArg₂ (fun a b : EReal => a * b) ?_ ?_)
  · refine (ReferenceQkvIdeal.Value.kRot_apply _ _ i n).trans ?_
    show _ = ropeOf _ _ _
    refine congrArg₂ (fun f g => ropeOf f g ⟨n % 128, by omega⟩) (funext fun l => ?_) (funext fun k => qkv_ang m m' c a4 a5 i k)
    refine (qkv_proj m m' c a0 a1 a2 a3 i _).trans (congrArg (KernelQkvIdeal.Value.projAt m c i) (Fin.ext ?_))
    show 7168 + (128 * (n.val / 128) + l.val) = 7168 + 128 * (n.val / 128) + l.val
    omega
  · exact (ReferenceQkvIdeal.Value.invTab_apply _ n).trans (KernelQkvIdeal.Host.invTab_apply _ n).symm

theorem qkv_v_eq
    (a0 : m' (c.tc.loc ReferenceQkvIdeal.main_arg0) = m (c.tc.loc KernelQkvIdeal.main_arg0))
    (a1 : m' (c.tc.loc ReferenceQkvIdeal.main_arg1) = m (c.tc.loc KernelQkvIdeal.main_arg1))
    (a2 : m' (c.tc.loc ReferenceQkvIdeal.main_arg2) = m (c.tc.loc KernelQkvIdeal.main_arg2))
    (a3 : m' (c.tc.loc ReferenceQkvIdeal.main_arg3) = m (c.tc.loc KernelQkvIdeal.main_arg3))
    (a7 : m' (c.tc.loc ReferenceQkvIdeal.main_arg7) = m (c.tc.loc KernelQkvIdeal.main_arg7)) :
    ((ReferenceQkvIdeal.Gen.dats (F := Ideal) m' 0 c).arrAt 7 ReferenceQkvIdeal.cfg0.N : FVec Ideal KernelQkvIdeal.S2496x1024 .fp8e4m3)
      = ((KernelQkvIdeal.Gen.dats (F := Ideal) m 0 c).arrAt 10 KernelQkvIdeal.cfg0.N : FVec Ideal KernelQkvIdeal.S2496x1024 .fp8e4m3) := by
  refine (ReferenceQkvIdeal.Value.v_arr m' c).trans (Eq.trans ?_ (KernelQkvIdeal.Value.v_arr m c).symm)
  refine funext fun j => ?_
  obtain ⟨i, n, rfl⟩ : ∃ (i : Fin 2496) (n : Fin 1024), j = ix2 i n := ⟨j 0, j 1, funext fun a => by fin_cases a <;> rfl⟩
  rw [a7]
  refine congrArg clip (congrArg₂ (fun a b : EReal => a * b) ?_ ?_)
  · exact (ReferenceQkvIdeal.Value.vCols_apply _ i n).trans (qkv_proj m m' c a0 a1 a2 a3 i _)
  · exact (ReferenceQkvIdeal.Value.invTab_apply _ n).trans (KernelQkvIdeal.Host.invTab_apply _ n).symm

end Cert.Awq

end
-- ==== Proof.DownCase.lean ====
/-
  What one grid point of the down projection leaves behind, in each case of the point: the first of a run of 20 starts
  the accumulator from zero, every point adds the block of `x` times its dequantized block of weights, and the last one
  also writes the output block, the residual plus the sum.
-/
module

public import proofs.«01_k».proof.Proof.Load
public import proofs.«01_k».proof.Proof.Gen.KernelDownIdeal.Value
import Idealize.ShloMosaic.Lib.Pointwise

@[expose] public section

noncomputable section
namespace Cert.KernelDownIdeal.Gen
open Idealize.ShloMosaic Idealize.ShloMosaic.Pipeline Idealize.ShloMosaic.Tactic Idealize.ShloMosaic.Pointwise
open Cert.KernelDownIdeal Cert.Awq

/-- One accumulation step: the accumulator plus the block of `x` times the block of weights. -/
def step (acc : Vec Ideal S2496x1024 .f32) (x : Vec Ideal S2496x1024 .bf16) (w : Vec Ideal S1024x1024 .bf16) :
    Vec Ideal S2496x1024 .f32 := k0_pay1 (F := Ideal) acc x w

/-- The step, read at an index. -/
theorem step_apply (acc : Vec Ideal S2496x1024 .f32) (x : Vec Ideal S2496x1024 .bf16) (w : Vec Ideal S1024x1024 .bf16)
    (j : S2496x1024.Idx) : step acc x w j = acc j + ∑ k : Fin 1024, x (ix2 (j 0) k) * w (ix2 k (j 1)) := by
  unfold step k0_pay1
  idx_vars j
  pointwise

/-- The zero accumulator. -/
def zacc : Vec Ideal S2496x1024 .f32 := k0_pay3 (F := Ideal)

theorem zacc_apply (j : S2496x1024.Idx) : zacc j = 0 := by
  unfold zacc k0_pay3
  idx_vars j
  pointwise

section
variable (c : Dev nD) (a1 : Memref sig .tc .vmem S1024x128 .i32) (h1 : a1.IsWhole) (a2 : Memref sig .tc .vmem S8x128 .i32)
  (h2 : a2.IsWhole) (a3 : Memref sig .tc .vmem S8x1024 .f32) (h3 : a3.IsWhole) (a4 : Memref sig .tc .vmem S1024x1024 .bf16)
  (x : Vec Ideal S1024x128 .i32) (z : Vec Ideal S8x128 .i32) (s : Vec Ideal S8x1024 .f32)

set_option maxHeartbeats 400000 in
/-- The weights a point multiplies by are the block's dequantized weights. -/
theorem weights_B : kernelRun0_B.sl.v1533 c a1 h1 a2 h2 a3 h3 a4 x z s = dq x z s := by
  unfold kernelRun0_B.sl.v1533
  refine load_tiles _ _ _ x z s ?_
  unfold kernelRun0_B.sl.HS0_64
  sl_unfold_words
  unfold_payloads
  simp only [View.readAt_eq_ld, h1.read_unread, h2.read_unread, h3.read_unread, View.ld_unit_zero (S := S8x128) zero2]
  simp only [tiles, List.flatMap_cons, List.map_cons, List.map_nil, List.flatMap_nil, List.cons_append, List.nil_append,
    tile, wordsTile, zerosTile, scalesTile, rowOf, laneWord, laneShift, lane128, lane8]
  rfl

set_option maxHeartbeats 400000 in
theorem weights_A : kernelRun0_A.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)

set_option maxHeartbeats 400000 in
theorem weights_C : kernelRun0_C.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)
end

variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x1024 .bf16) (harg6 : arg6.IsWhole) (arg7 : Memref sig .tc .vmem S2496x1024 .bf16) (harg7 : arg7.IsWhole) (arg8 : Memref sig .tc .vmem S1024x1024 .bf16) (harg8 : arg8.IsWhole) (arg9 : Memref sig .tc .vmem S2496x1024 .f32) (harg9 : arg9.IsWhole)
    (x0 : Vec Ideal S2496x1024 .bf16) (x1 : Vec Ideal S1024x128 .i32) (x2 : Vec Ideal S8x128 .i32) (x3 : Vec Ideal S8x1024 .f32) (x4 : Vec Ideal S2496x1024 .bf16) (xs1 : Vec Ideal S2496x1024 .f32)

/-- The accumulator after a point that starts a run. -/
theorem acc_A (hc0 : cond0_0 i) (hc1 : ¬cond0_1 i) : sout0_A_1 c i arg2 harg2 arg3 harg3 arg4 harg4 arg5 harg5 arg6 harg6 arg7 harg7 arg8 harg8 arg9 harg9 hc0 hc1 x0 x1 x2 x3 x4 = step zacc x0 (dq x1 x2 x3) := by
  unfold sout0_A_1; rw [View.read_writes_junk_eq_canon]; unfold kernelRun0_A; dsimp only
  rw [View.canon_cons_unit_zero (S := S2496x1024) zero2, weights_A]
  unfold kernelRun0_A.sl.v1531 kernelRun0_A.sl.HS1_1
  rw [View.readCov_unit_zero (S := S2496x1024) _ zero2, View.readAt_eq_ld, harg2.read_unread, View.ld_unit_zero (S := S2496x1024) zero2]
  rfl

/-- The accumulator after a point inside a run. -/
theorem acc_B (hc0 : ¬cond0_0 i) (hc1 : ¬cond0_1 i) : sout0_B_1 c i arg2 harg2 arg3 harg3 arg4 harg4 arg5 harg5 arg6 harg6 arg7 harg7 arg8 harg8 arg9 harg9 hc0 hc1 x0 x1 x2 x3 x4 xs1 = step xs1 x0 (dq x1 x2 x3) := by
  unfold sout0_B_1; rw [View.read_writes_junk_eq_canon]; unfold kernelRun0_B; dsimp only
  rw [View.canon_unit_zero (S := S2496x1024) zero2, weights_B]
  unfold kernelRun0_B.sl.r_41
  simp only [View.readAt_eq_ld, harg2.read_unread, harg9.read_unread, View.ld_unit_zero (S := S2496x1024) zero2]
  rfl

/-- The accumulator that the last point of a run reads. -/
theorem acc_C : kernelRun0_C.sl.v1544 c arg2 harg2 arg3 harg3 arg4 harg4 arg5 harg5 arg8 arg9 harg9 x0 x1 x2 x3 xs1 = step xs1 x0 (dq x1 x2 x3) := by
  unfold kernelRun0_C.sl.v1544 kernelRun0_C.sl.HS1_1
  rw [View.readCov_unit_zero (S := S2496x1024) _ zero2, weights_C]
  unfold kernelRun0_C.sl.r_41
  simp only [View.readAt_eq_ld, harg2.read_unread, harg9.read_unread, View.ld_unit_zero (S := S2496x1024) zero2]
  rfl

/-- The output block of the run's last point. -/
theorem out_C (hc0 : ¬cond0_0 i) (hc1 : cond0_1 i) : out0_C_5 c i arg2 harg2 arg3 harg3 arg4 harg4 arg5 harg5 arg6 harg6 arg7 harg7 arg8 harg8 arg9 harg9 hc0 hc1 x0 x1 x2 x3 x4 xs1
    = k0_pay2 (F := Ideal) x4 (step xs1 x0 (dq x1 x2 x3)) := by
  unfold out0_C_5; rw [View.read_writes_junk_eq_canon]; unfold kernelRun0_C; dsimp only
  rw [View.canon_unit_zero (S := S2496x1024) zero2, acc_C]
  simp only [View.readAt_eq_ld, harg6.read_unread, View.ld_unit_zero (S := S2496x1024) zero2]

/-- The output block, read at an index. -/
theorem outv_apply (r : Vec Ideal S2496x1024 .bf16) (a : Vec Ideal S2496x1024 .f32) (j : S2496x1024.Idx) :
    k0_pay2 (F := Ideal) r a j = r j + a j := by
  unfold k0_pay2
  idx_vars j
  pointwise

end Cert.KernelDownIdeal.Gen
-- ==== Proof.DownFold.lean ====
/-
  What the down projection's result array holds. The grid walks seven column blocks, and for each of them 20 depth
  blocks of 1024: after the r-th of these the accumulator holds the dot products over the first 1024 (r + 1) rows of the
  weights, and the last one writes the residual plus the whole sum.
-/
module

public import proofs.«01_k».proof.Proof.DownCase
public import proofs.«01_k».proof.Proof.Sum

@[expose] public section

noncomputable section
namespace Cert.KernelDownIdeal.Value
open Idealize.ShloMosaic Idealize.ShloMosaic.Pipeline Idealize.ShloMosaic.TcCoe Idealize.ShloMosaic.Pointwise
open Cert.KernelDownIdeal Cert.KernelDownIdeal.Gen Cert.Awq

variable (m : (ℓ : Loc nD τ sig) → Buf (Elt Ideal) ℓ) (c : Dev nD)

/-- The block each window shows at a grid point. -/
theorem idx : ∀ t : Fin cfg0.N, win0_0.index t = ![0, t.val % 20] ∧ win0_1.index t = ![t.val % 20, t.val / 20]
    ∧ win0_2.index t = ![t.val % 20, t.val / 20] ∧ win0_3.index t = ![t.val % 20, t.val / 20]
    ∧ win0_4.index t = ![0, t.val / 20] := (by decide +kernel : ∀ t : Fin grid0.N, _)

theorem lt_N (t : Fin cfg0.N) : t.val < 140 := lt_of_lt_of_eq t.isLt (show cfg0.N = 140 from N_0)

/-- The blocks of the arguments that a grid point works on. -/
abbrev xB (t : Fin cfg0.N) : FVec Ideal S2496x1024 .bf16 := iblk m c 0 t
abbrev wB (t : Fin cfg0.N) : IVec S1024x128 32 := iblk m c 1 t
abbrev zB (t : Fin cfg0.N) : IVec S8x128 32 := iblk m c 2 t
abbrev sB (t : Fin cfg0.N) : FVec Ideal S8x1024 .f32 := iblk m c 3 t
abbrev rB (t : Fin cfg0.N) : FVec Ideal S2496x1024 .bf16 := iblk m c 4 t

/-- The column of the array that column `l` of a block is. -/
def col (t : Fin cfg0.N) (l : Fin 1024) : Fin 7168 := ⟨1024 * (t.val / 20) + l, by have := lt_N t; omega⟩

theorem x_blk (t : Fin cfg0.N) (i : Fin 2496) (k : Fin 1024) :
    xB m c t (ix2 i k)
      = (m ((c : Thread nD τ).loc main_arg0) : FVec Ideal S2496x20480 .bf16) (ix2 i ⟨1024 * (t.val % 20) + k, by omega⟩) := by
  have h := (idx t).1
  unfold xB iblk
  rw [View.read_apply]
  show V m c main_arg0 _ = _
  unfold V
  congr 1
  funext a
  apply Fin.ext
  match a with
  | ⟨0, _⟩ => show win0_0.index t 0 * 2496 + 1 * i.val = i.val; rw [h]; simp
  | ⟨1, _⟩ => show win0_0.index t 1 * 1024 + 1 * k.val = 1024 * (t.val % 20) + k.val; rw [h]; simp; omega

theorem w_blk (t : Fin cfg0.N) (k : Fin 1024) (l : Fin 128) :
    wB m c t (ix2 k l)
      = (m ((c : Thread nD τ).loc main_arg1) : IVec S20480x896 32) (ix2 ⟨1024 * (t.val % 20) + k, by omega⟩
          ⟨128 * (t.val / 20) + l, by have := lt_N t; omega⟩) := by
  have h := (idx t).2.1
  unfold wB iblk
  rw [View.read_apply]
  show V m c main_arg1 _ = _
  unfold V
  congr 1
  funext a
  apply Fin.ext
  match a with
  | ⟨0, _⟩ => show win0_1.index t 0 * 1024 + 1 * k.val = 1024 * (t.val % 20) + k.val; rw [h]; simp; omega
  | ⟨1, _⟩ => show win0_1.index t 1 * 128 + 1 * l.val = 128 * (t.val / 20) + l.val; rw [h]; simp; omega

theorem z_blk (t : Fin cfg0.N) (k : Fin 8) (l : Fin 128) :
    zB m c t (ix2 k l)
      = (m ((c : Thread nD τ).loc main_arg2) : IVec S160x896 32) (ix2 ⟨8 * (t.val % 20) + k, by omega⟩
          ⟨128 * (t.val / 20) + l, by have := lt_N t; omega⟩) := by
  have h := (idx t).2.2.1
  unfold zB iblk
  rw [View.read_apply]
  show V m c main_arg2 _ = _
  unfold V
  congr 1
  funext a
  apply Fin.ext
  match a with
  | ⟨0, _⟩ => show win0_2.index t 0 * 8 + 1 * k.val = 8 * (t.val % 20) + k.val; rw [h]; simp; omega
  | ⟨1, _⟩ => show win0_2.index t 1 * 128 + 1 * l.val = 128 * (t.val / 20) + l.val; rw [h]; simp; omega

theorem s_blk (t : Fin cfg0.N) (k : Fin 8) (l : Fin 1024) :
    sB m c t (ix2 k l)
      = (m ((c : Thread nD τ).loc main_arg3) : FVec Ideal S160x7168 .f32) (ix2 ⟨8 * (t.val % 20) + k, by omega⟩
          ⟨1024 * (t.val / 20) + l, by have := lt_N t; omega⟩) := by
  have h := (idx t).2.2.2.1
  unfold sB iblk
  rw [View.read_apply]
  show V m c main_arg3 _ = _
  unfold V
  congr 1
  funext a
  apply Fin.ext
  match a with
  | ⟨0, _⟩ => show win0_3.index t 0 * 8 + 1 * k.val = 8 * (t.val % 20) + k.val; rw [h]; simp; omega
  | ⟨1, _⟩ => show win0_3.index t 1 * 1024 + 1 * l.val = 1024 * (t.val / 20) + l.val; rw [h]; simp; omega

theorem r_blk (t : Fin cfg0.N) (i : Fin 2496) (l : Fin 1024) :
    rB m c t (ix2 i l) = (m ((c : Thread nD τ).loc main_arg4) : FVec Ideal S2496x7168 .bf16) (ix2 i (col t l)) := by
  have h := (idx t).2.2.2.2
  unfold rB iblk
  rw [View.read_apply]
  show V m c main_arg4 _ = _
  unfold V
  congr 1
  funext a
  apply Fin.ext
  match a with
  | ⟨0, _⟩ => show win0_4.index t 0 * 2496 + 1 * i.val = i.val; rw [h]; simp
  | ⟨1, _⟩ => show win0_4.index t 1 * 1024 + 1 * l.val = 1024 * (t.val / 20) + l.val; rw [h]; simp; omega

/-- The terms of the dot product for row `i` and column `n`. -/
def prodAt (i : Fin 2496) (n : Fin 7168) (k : Fin 20480) : EReal :=
  dotAt (m ((c : Thread nD τ).loc main_arg0)) (m ((c : Thread nD τ).loc main_arg1)) (m ((c : Thread nD τ).loc main_arg2))
    (m ((c : Thread nD τ).loc main_arg3)) (by norm_num) (by norm_num) i n k

theorem prod_term (t : Fin cfg0.N) (i : Fin 2496) (l : Fin 1024) (k : Fin 1024) :
    xB m c t (ix2 i k) * dq (wB m c t) (zB m c t) (sB m c t) (ix2 k l)
      = prodAt m c i (col t l) ⟨1024 * (t.val % 20) + k, by omega⟩ := by
  have h := lt_N t
  exact term_block _ _ _ _ _ _ (t.val % 20) (t.val / 20) (by omega) (by omega) _ _ _ _ (x_blk m c t) (w_blk m c t) (z_blk m c t) (s_blk m c t) i k l

/-- A step from the sum over the first depth blocks reaches the sum over one block more. -/
theorem prod_step (t : Fin cfg0.N) (acc : Vec Ideal S2496x1024 .f32) (j : S2496x1024.Idx)
    (h : acc j = psum (prodAt m c (j 0) (col t (j 1))) (1024 * (t.val % 20))) :
    step acc (xB m c t) (dq (wB m c t) (zB m c t) (sB m c t)) j
      = psum (prodAt m c (j 0) (col t (j 1))) (1024 * (t.val % 20) + 1024) := by
  rw [step_apply, psum_add _ _ _ (by omega), h]
  exact congrArg _ (Finset.sum_congr rfl fun k _ => prod_term m c t (j 0) (j 1) k)

/-- What the accumulator holds after a point that does not end a column block. -/
theorem acc_eq (n : ℕ) : ∀ (hn : n < cfg0.N), n % 20 ≠ 19 → ∀ j : S2496x1024.Idx,
    (outsAt0 m c n hn).2 j = psum (prodAt m c (j 0) (col ⟨n, hn⟩ (j 1))) (1024 * (n % 20) + 1024) := by
  induction n with
  | zero =>
    intro hn _ j
    rw [outsAt0_A m c ⟨0, hn⟩ (Nat.zero_mod _) (by show ¬ 0 % 20 = 19; decide)]
    dsimp only
    rw [acc_A]
    exact prod_step m c ⟨0, hn⟩ _ j (by rw [zacc_apply]; exact (psum_zero _).symm)
  | succ n ih =>
    intro hn h6 j
    by_cases h0 : (n + 1) % 20 = 0
    · rw [outsAt0_A m c ⟨n + 1, hn⟩ h0 h6]
      dsimp only
      rw [acc_A]
      have hz : 1024 * ((n + 1) % 20) = 0 := by rw [h0]
      exact prod_step m c ⟨n + 1, hn⟩ _ j (by dsimp only; rw [zacc_apply, hz]; exact (psum_zero _).symm)
    · rw [outsAt0_B m c ⟨n + 1, hn⟩ h0 h6]
      dsimp only
      rw [acc_B]
      have hi := ih (Nat.lt_of_succ_lt hn) (by omega) j
      have hc : col ⟨n + 1, hn⟩ (j 1) = col ⟨n, Nat.lt_of_succ_lt hn⟩ (j 1) := by
        apply Fin.ext; show 1024 * ((n + 1) / 20) + _ = 1024 * (n / 20) + _; omega
      have hk : 1024 * ((n + 1) % 20) = 1024 * (n % 20) + 1024 := by omega
      exact prod_step m c ⟨n + 1, hn⟩ _ j (by rw [hc]; dsimp only; rw [hk]; exact hi)

/-- What the last point of a column block writes. -/
theorem out_eq (t : Fin cfg0.N) (h6 : t.val % 20 = 19) (j : S2496x1024.Idx) :
    (outsAt0 m c t.val t.isLt).1 j = rB m c t j + ∑ k, prodAt m c (j 0) (col t (j 1)) k := by
  have h0 : ¬ t.val % 20 = 0 := by omega
  rw [outsAt0_C m c t h0 h6]
  dsimp only
  rw [out_C, outv_apply]
  have hi := acc_eq m c (t.val - 1) (Nat.lt_of_le_of_lt (Nat.sub_le _ _) t.isLt) (by omega) j
  have hc : col t (j 1) = col ⟨t.val - 1, Nat.lt_of_le_of_lt (Nat.sub_le _ _) t.isLt⟩ (j 1) := by
    apply Fin.ext; show 1024 * (t.val / 20) + _ = 1024 * ((t.val - 1) / 20) + _; omega
  have hk : 1024 * (t.val % 20) = 1024 * ((t.val - 1) % 20) + 1024 := by omega
  have hg := prod_step m c t (outsAt0 m c (t.val - 1) (Nat.lt_of_le_of_lt (Nat.sub_le _ _) t.isLt)).2 j
    (by rw [hc, hk]; exact hi)
  have hK : 1024 * (t.val % 20) + 1024 = 20480 := by omega
  rw [hK, psum_all] at hg
  rw [← hg]

/-- The residual at row `i` and column `n`. -/
def resid (i : Fin 2496) (n : Fin 7168) : EReal := (m ((c : Thread nD τ).loc main_arg4) : FVec Ideal S2496x7168 .bf16) (ix2 i n)

/-- THE RESULT at an index: the residual plus the dot product over the whole depth. -/
theorem G5_apply (i : Fin 2496) (n : Fin 7168) :
    (G5 m c : FVec Ideal S2496x7168 .bf16) (ix2 i n)
      = resid m c i n + ∑ k, prodAt m c i n k := by
  have hN : cfg0.N = 140 := N_0
  have hp : pt5Of (ix2 i n) = 20 * (n.val / 1024) + 19 := by
    show 20 * (7 * (i.val / 2496 - 0) + 1 * (n.val / 1024 - 0)) + 19 = _; omega
  have hlt : pt5Of (ix2 i n) < cfg0.N := by rw [hp, hN]; omega
  unfold G5
  rw [dif_pos hlt, ← outsAt0_sweep m c _ hlt]
  have h6 : pt5Of (ix2 i n) % 20 = 19 := by rw [hp]; omega
  refine (out_eq m c ⟨pt5Of (ix2 i n), hlt⟩ h6 (loc5Of (ix2 i n))).trans ?_
  have e0 : (loc5Of (ix2 i n) 0 : Fin 2496) = i := Fin.ext (show i.val % 2496 = i.val by omega)
  have e1 : col ⟨pt5Of (ix2 i n), hlt⟩ (loc5Of (ix2 i n) 1) = n :=
    Fin.ext (show 1024 * (pt5Of (ix2 i n) / 20) + n.val % 1024 = n.val by rw [hp]; omega)
  have hr : rB m c ⟨pt5Of (ix2 i n), hlt⟩ (loc5Of (ix2 i n))
      = resid m c i n := by
    have ej : loc5Of (ix2 i n) = ix2 (loc5Of (ix2 i n) 0) (loc5Of (ix2 i n) 1) := by funext a; fin_cases a <;> rfl
    rw [ej]
    refine (r_blk m c _ _ _).trans ?_
    rw [e1]
    exact congrArg (fun a : Fin 2496 => resid m c a n) e0
  rw [hr, e1]
  exact congrArg (fun a : Fin 2496 => resid m c i n + ∑ k, prodAt m c a n k) e0

end Cert.KernelDownIdeal.Value

end
-- ==== Proof.DownRef.lean ====
/-
  The down projection's reference, read at an index, and the equation: on the same arguments the kernel's array is the
  reference's, the residual plus the dot product over the whole depth of 20480 with the plain dequantized weights.
-/
module

public import proofs.«01_k».proof.Proof.DownFold
public import proofs.«01_k».proof.Proof.Gen.ReferenceDownIdeal.Run
import Idealize.ShloMosaic.Lib.Pointwise

@[expose] public section

noncomputable section
namespace Cert.ReferenceDownIdeal.Value
open Idealize.ShloMosaic Idealize.ShloMosaic.Pointwise
open Cert.ReferenceDownIdeal Cert.ReferenceDownIdeal.Gen Cert.Awq

/-- The reference's dequantized weight matrix. -/
def wmat (w : IVec S20480x896 32) (z : IVec S160x896 32) (s : FVec Ideal S160x7168 .f32) : FVec Ideal S20480x7168 .bf16 :=
  shapeCast _ (truncf .bf16 (mulf (sitofp .f32 (subi (shapeCast _ (andi (Host.shrsi (broadcastInDim S20480x896x8 ![0, 1, 2] bcast_S20480x896x1_S20480x896x8_0_1_2 (broadcastInDim S20480x896x1 ![0, 1] bcast_S20480x896_S20480x896x1_0_1 w)) (broadcastInDim S20480x896x8 ![0, 1, 2] bcast_S1x1x8_S20480x896x8_0_1_2 (broadcastInDim S1x1x8 ![2] bcast_S8_S1x1x8_2 ((fun i => lit0 (S8.rowMajor i)))))) (broadcastInDim S20480x896x8 ![] bcast_S_S20480x896x8 (constantI S_ 32 15#32))) shapeCasts_S20480x896x8_S160x128x896x8) (broadcastInDim S160x128x896x8 ![0, 1, 2, 3] bcast_S160x1x896x8_S160x128x896x8_0_1_2_3 (broadcastInDim S160x1x896x8 ![0, 2, 3] bcast_S160x896x8_S160x1x896x8_0_2_3 (andi (Host.shrsi (broadcastInDim S160x896x8 ![0, 1, 2] bcast_S160x896x1_S160x896x8_0_1_2 (broadcastInDim S160x896x1 ![0, 1] bcast_S160x896_S160x896x1_0_1 z)) (broadcastInDim S160x896x8 ![0, 1, 2] bcast_S1x1x8_S160x896x8_0_1_2 (broadcastInDim S1x1x8 ![2] bcast_S8_S1x1x8_2 ((fun i => lit0 (S8.rowMajor i)))))) (broadcastInDim S160x896x8 ![] bcast_S_S160x896x8 (constantI S_ 32 15#32))))))) (broadcastInDim S160x128x896x8 ![0, 1, 2, 3] bcast_S160x1x896x8_S160x128x896x8_0_1_2_3 (shapeCast _ s shapeCasts_S160x7168_S160x1x896x8))) bitsLt_bf16_f32) shapeCasts_S160x128x896x8_S20480x7168

theorem lit0_eq : ∀ k : Fin 8, lit0 k = BitVec.ofNat 32 (shift k) := by decide

theorem lane_eq (j : Fin 8) : lit0 (S8.rowMajor (ix1 j)) = BitVec.ofNat 32 (shift j) := by
  rw [show S8.rowMajor (ix1 j) = j from Fin.ext (Shape.rowMajor_val_one _)]
  exact lit0_eq j

theorem wmat_apply (w : IVec S20480x896 32) (z : IVec S160x896 32) (s : FVec Ideal S160x7168 .f32) (k : Fin 20480) (n : Fin 7168) :
    wmat w z s (ix2 k n) = wAt w z s (by norm_num) (by norm_num) k n := by
  unfold wmat wAt
  pointwise
  have h8 : (n : ℕ) % 8 < 8 := Nat.mod_lt _ (by decide)
  have e : lit0 (S8.rowMajor (ix1 ⟨(n : ℕ) % 8, h8⟩)) = BitVec.ofNat 32 (shift ((n : ℕ) % 8)) := lane_eq _
  simp only [e, nib_shr _ _ h8]
  rfl

/-- The reference's result, with the weights named. -/
def res (a : FVec Ideal S2496x20480 .bf16) (w : IVec S20480x896 32) (z : IVec S160x896 32) (s : FVec Ideal S160x7168 .f32) (r : FVec Ideal S2496x7168 .bf16) :
    FVec Ideal S2496x7168 .bf16 :=
  truncf .bf16 (addf (extf .f32 r bitsLt_bf16_f32) (Host.dotGeneral dot_S2496x20480_S20480x7168_S2496x7168_1_0_0_1_n_n none a (wmat w z s))) bitsLt_bf16_f32

/-- The result at an index. -/
theorem res_apply (a : FVec Ideal S2496x20480 .bf16) (w : IVec S20480x896 32) (z : IVec S160x896 32) (s : FVec Ideal S160x7168 .f32) (r : FVec Ideal S2496x7168 .bf16)
    (i : Fin 2496) (n : Fin 7168) :
    res a w z s r (ix2 i n) = r (ix2 i n) + ∑ k : Fin 20480, dotAt a w z s (by norm_num) (by norm_num) i n k := by
  unfold res
  pointwise
  simp only [wmat_apply]
  rfl

end Cert.ReferenceDownIdeal.Value

namespace Cert.Awq
open Idealize.ShloMosaic Idealize.ShloMosaic.Pointwise Idealize.ShloMosaic.TcCoe

theorem down_proj_eq (m : (ℓ : Loc KernelDownIdeal.nD KernelDownIdeal.τ KernelDownIdeal.sig) → Buf (Elt Ideal) ℓ)
    (m' : (ℓ : Loc ReferenceDownIdeal.nD ReferenceDownIdeal.τ ReferenceDownIdeal.sig) → Buf (Elt Ideal) ℓ) (c : Dev KernelDownIdeal.nD)
    (a0 : m' (c.tc.loc ReferenceDownIdeal.main_arg0) = m (c.tc.loc KernelDownIdeal.main_arg0))
    (a1 : m' (c.tc.loc ReferenceDownIdeal.main_arg1) = m (c.tc.loc KernelDownIdeal.main_arg1))
    (a2 : m' (c.tc.loc ReferenceDownIdeal.main_arg2) = m (c.tc.loc KernelDownIdeal.main_arg2))
    (a3 : m' (c.tc.loc ReferenceDownIdeal.main_arg3) = m (c.tc.loc KernelDownIdeal.main_arg3))
    (a4 : m' (c.tc.loc ReferenceDownIdeal.main_arg4) = m (c.tc.loc KernelDownIdeal.main_arg4)) :
    (ReferenceDownIdeal.Value.res (m' (c.tc.loc ReferenceDownIdeal.main_arg0)) (m' (c.tc.loc ReferenceDownIdeal.main_arg1)) (m' (c.tc.loc ReferenceDownIdeal.main_arg2)) (m' (c.tc.loc ReferenceDownIdeal.main_arg3)) (m' (c.tc.loc ReferenceDownIdeal.main_arg4)) : FVec Ideal KernelDownIdeal.S2496x7168 .bf16)
      = (KernelDownIdeal.Value.G5 (F := Ideal) m c : FVec Ideal KernelDownIdeal.S2496x7168 .bf16) := by
  refine funext fun j => ?_
  rw [show j = ix2 (j 0) (j 1) from funext fun a => by fin_cases a <;> rfl]
  refine (ReferenceDownIdeal.Value.res_apply _ _ _ _ _ (j 0) (j 1)).trans (Eq.trans ?_ (KernelDownIdeal.Value.G5_apply m c (j 0) (j 1)).symm)
  unfold KernelDownIdeal.Value.prodAt KernelDownIdeal.Value.resid
  rw [a0, a1, a2, a3, a4]

end Cert.Awq

end
-- ==== Proof.OutCase.lean ====
/-
  What one grid point of the output projection leaves behind, in each case of the point: the first of a run of 7 starts
  the accumulator from zero, every point adds the block of `x` times its dequantized block of weights, and the last one
  also writes the output block, the residual plus the sum.
-/
module

public import proofs.«01_k».proof.Proof.Load
public import proofs.«01_k».proof.Proof.Gen.KernelOutIdeal.Value
import Idealize.ShloMosaic.Lib.Pointwise

@[expose] public section

noncomputable section
namespace Cert.KernelOutIdeal.Gen
open Idealize.ShloMosaic Idealize.ShloMosaic.Pipeline Idealize.ShloMosaic.Tactic Idealize.ShloMosaic.Pointwise
open Cert.KernelOutIdeal Cert.Awq

/-- One accumulation step: the accumulator plus the block of `x` times the block of weights. -/
def step (acc : Vec Ideal S2496x1024 .f32) (x : Vec Ideal S2496x1024 .bf16) (w : Vec Ideal S1024x1024 .bf16) :
    Vec Ideal S2496x1024 .f32 := k0_pay1 (F := Ideal) acc x w

/-- The step, read at an index. -/
theorem step_apply (acc : Vec Ideal S2496x1024 .f32) (x : Vec Ideal S2496x1024 .bf16) (w : Vec Ideal S1024x1024 .bf16)
    (j : S2496x1024.Idx) : step acc x w j = acc j + ∑ k : Fin 1024, x (ix2 (j 0) k) * w (ix2 k (j 1)) := by
  unfold step k0_pay1
  idx_vars j
  pointwise

/-- The zero accumulator. -/
def zacc : Vec Ideal S2496x1024 .f32 := k0_pay3 (F := Ideal)

theorem zacc_apply (j : S2496x1024.Idx) : zacc j = 0 := by
  unfold zacc k0_pay3
  idx_vars j
  pointwise

section
variable (c : Dev nD) (a1 : Memref sig .tc .vmem S1024x128 .i32) (h1 : a1.IsWhole) (a2 : Memref sig .tc .vmem S8x128 .i32)
  (h2 : a2.IsWhole) (a3 : Memref sig .tc .vmem S8x1024 .f32) (h3 : a3.IsWhole) (a4 : Memref sig .tc .vmem S1024x1024 .bf16)
  (x : Vec Ideal S1024x128 .i32) (z : Vec Ideal S8x128 .i32) (s : Vec Ideal S8x1024 .f32)

set_option maxHeartbeats 400000 in
/-- The weights a point multiplies by are the block's dequantized weights. -/
theorem weights_B : kernelRun0_B.sl.v1533 c a1 h1 a2 h2 a3 h3 a4 x z s = dq x z s := by
  unfold kernelRun0_B.sl.v1533
  refine load_tiles _ _ _ x z s ?_
  unfold kernelRun0_B.sl.HS0_64
  sl_unfold_words
  unfold_payloads
  simp only [View.readAt_eq_ld, h1.read_unread, h2.read_unread, h3.read_unread, View.ld_unit_zero (S := S8x128) zero2]
  simp only [tiles, List.flatMap_cons, List.map_cons, List.map_nil, List.flatMap_nil, List.cons_append, List.nil_append,
    tile, wordsTile, zerosTile, scalesTile, rowOf, laneWord, laneShift, lane128, lane8]
  rfl

set_option maxHeartbeats 400000 in
theorem weights_A : kernelRun0_A.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)

set_option maxHeartbeats 400000 in
theorem weights_C : kernelRun0_C.sl.v1533 c a1 h1 a2 h2 a3 h3 a4 x z s = dq x z s :=
  (rfl : _ = kernelRun0_B.sl.v1533 c a1 h1 a2 h2 a3 h3 a4 x z s).trans (weights_B c a1 h1 a2 h2 a3 h3 a4 x z s)
end

variable (c : Dev nD) (i : grid0.Coords) (arg2 : Memref sig .tc .vmem S2496x1024 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x1024 .f32) (harg5 : arg5.IsWhole) (arg6 : Memref sig .tc .vmem S2496x1024 .bf16) (harg6 : arg6.IsWhole) (arg7 : Memref sig .tc .vmem S2496x1024 .bf16) (harg7 : arg7.IsWhole) (arg8 : Memref sig .tc .vmem S1024x1024 .bf16) (harg8 : arg8.IsWhole) (arg9 : Memref sig .tc .vmem S2496x1024 .f32) (harg9 : arg9.IsWhole)
    (x0 : Vec Ideal S2496x1024 .bf16) (x1 : Vec Ideal S1024x128 .i32) (x2 : Vec Ideal S8x128 .i32) (x3 : Vec Ideal S8x1024 .f32) (x4 : Vec Ideal S2496x1024 .bf16) (xs1 : Vec Ideal S2496x1024 .f32)

/-- The accumulator after a point that starts a run. -/
theorem acc_A (hc0 : cond0_0 i) (hc1 : ¬cond0_1 i) : sout0_A_1 c i arg2 harg2 arg3 harg3 arg4 harg4 arg5 harg5 arg6 harg6 arg7 harg7 arg8 harg8 arg9 harg9 hc0 hc1 x0 x1 x2 x3 x4 = step zacc x0 (dq x1 x2 x3) := by
  unfold sout0_A_1; rw [View.read_writes_junk_eq_canon]; unfold kernelRun0_A; dsimp only
  rw [View.canon_cons_unit_zero (S := S2496x1024) zero2, weights_A]
  unfold kernelRun0_A.sl.v1531 kernelRun0_A.sl.HS1_1
  rw [View.readCov_unit_zero (S := S2496x1024) _ zero2, View.readAt_eq_ld, harg2.read_unread, View.ld_unit_zero (S := S2496x1024) zero2]
  rfl

/-- The accumulator after a point inside a run. -/
theorem acc_B (hc0 : ¬cond0_0 i) (hc1 : ¬cond0_1 i) : sout0_B_1 c i arg2 harg2 arg3 harg3 arg4 harg4 arg5 harg5 arg6 harg6 arg7 harg7 arg8 harg8 arg9 harg9 hc0 hc1 x0 x1 x2 x3 x4 xs1 = step xs1 x0 (dq x1 x2 x3) := by
  unfold sout0_B_1; rw [View.read_writes_junk_eq_canon]; unfold kernelRun0_B; dsimp only
  rw [View.canon_unit_zero (S := S2496x1024) zero2, weights_B]
  unfold kernelRun0_B.sl.r_41
  simp only [View.readAt_eq_ld, harg2.read_unread, harg9.read_unread, View.ld_unit_zero (S := S2496x1024) zero2]
  rfl

/-- The accumulator that the last point of a run reads. -/
theorem acc_C : kernelRun0_C.sl.v1544 c arg2 harg2 arg3 harg3 arg4 harg4 arg5 harg5 arg8 arg9 harg9 x0 x1 x2 x3 xs1 = step xs1 x0 (dq x1 x2 x3) := by
  unfold kernelRun0_C.sl.v1544 kernelRun0_C.sl.HS1_1
  rw [View.readCov_unit_zero (S := S2496x1024) _ zero2, weights_C]
  unfold kernelRun0_C.sl.r_41
  simp only [View.readAt_eq_ld, harg2.read_unread, harg9.read_unread, View.ld_unit_zero (S := S2496x1024) zero2]
  rfl

/-- The output block of the run's last point. -/
theorem out_C (hc0 : ¬cond0_0 i) (hc1 : cond0_1 i) : out0_C_5 c i arg2 harg2 arg3 harg3 arg4 harg4 arg5 harg5 arg6 harg6 arg7 harg7 arg8 harg8 arg9 harg9 hc0 hc1 x0 x1 x2 x3 x4 xs1
    = k0_pay2 (F := Ideal) x4 (step xs1 x0 (dq x1 x2 x3)) := by
  unfold out0_C_5; rw [View.read_writes_junk_eq_canon]; unfold kernelRun0_C; dsimp only
  rw [View.canon_unit_zero (S := S2496x1024) zero2, acc_C]
  simp only [View.readAt_eq_ld, harg6.read_unread, View.ld_unit_zero (S := S2496x1024) zero2]

/-- The output block, read at an index. -/
theorem outv_apply (r : Vec Ideal S2496x1024 .bf16) (a : Vec Ideal S2496x1024 .f32) (j : S2496x1024.Idx) :
    k0_pay2 (F := Ideal) r a j = r j + a j := by
  unfold k0_pay2
  idx_vars j
  pointwise

end Cert.KernelOutIdeal.Gen
-- ==== Proof.OutFold.lean ====
/-
  What the output projection's result array holds. The grid walks seven column blocks, and for each of them 7 depth
  blocks of 1024: after the r-th of these the accumulator holds the dot products over the first 1024 (r + 1) rows of the
  weights, and the last one writes the residual plus the whole sum.
-/
module

public import proofs.«01_k».proof.Proof.OutCase
public import proofs.«01_k».proof.Proof.Sum

@[expose] public section

noncomputable section
namespace Cert.KernelOutIdeal.Value
open Idealize.ShloMosaic Idealize.ShloMosaic.Pipeline Idealize.ShloMosaic.TcCoe Idealize.ShloMosaic.Pointwise
open Cert.KernelOutIdeal Cert.KernelOutIdeal.Gen Cert.Awq

variable (m : (ℓ : Loc nD τ sig) → Buf (Elt Ideal) ℓ) (c : Dev nD)

/-- The block each window shows at a grid point. -/
theorem idx : ∀ t : Fin cfg0.N, win0_0.index t = ![0, t.val % 7] ∧ win0_1.index t = ![t.val % 7, t.val / 7]
    ∧ win0_2.index t = ![t.val % 7, t.val / 7] ∧ win0_3.index t = ![t.val % 7, t.val / 7]
    ∧ win0_4.index t = ![0, t.val / 7] := (by decide +kernel : ∀ t : Fin grid0.N, _)

theorem lt_N (t : Fin cfg0.N) : t.val < 49 := lt_of_lt_of_eq t.isLt (show cfg0.N = 49 from N_0)

/-- The blocks of the arguments that a grid point works on. -/
abbrev xB (t : Fin cfg0.N) : FVec Ideal S2496x1024 .bf16 := iblk m c 0 t
abbrev wB (t : Fin cfg0.N) : IVec S1024x128 32 := iblk m c 1 t
abbrev zB (t : Fin cfg0.N) : IVec S8x128 32 := iblk m c 2 t
abbrev sB (t : Fin cfg0.N) : FVec Ideal S8x1024 .f32 := iblk m c 3 t
abbrev rB (t : Fin cfg0.N) : FVec Ideal S2496x1024 .bf16 := iblk m c 4 t

/-- The column of the array that column `l` of a block is. -/
def col (t : Fin cfg0.N) (l : Fin 1024) : Fin 7168 := ⟨1024 * (t.val / 7) + l, by have := lt_N t; omega⟩

theorem x_blk (t : Fin cfg0.N) (i : Fin 2496) (k : Fin 1024) :
    xB m c t (ix2 i k)
      = (m ((c : Thread nD τ).loc main_arg0) : FVec Ideal S2496x7168 .bf16) (ix2 i ⟨1024 * (t.val % 7) + k, by omega⟩) := by
  have h := (idx t).1
  unfold xB iblk
  rw [View.read_apply]
  show V m c main_arg0 _ = _
  unfold V
  congr 1
  funext a
  apply Fin.ext
  match a with
  | ⟨0, _⟩ => show win0_0.index t 0 * 2496 + 1 * i.val = i.val; rw [h]; simp
  | ⟨1, _⟩ => show win0_0.index t 1 * 1024 + 1 * k.val = 1024 * (t.val % 7) + k.val; rw [h]; simp; omega

theorem w_blk (t : Fin cfg0.N) (k : Fin 1024) (l : Fin 128) :
    wB m c t (ix2 k l)
      = (m ((c : Thread nD τ).loc main_arg1) : IVec S7168x896 32) (ix2 ⟨1024 * (t.val % 7) + k, by omega⟩
          ⟨128 * (t.val / 7) + l, by have := lt_N t; omega⟩) := by
  have h := (idx t).2.1
  unfold wB iblk
  rw [View.read_apply]
  show V m c main_arg1 _ = _
  unfold V
  congr 1
  funext a
  apply Fin.ext
  match a with
  | ⟨0, _⟩ => show win0_1.index t 0 * 1024 + 1 * k.val = 1024 * (t.val % 7) + k.val; rw [h]; simp; omega
  | ⟨1, _⟩ => show win0_1.index t 1 * 128 + 1 * l.val = 128 * (t.val / 7) + l.val; rw [h]; simp; omega

theorem z_blk (t : Fin cfg0.N) (k : Fin 8) (l : Fin 128) :
    zB m c t (ix2 k l)
      = (m ((c : Thread nD τ).loc main_arg2) : IVec S56x896 32) (ix2 ⟨8 * (t.val % 7) + k, by omega⟩
          ⟨128 * (t.val / 7) + l, by have := lt_N t; omega⟩) := by
  have h := (idx t).2.2.1
  unfold zB iblk
  rw [View.read_apply]
  show V m c main_arg2 _ = _
  unfold V
  congr 1
  funext a
  apply Fin.ext
  match a with
  | ⟨0, _⟩ => show win0_2.index t 0 * 8 + 1 * k.val = 8 * (t.val % 7) + k.val; rw [h]; simp; omega
  | ⟨1, _⟩ => show win0_2.index t 1 * 128 + 1 * l.val = 128 * (t.val / 7) + l.val; rw [h]; simp; omega

theorem s_blk (t : Fin cfg0.N) (k : Fin 8) (l : Fin 1024) :
    sB m c t (ix2 k l)
      = (m ((c : Thread nD τ).loc main_arg3) : FVec Ideal S56x7168 .f32) (ix2 ⟨8 * (t.val % 7) + k, by omega⟩
          ⟨1024 * (t.val / 7) + l, by have := lt_N t; omega⟩) := by
  have h := (idx t).2.2.2.1
  unfold sB iblk
  rw [View.read_apply]
  show V m c main_arg3 _ = _
  unfold V
  congr 1
  funext a
  apply Fin.ext
  match a with
  | ⟨0, _⟩ => show win0_3.index t 0 * 8 + 1 * k.val = 8 * (t.val % 7) + k.val; rw [h]; simp; omega
  | ⟨1, _⟩ => show win0_3.index t 1 * 1024 + 1 * l.val = 1024 * (t.val / 7) + l.val; rw [h]; simp; omega

theorem r_blk (t : Fin cfg0.N) (i : Fin 2496) (l : Fin 1024) :
    rB m c t (ix2 i l) = (m ((c : Thread nD τ).loc main_arg4) : FVec Ideal S2496x7168 .bf16) (ix2 i (col t l)) := by
  have h := (idx t).2.2.2.2
  unfold rB iblk
  rw [View.read_apply]
  show V m c main_arg4 _ = _
  unfold V
  congr 1
  funext a
  apply Fin.ext
  match a with
  | ⟨0, _⟩ => show win0_4.index t 0 * 2496 + 1 * i.val = i.val; rw [h]; simp
  | ⟨1, _⟩ => show win0_4.index t 1 * 1024 + 1 * l.val = 1024 * (t.val / 7) + l.val; rw [h]; simp; omega

/-- The terms of the dot product for row `i` and column `n`. -/
def prodAt (i : Fin 2496) (n : Fin 7168) (k : Fin 7168) : EReal :=
  dotAt (m ((c : Thread nD τ).loc main_arg0)) (m ((c : Thread nD τ).loc main_arg1)) (m ((c : Thread nD τ).loc main_arg2))
    (m ((c : Thread nD τ).loc main_arg3)) (by norm_num) (by norm_num) i n k

theorem prod_term (t : Fin cfg0.N) (i : Fin 2496) (l : Fin 1024) (k : Fin 1024) :
    xB m c t (ix2 i k) * dq (wB m c t) (zB m c t) (sB m c t) (ix2 k l)
      = prodAt m c i (col t l) ⟨1024 * (t.val % 7) + k, by omega⟩ := by
  have h := lt_N t
  exact term_block _ _ _ _ _ _ (t.val % 7) (t.val / 7) (by omega) (by omega) _ _ _ _ (x_blk m c t) (w_blk m c t) (z_blk m c t) (s_blk m c t) i k l

/-- A step from the sum over the first depth blocks reaches the sum over one block more. -/
theorem prod_step (t : Fin cfg0.N) (acc : Vec Ideal S2496x1024 .f32) (j : S2496x1024.Idx)
    (h : acc j = psum (prodAt m c (j 0) (col t (j 1))) (1024 * (t.val % 7))) :
    step acc (xB m c t) (dq (wB m c t) (zB m c t) (sB m c t)) j
      = psum (prodAt m c (j 0) (col t (j 1))) (1024 * (t.val % 7) + 1024) := by
  rw [step_apply, psum_add _ _ _ (by omega), h]
  exact congrArg _ (Finset.sum_congr rfl fun k _ => prod_term m c t (j 0) (j 1) k)

/-- What the accumulator holds after a point that does not end a column block. -/
theorem acc_eq (n : ℕ) : ∀ (hn : n < cfg0.N), n % 7 ≠ 6 → ∀ j : S2496x1024.Idx,
    (outsAt0 m c n hn).2 j = psum (prodAt m c (j 0) (col ⟨n, hn⟩ (j 1))) (1024 * (n % 7) + 1024) := by
  induction n with
  | zero =>
    intro hn _ j
    rw [outsAt0_A m c ⟨0, hn⟩ (Nat.zero_mod _) (by show ¬ 0 % 7 = 6; decide)]
    dsimp only
    rw [acc_A]
    exact prod_step m c ⟨0, hn⟩ _ j (by rw [zacc_apply]; exact (psum_zero _).symm)
  | succ n ih =>
    intro hn h6 j
    by_cases h0 : (n + 1) % 7 = 0
    · rw [outsAt0_A m c ⟨n + 1, hn⟩ h0 h6]
      dsimp only
      rw [acc_A]
      have hz : 1024 * ((n + 1) % 7) = 0 := by rw [h0]
      exact prod_step m c ⟨n + 1, hn⟩ _ j (by dsimp only; rw [zacc_apply, hz]; exact (psum_zero _).symm)
    · rw [outsAt0_B m c ⟨n + 1, hn⟩ h0 h6]
      dsimp only
      rw [acc_B]
      have hi := ih (Nat.lt_of_succ_lt hn) (by omega) j
      have hc : col ⟨n + 1, hn⟩ (j 1) = col ⟨n, Nat.lt_of_succ_lt hn⟩ (j 1) := by
        apply Fin.ext; show 1024 * ((n + 1) / 7) + _ = 1024 * (n / 7) + _; omega
      have hk : 1024 * ((n + 1) % 7) = 1024 * (n % 7) + 1024 := by omega
      exact prod_step m c ⟨n + 1, hn⟩ _ j (by rw [hc]; dsimp only; rw [hk]; exact hi)

/-- What the last point of a column block writes. -/
theorem out_eq (t : Fin cfg0.N) (h6 : t.val % 7 = 6) (j : S2496x1024.Idx) :
    (outsAt0 m c t.val t.isLt).1 j = rB m c t j + ∑ k, prodAt m c (j 0) (col t (j 1)) k := by
  have h0 : ¬ t.val % 7 = 0 := by omega
  rw [outsAt0_C m c t h0 h6]
  dsimp only
  rw [out_C, outv_apply]
  have hi := acc_eq m c (t.val - 1) (Nat.lt_of_le_of_lt (Nat.sub_le _ _) t.isLt) (by omega) j
  have hc : col t (j 1) = col ⟨t.val - 1, Nat.lt_of_le_of_lt (Nat.sub_le _ _) t.isLt⟩ (j 1) := by
    apply Fin.ext; show 1024 * (t.val / 7) + _ = 1024 * ((t.val - 1) / 7) + _; omega
  have hk : 1024 * (t.val % 7) = 1024 * ((t.val - 1) % 7) + 1024 := by omega
  have hg := prod_step m c t (outsAt0 m c (t.val - 1) (Nat.lt_of_le_of_lt (Nat.sub_le _ _) t.isLt)).2 j
    (by rw [hc, hk]; exact hi)
  have hK : 1024 * (t.val % 7) + 1024 = 7168 := by omega
  rw [hK, psum_all] at hg
  rw [← hg]

/-- The residual at row `i` and column `n`. -/
def resid (i : Fin 2496) (n : Fin 7168) : EReal := (m ((c : Thread nD τ).loc main_arg4) : FVec Ideal S2496x7168 .bf16) (ix2 i n)

/-- THE RESULT at an index: the residual plus the dot product over the whole depth. -/
theorem G5_apply (i : Fin 2496) (n : Fin 7168) :
    (G5 m c : FVec Ideal S2496x7168 .bf16) (ix2 i n)
      = resid m c i n + ∑ k, prodAt m c i n k := by
  have hN : cfg0.N = 49 := N_0
  have hp : pt5Of (ix2 i n) = 7 * (n.val / 1024) + 6 := by
    show 7 * (7 * (i.val / 2496 - 0) + 1 * (n.val / 1024 - 0)) + 6 = _; omega
  have hlt : pt5Of (ix2 i n) < cfg0.N := by rw [hp, hN]; omega
  unfold G5
  rw [dif_pos hlt, ← outsAt0_sweep m c _ hlt]
  have h6 : pt5Of (ix2 i n) % 7 = 6 := by rw [hp]; omega
  refine (out_eq m c ⟨pt5Of (ix2 i n), hlt⟩ h6 (loc5Of (ix2 i n))).trans ?_
  have e0 : (loc5Of (ix2 i n) 0 : Fin 2496) = i := Fin.ext (show i.val % 2496 = i.val by omega)
  have e1 : col ⟨pt5Of (ix2 i n), hlt⟩ (loc5Of (ix2 i n) 1) = n :=
    Fin.ext (show 1024 * (pt5Of (ix2 i n) / 7) + n.val % 1024 = n.val by rw [hp]; omega)
  have hr : rB m c ⟨pt5Of (ix2 i n), hlt⟩ (loc5Of (ix2 i n))
      = resid m c i n := by
    have ej : loc5Of (ix2 i n) = ix2 (loc5Of (ix2 i n) 0) (loc5Of (ix2 i n) 1) := by funext a; fin_cases a <;> rfl
    rw [ej]
    refine (r_blk m c _ _ _).trans ?_
    rw [e1]
    exact congrArg (fun a : Fin 2496 => resid m c a n) e0
  rw [hr, e1]
  exact congrArg (fun a : Fin 2496 => resid m c i n + ∑ k, prodAt m c a n k) e0

end Cert.KernelOutIdeal.Value

end
-- ==== Proof.OutRef.lean ====
/-
  The output projection's reference, read at an index, and the equation: on the same arguments the kernel's array is the
  reference's, the residual plus the dot product over the whole depth of 7168 with the plain dequantized weights.
-/
module

public import proofs.«01_k».proof.Proof.OutFold
public import proofs.«01_k».proof.Proof.Gen.ReferenceOutIdeal.Run
import Idealize.ShloMosaic.Lib.Pointwise

@[expose] public section

noncomputable section
namespace Cert.ReferenceOutIdeal.Value
open Idealize.ShloMosaic Idealize.ShloMosaic.Pointwise
open Cert.ReferenceOutIdeal Cert.ReferenceOutIdeal.Gen Cert.Awq

/-- The reference's dequantized weight matrix. -/
def wmat (w : IVec S7168x896 32) (z : IVec S56x896 32) (s : FVec Ideal S56x7168 .f32) : FVec Ideal S7168x7168 .bf16 :=
  shapeCast _ (truncf .bf16 (mulf (sitofp .f32 (subi (shapeCast _ (andi (Host.shrsi (broadcastInDim S7168x896x8 ![0, 1, 2] bcast_S7168x896x1_S7168x896x8_0_1_2 (broadcastInDim S7168x896x1 ![0, 1] bcast_S7168x896_S7168x896x1_0_1 w)) (broadcastInDim S7168x896x8 ![0, 1, 2] bcast_S1x1x8_S7168x896x8_0_1_2 (broadcastInDim S1x1x8 ![2] bcast_S8_S1x1x8_2 ((fun i => lit0 (S8.rowMajor i)))))) (broadcastInDim S7168x896x8 ![] bcast_S_S7168x896x8 (constantI S_ 32 15#32))) shapeCasts_S7168x896x8_S56x128x896x8) (broadcastInDim S56x128x896x8 ![0, 1, 2, 3] bcast_S56x1x896x8_S56x128x896x8_0_1_2_3 (broadcastInDim S56x1x896x8 ![0, 2, 3] bcast_S56x896x8_S56x1x896x8_0_2_3 (andi (Host.shrsi (broadcastInDim S56x896x8 ![0, 1, 2] bcast_S56x896x1_S56x896x8_0_1_2 (broadcastInDim S56x896x1 ![0, 1] bcast_S56x896_S56x896x1_0_1 z)) (broadcastInDim S56x896x8 ![0, 1, 2] bcast_S1x1x8_S56x896x8_0_1_2 (broadcastInDim S1x1x8 ![2] bcast_S8_S1x1x8_2 ((fun i => lit0 (S8.rowMajor i)))))) (broadcastInDim S56x896x8 ![] bcast_S_S56x896x8 (constantI S_ 32 15#32))))))) (broadcastInDim S56x128x896x8 ![0, 1, 2, 3] bcast_S56x1x896x8_S56x128x896x8_0_1_2_3 (shapeCast _ s shapeCasts_S56x7168_S56x1x896x8))) bitsLt_bf16_f32) shapeCasts_S56x128x896x8_S7168x7168

theorem lit0_eq : ∀ k : Fin 8, lit0 k = BitVec.ofNat 32 (shift k) := by decide

theorem lane_eq (j : Fin 8) : lit0 (S8.rowMajor (ix1 j)) = BitVec.ofNat 32 (shift j) := by
  rw [show S8.rowMajor (ix1 j) = j from Fin.ext (Shape.rowMajor_val_one _)]
  exact lit0_eq j

theorem wmat_apply (w : IVec S7168x896 32) (z : IVec S56x896 32) (s : FVec Ideal S56x7168 .f32) (k : Fin 7168) (n : Fin 7168) :
    wmat w z s (ix2 k n) = wAt w z s (by norm_num) (by norm_num) k n := by
  unfold wmat wAt
  pointwise
  have h8 : (n : ℕ) % 8 < 8 := Nat.mod_lt _ (by decide)
  have e : lit0 (S8.rowMajor (ix1 ⟨(n : ℕ) % 8, h8⟩)) = BitVec.ofNat 32 (shift ((n : ℕ) % 8)) := lane_eq _
  simp only [e, nib_shr _ _ h8]
  rfl

/-- The reference's result, with the weights named. -/
def res (a : FVec Ideal S2496x7168 .bf16) (w : IVec S7168x896 32) (z : IVec S56x896 32) (s : FVec Ideal S56x7168 .f32) (r : FVec Ideal S2496x7168 .bf16) :
    FVec Ideal S2496x7168 .bf16 :=
  truncf .bf16 (addf (extf .f32 r bitsLt_bf16_f32) (Host.dotGeneral dot_S2496x7168_S7168x7168_S2496x7168_1_0_0_1_n_n none a (wmat w z s))) bitsLt_bf16_f32

/-- The result at an index. -/
theorem res_apply (a : FVec Ideal S2496x7168 .bf16) (w : IVec S7168x896 32) (z : IVec S56x896 32) (s : FVec Ideal S56x7168 .f32) (r : FVec Ideal S2496x7168 .bf16)
    (i : Fin 2496) (n : Fin 7168) :
    res a w z s r (ix2 i n) = r (ix2 i n) + ∑ k : Fin 7168, dotAt a w z s (by norm_num) (by norm_num) i n k := by
  unfold res
  pointwise
  simp only [wmat_apply]
  rfl

end Cert.ReferenceOutIdeal.Value

namespace Cert.Awq
open Idealize.ShloMosaic Idealize.ShloMosaic.Pointwise Idealize.ShloMosaic.TcCoe

theorem out_proj_eq (m : (ℓ : Loc KernelOutIdeal.nD KernelOutIdeal.τ KernelOutIdeal.sig) → Buf (Elt Ideal) ℓ)
    (m' : (ℓ : Loc ReferenceOutIdeal.nD ReferenceOutIdeal.τ ReferenceOutIdeal.sig) → Buf (Elt Ideal) ℓ) (c : Dev KernelOutIdeal.nD)
    (a0 : m' (c.tc.loc ReferenceOutIdeal.main_arg0) = m (c.tc.loc KernelOutIdeal.main_arg0))
    (a1 : m' (c.tc.loc ReferenceOutIdeal.main_arg1) = m (c.tc.loc KernelOutIdeal.main_arg1))
    (a2 : m' (c.tc.loc ReferenceOutIdeal.main_arg2) = m (c.tc.loc KernelOutIdeal.main_arg2))
    (a3 : m' (c.tc.loc ReferenceOutIdeal.main_arg3) = m (c.tc.loc KernelOutIdeal.main_arg3))
    (a4 : m' (c.tc.loc ReferenceOutIdeal.main_arg4) = m (c.tc.loc KernelOutIdeal.main_arg4)) :
    (ReferenceOutIdeal.Value.res (m' (c.tc.loc ReferenceOutIdeal.main_arg0)) (m' (c.tc.loc ReferenceOutIdeal.main_arg1)) (m' (c.tc.loc ReferenceOutIdeal.main_arg2)) (m' (c.tc.loc ReferenceOutIdeal.main_arg3)) (m' (c.tc.loc ReferenceOutIdeal.main_arg4)) : FVec Ideal KernelOutIdeal.S2496x7168 .bf16)
      = (KernelOutIdeal.Value.G5 (F := Ideal) m c : FVec Ideal KernelOutIdeal.S2496x7168 .bf16) := by
  refine funext fun j => ?_
  rw [show j = ix2 (j 0) (j 1) from funext fun a => by fin_cases a <;> rfl]
  refine (ReferenceOutIdeal.Value.res_apply _ _ _ _ _ (j 0) (j 1)).trans (Eq.trans ?_ (KernelOutIdeal.Value.G5_apply m c (j 0) (j 1)).symm)
  unfold KernelOutIdeal.Value.prodAt KernelOutIdeal.Value.resid
  rw [a0, a1, a2, a3, a4]

end Cert.Awq

end
-- ==== Proof.NormCase.lean ====
/-
  The normalization: what its kernel's array holds, what its reference computes, and that they are one function, each row
  divided by the root of its mean square and scaled column by column.
-/
module

public import proofs.«01_k».proof.Proof.Gen.KernelNormIdeal.Value
public import proofs.«01_k».proof.Proof.Gen.ReferenceNormIdeal.Run
public import Idealize.ShloMosaic.Lib.Pointwise
public import Idealize.ShloMosaic.PureOps.Ideal

@[expose] public section

noncomputable section

namespace Cert.Norm
open Idealize.ShloMosaic Idealize.ShloMosaic.Pointwise

/-- Row `i` of `x` normalized and scaled by `w`, at column `n`. -/
def normAt {R : ℕ} (x : FVec Ideal (⟨2, ![R, 7168]⟩ : Shape) .bf16) (w : Fin 7168 → EReal) (i : Fin R) (n : Fin 7168) : EReal :=
  x (ix2 i n) * Ideal.rsqrt (Ideal.div (∑ k : Fin 7168, x (ix2 i k) * x (ix2 i k)) (Ideal.ofBits .f32 0x45E00000#32) + Ideal.ofBits .f32 0x3727C5AC#32) * w n

end Cert.Norm

namespace Cert.KernelNormIdeal.Value
open Idealize.ShloMosaic Idealize.ShloMosaic.Pipeline Idealize.ShloMosaic.TcCoe Idealize.ShloMosaic.Pointwise
open Cert.KernelNormIdeal Cert.KernelNormIdeal.Gen Cert.Norm

/-- One block of rows, normalized. -/
theorem pay_apply (x : Vec Ideal S208x7168 .bf16) (w : Vec Ideal S1x7168 .f32) (i : Fin 208) (n : Fin 7168) :
    k0_pay1 (F := Ideal) x w (ix2 i n : S208x7168.Idx) = normAt x (fun n => w (ix2 0 n)) i n := by
  unfold k0_pay1 normAt
  pointwise

end Cert.KernelNormIdeal.Value

namespace Cert.ReferenceNormIdeal.Value
open Idealize.ShloMosaic Idealize.ShloMosaic.Pointwise
open Cert.ReferenceNormIdeal Cert.ReferenceNormIdeal.Gen Cert.Norm

/-- The reference's result. -/
def res (x : FVec Ideal S2496x7168 .bf16) (w : FVec Ideal S7168 .f32) : FVec Ideal S2496x7168 .bf16 :=
  truncf .bf16 (mulf (mulf (extf .f32 x bitsLt_bf16_f32) (broadcastInDim S2496x7168 ![0, 1] bcast_S2496x1_S2496x7168_0_1 (Host.rsqrt (addf (Host.divf (broadcastInDim S2496x1 ![0] bcast_S2496_S2496x1_0 (Host.reduceAdd (mulf (extf .f32 x bitsLt_bf16_f32) (extf .f32 x bitsLt_bf16_f32)) (constant S_ .f32 0x00000000#32) reducesTo_S2496x7168_S2496_d1 h_S_)) (broadcastInDim S2496x1 ![] bcast_S_S2496x1 (constant S_ .f32 0x45E00000#32))) (broadcastInDim S2496x1 ![] bcast_S_S2496x1 (constant S_ .f32 0x3727C5AC#32)))))) (broadcastInDim S2496x7168 ![0, 1] bcast_S1x7168_S2496x7168_0_1 (broadcastInDim S1x7168 ![1] bcast_S7168_S1x7168_1 w))) bitsLt_bf16_f32

theorem res_apply (x : FVec Ideal S2496x7168 .bf16) (w : FVec Ideal S7168 .f32) (i : Fin 2496) (n : Fin 7168) :
    res x w (ix2 i n : S2496x7168.Idx) = normAt x (fun n => w (ix1 n)) i n := by
  unfold res normAt
  pointwise

end Cert.ReferenceNormIdeal.Value
-- ==== Proof.Norm.lean ====
/-
  The normalization's whole result: each of the twelve grid points writes 208 rows, and together they are every row, so
  the array the kernel leaves is the reference's.
-/
module

public import proofs.«01_k».proof.Proof.NormCase

@[expose] public section

noncomputable section

namespace Cert.KernelNormIdeal.Value
open Idealize.ShloMosaic Idealize.ShloMosaic.Pipeline Idealize.ShloMosaic.TcCoe Idealize.ShloMosaic.Pointwise
open Cert.KernelNormIdeal Cert.KernelNormIdeal.Gen Cert.Norm

variable (m : (ℓ : Loc nD τ sig) → Buf (Elt Ideal) ℓ) (c : Dev nD)

/-- The block each window shows at a grid point. -/
theorem idx : ∀ t : Fin cfg0.N, win0_0.index t = ![t.val, 0] ∧ win0_1.index t = ![0, 0] ∧ win0_2.index t = ![t.val, 0] :=
  (by decide +kernel : ∀ t : Fin grid0.N, _)

theorem lt_N (t : Fin cfg0.N) : t.val < 12 := lt_of_lt_of_eq t.isLt (show cfg0.N = 12 from N_0)

/-- The kernel's result at every index. -/
def G2 : FVec Ideal S2496x7168 .bf16 := fun j =>
  normAt (m ((c : Thread nD τ).loc main_arg0) : FVec Ideal S2496x7168 .bf16)
    (fun n => (m ((c : Thread nD τ).loc main_arg1) : FVec Ideal S7168 .f32) (ix1 n)) (j 0 : Fin 2496) (j 1 : Fin 7168)

abbrev xB (t : Fin cfg0.N) : FVec Ideal S208x7168 .bf16 := iblk m c 0 t
abbrev wB (t : Fin cfg0.N) : FVec Ideal S1x7168 .f32 := iblk m c 1 t

theorem x_blk (t : Fin cfg0.N) (i : Fin 208) (k : Fin 7168) :
    xB m c t (ix2 i k)
      = (m ((c : Thread nD τ).loc main_arg0) : FVec Ideal S2496x7168 .bf16) (ix2 ⟨208 * t.val + i, by have := lt_N t; omega⟩ k) := by
  have h := (idx t).1
  unfold xB iblk
  rw [View.read_apply]
  show V m c main_arg0 _ = _
  rw [V_main_arg0]
  congr 1
  funext a
  apply Fin.ext
  match a with
  | ⟨0, _⟩ => show win0_0.index t 0 * 208 + 1 * i.val = 208 * t.val + i.val; rw [h]; simp; omega
  | ⟨1, _⟩ => show win0_0.index t 1 * 7168 + 1 * k.val = k.val; rw [h]; simp

theorem V_v0 : (V m c main_v0 : FVec Ideal S1x7168 .f32)
    = shapeCast S1x7168 (m ((c : Thread nD τ).loc main_arg1) : FVec Ideal S7168 .f32) shapeCasts_S7168_S1x7168 := by
  rfl

theorem w_blk (t : Fin cfg0.N) (n : Fin 7168) :
    wB m c t (ix2 0 n) = (m ((c : Thread nD τ).loc main_arg1) : FVec Ideal S7168 .f32) (ix1 n) := by
  have h := (idx t).2.1
  have e : wB m c t (ix2 0 n) = (V m c main_v0 : FVec Ideal S1x7168 .f32) (ix2 0 n) := by
    unfold wB iblk
    rw [View.read_apply]
    show V m c main_v0 _ = _
    congr 1
    funext a
    apply Fin.ext
    match a with
    | ⟨0, _⟩ => show win0_1.index t 0 * 1 + 1 * 0 = 0; rw [h]; simp
    | ⟨1, _⟩ => show win0_1.index t 1 * 7168 + 1 * n.val = n.val; rw [h]; simp
  rw [e, V_v0]
  refine (shapeCast_apply _ _ _ (ix1 n) ?_)
  rw [Shape.rowMajor_val_one, Shape.rowMajor_val_two]
  show n.val = 0 * 7168 + n.val
  omega

/-- What a grid point writes. -/
theorem out_apply (t : Fin cfg0.N) (i : Fin 208) (n : Fin 7168) :
    out0_2 (iblk m c 0 t) (iblk m c 1 t) (ix2 i n : S208x7168.Idx)
      = normAt (m ((c : Thread nD τ).loc main_arg0) : FVec Ideal S2496x7168 .bf16)
          (fun n => (m ((c : Thread nD τ).loc main_arg1) : FVec Ideal S7168 .f32) (ix1 n)) ⟨208 * t.val + i, by have := lt_N t; omega⟩ n := by
  have z2 : (![0, 0] : Fin 2 → Nat) = fun _ => 0 := funext fun a => by fin_cases a <;> rfl
  have e : out0_2 (iblk m c 0 t) (iblk m c 1 t) = k0_pay1 (F := Ideal) (xB m c t) (wB m c t) := by
    unfold out0_2
    rw [View.canon_unit_zero (S := S208x7168) z2, View.ld_unit_zero (S := S208x7168) z2, View.ld_unit_zero (S := S1x7168) z2]
  rw [e, pay_apply]
  unfold normAt
  simp only [x_blk, w_blk]

theorem flushed_eq (t : Fin cfg0.N) :
    (dats m 0 c).flushed 2 t = ((cfg0.win 2).blk t).view.read (Elt Ideal) (G2 m c) := by
  rw [flushed2]
  have h := (idx t).2.2
  funext y
  have hx : (cfg0.win 2).xinj (grid0.coords t) y = (ix2 (y 0 : Fin 208) (y 1 : Fin 7168) : S208x7168.Idx) := by
    funext a; fin_cases a <;> rfl
  show out0_2 (iblk m c 0 t) (iblk m c 1 t) ((cfg0.win 2).xinj (grid0.coords t) y) = _
  refine ((congrArg (out0_2 (iblk m c 0 t) (iblk m c 1 t)) hx).trans (out_apply m c t (y 0 : Fin 208) (y 1 : Fin 7168))).trans ?_
  have hy : (y 0).val < 208 := (y 0).isLt
  have e : ((cfg0.win 2).blk t).view.emb y
      = (ix2 (⟨208 * t.val + (y 0).val, by have := lt_N t; omega⟩ : Fin 2496) (y 1 : Fin 7168) : S2496x7168.Idx) := by
    funext a
    apply Fin.ext
    match a with
    | ⟨0, _⟩ => show win0_2.index t 0 * 208 + 1 * (y 0).val = 208 * t.val + (y 0).val; rw [h]; simp; omega
    | ⟨1, _⟩ => show win0_2.index t 1 * 7168 + 1 * (y 1).val = (y 1).val; rw [h]; simp
  exact (congrArg (G2 m c) e).symm

theorem mem_blk (t : Fin cfg0.N) (i : S2496x7168.Idx) :
    i ∈ ((cfg0.win 2).blk t).view.set ↔ ∀ a : Fin 2, win0_2.index t a * S208x7168.size a ≤ (i a).val ∧ (i a).val < win0_2.index t a * S208x7168.size a + S208x7168.size a := by
  show i ∈ ((View.whole main_v1).slice (win0_2.rect t)).set ↔ _
  rw [View.set_slice_whole, Rect.mem_set_unit]
  exact Iff.rfl

theorem covered (i : S2496x7168.Idx) : ∃ t : Fin cfg0.N, (cfg0.win 2).flush t = true ∧ i ∈ ((cfg0.win 2).blk t).view.set := by
  have h0 : (i 0).val < 2496 := (i 0).isLt
  have h1 : (i 1).val < 7168 := (i 1).isLt
  have hN : cfg0.N = 12 := N_0
  refine ⟨⟨(i 0).val / 208, by rw [hN]; omega⟩, flush0_2 _, ?_⟩
  have h := (idx ⟨(i 0).val / 208, by rw [hN]; omega⟩).2.2
  rw [mem_blk, h]
  intro a
  match a with
  | ⟨0, _⟩ => show (i 0).val / 208 * 208 ≤ (i 0).val ∧ (i 0).val < (i 0).val / 208 * 208 + 208; omega
  | ⟨1, _⟩ => show 0 * 7168 ≤ (i 1).val ∧ (i 1).val < 0 * 7168 + 7168; omega

/-- The array after the run. -/
theorem final : (dats m 0 c).arrAt 2 cfg0.N = G2 m c :=
  (dats m 0 c).arrAt_eq_of_cover 2 _ (fun t _ => flushed_eq m c t) covered

end Cert.KernelNormIdeal.Value

namespace Cert.Norm
open Idealize.ShloMosaic Idealize.ShloMosaic.TcCoe Idealize.ShloMosaic.Pointwise

/-- From equal inputs the reference and the kernel leave equal arrays. -/
theorem norm_eq (m : (ℓ : Loc KernelNormIdeal.nD KernelNormIdeal.τ KernelNormIdeal.sig) → Buf (Elt Ideal) ℓ)
    (m' : (ℓ : Loc ReferenceNormIdeal.nD ReferenceNormIdeal.τ ReferenceNormIdeal.sig) → Buf (Elt Ideal) ℓ) (c : Dev KernelNormIdeal.nD)
    (a0 : m ((c : Thread KernelNormIdeal.nD KernelNormIdeal.τ).loc KernelNormIdeal.main_arg0) = m' ((c : Thread ReferenceNormIdeal.nD ReferenceNormIdeal.τ).loc ReferenceNormIdeal.main_arg0))
    (a1 : m ((c : Thread KernelNormIdeal.nD KernelNormIdeal.τ).loc KernelNormIdeal.main_arg1) = m' ((c : Thread ReferenceNormIdeal.nD ReferenceNormIdeal.τ).loc ReferenceNormIdeal.main_arg1)) :
    ReferenceNormIdeal.Value.res (m' ((c : Thread ReferenceNormIdeal.nD ReferenceNormIdeal.τ).loc ReferenceNormIdeal.main_arg0)) (m' ((c : Thread ReferenceNormIdeal.nD ReferenceNormIdeal.τ).loc ReferenceNormIdeal.main_arg1))
      = (KernelNormIdeal.Gen.dats m 0 c).arrAt 2 KernelNormIdeal.cfg0.N := by
  rw [KernelNormIdeal.Value.final]
  funext j
  have ej : j = (ix2 (j 0 : Fin 2496) (j 1 : Fin 7168) : ReferenceNormIdeal.S2496x7168.Idx) := by funext a; fin_cases a <;> rfl
  rw [← a0, ← a1]
  refine (congrArg _ ej).trans ?_
  exact ReferenceNormIdeal.Value.res_apply _ _ _ _

end Cert.Norm
-- ==== Proof.lean ====
module

public import proofs.«01_k».proof.Defs
public import proofs.«01_k».proof.Proof.Gen.Kernel.Frame
public import proofs.«01_k».proof.Proof.Equation
public import proofs.«01_k».proof.Proof.Gen.KernelDownIdeal.Value
public import proofs.«01_k».proof.Proof.Gen.KernelDown.Frame
public import proofs.«01_k».proof.Proof.Gen.KernelOutIdeal.Value
public import proofs.«01_k».proof.Proof.Gen.KernelOut.Frame
public import proofs.«01_k».proof.Proof.Gen.KernelNormIdeal.Value
public import proofs.«01_k».proof.Proof.Gen.KernelNorm.Frame
public import proofs.«01_k».proof.Proof.Gen.KernelQkv.Skeleton
public import proofs.«01_k».proof.Proof.Gen.KernelQkv.Frame
public import proofs.«01_k».proof.Proof.Gen.KernelQkvIdeal.Skeleton
public import proofs.«01_k».proof.Proof.Gen.KernelQkvIdeal.Frame
public import proofs.«01_k».proof.Proof.Gen.ReferenceQkvIdeal.Value
public import proofs.«01_k».proof.Proof.QkvRun.Frame
public import proofs.«01_k».proof.Proof.QkvIdealRun.Frame
public import proofs.«01_k».proof.Proof.QkvEq
public import proofs.«01_k».proof.Proof.DownRef
public import proofs.«01_k».proof.Proof.OutRef
public import proofs.«01_k».proof.Proof.Norm
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5, a6⟩ := hagree c
  exact Cert.Awq.gate_up_eq m m' c a0 a1 a2 a3 a4 a5 a6

theorem quiescent_ReferenceDownIdeal : quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

theorem algebraic_KernelDownIdeal_ReferenceDownIdeal : algebraic_KernelDownIdeal_ReferenceDownIdeal := by
  intro m ρ m' ρ' _ hagree
  refine ⟨_, Cert.KernelDownIdeal.Value.run (F := Ideal) m ρ, ?_⟩
  refine (θ_run Cert.ReferenceDownIdeal.defs _ _).mono (fun _ h c => ⟨?_, (h c).2⟩) (Cert.ReferenceDownIdeal.Value.run (F := Ideal) m' ρ')
  rw [(h c).1]
  obtain ⟨a0, a1, a2, a3, a4⟩ := hagree c
  exact Cert.Awq.down_proj_eq m m' c a0 a1 a2 a3 a4

theorem quiescent_ReferenceOutIdeal : quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem algebraic_KernelOutIdeal_ReferenceOutIdeal : algebraic_KernelOutIdeal_ReferenceOutIdeal := by
  intro m ρ m' ρ' _ hagree
  refine ⟨_, Cert.KernelOutIdeal.Value.run (F := Ideal) m ρ, ?_⟩
  refine (θ_run Cert.ReferenceOutIdeal.defs _ _).mono (fun _ h c => ⟨?_, (h c).2⟩) (Cert.ReferenceOutIdeal.Value.run (F := Ideal) m' ρ')
  rw [(h c).1]
  obtain ⟨a0, a1, a2, a3, a4⟩ := hagree c
  exact Cert.Awq.out_proj_eq m m' c a0 a1 a2 a3 a4

theorem quiescent_ReferenceNormIdeal : quiescent_ReferenceNormIdeal := fun m ρ _ =>
  (θ_run Cert.ReferenceNormIdeal.defs _ _).mono (fun r h => ⟨fun c => (h c).2, sem_eq_zero_of_no_sems (by decide) r.2⟩)
    (Cert.ReferenceNormIdeal.Value.run (F := Ideal) m ρ)

theorem algebraic_KernelNormIdeal_ReferenceNormIdeal : algebraic_KernelNormIdeal_ReferenceNormIdeal := by
  intro m ρ m' ρ' _ hagree
  refine ⟨_, Cert.KernelNormIdeal.Value.run_blocks (F := Ideal) m ρ, ?_⟩
  refine (θ_run Cert.ReferenceNormIdeal.defs _ _).mono (fun _ h c => ⟨?_, (h c).2⟩) (Cert.ReferenceNormIdeal.Value.run (F := Ideal) m' ρ')
  rw [(h c).1]
  obtain ⟨a0, a1⟩ := hagree c
  exact Cert.Norm.norm_eq m m' c a0.symm a1.symm

theorem quiescent_ReferenceQkvIdeal : quiescent_ReferenceQkvIdeal := fun m ρ _ => Cert.ReferenceQkvIdeal.Gen.frame m ρ

theorem algebraic_KernelQkvIdeal_ReferenceQkvIdeal : algebraic_KernelQkvIdeal_ReferenceQkvIdeal := by
  intro m ρ m' ρ' _ hagree
  refine ⟨_, _, _, Cert.KernelQkvIdeal.Value.run (F := Ideal) m ρ, ?_⟩
  refine (θ_run Cert.ReferenceQkvIdeal.defs _ _).mono (fun _ h c => ⟨?_, ?_, ?_, (h c).2.2.2⟩) (Cert.ReferenceQkvIdeal.Value.run_blocks (F := Ideal) m' ρ')
  · rw [(h c).1]
    obtain ⟨a0, a1, a2, a3, a4, a5, -, -⟩ := hagree c
    exact Cert.Awq.qkv_q_eq m m' c a0 a1 a2 a3 a4 a5
  · rw [(h c).2.1]
    obtain ⟨a0, a1, a2, a3, a4, a5, a6, -⟩ := hagree c
    exact Cert.Awq.qkv_k_eq m m' c a0 a1 a2 a3 a4 a5 a6
  · rw [(h c).2.2.1]
    obtain ⟨a0, a1, a2, a3, -, -, -, a7⟩ := hagree c
    exact Cert.Awq.qkv_v_eq m m' c a0 a1 a2 a3 a7

theorem claim : Cert.Claim := ⟨Cert.Kernel.Gen.facts, Cert.KernelIdeal.Gen.facts, Cert.ReferenceIdeal.Gen.facts, Cert.KernelDown.Gen.facts, Cert.KernelDownIdeal.Gen.facts, Cert.ReferenceDownIdeal.Gen.facts, Cert.KernelOut.Gen.facts, Cert.KernelOutIdeal.Gen.facts, Cert.ReferenceOutIdeal.Gen.facts, Cert.KernelNorm.Gen.facts, Cert.KernelNormIdeal.Gen.facts, Cert.ReferenceNormIdeal.Gen.facts, Cert.KernelQkv.Gen.facts, Cert.KernelQkvIdeal.Gen.facts, Cert.ReferenceQkvIdeal.Gen.facts,
  fun m ρ _ => Cert.Kernel.Gen.frame m ρ,
  fun m ρ _ => Cert.KernelIdeal.Gen.frame m ρ,
  quiescent_ReferenceIdeal,
  fun m ρ _ => Cert.KernelDown.Gen.frame m ρ,
  fun m ρ _ => Cert.KernelDownIdeal.Gen.frame m ρ,
  quiescent_ReferenceDownIdeal,
  fun m ρ _ => Cert.KernelOut.Gen.frame m ρ,
  fun m ρ _ => Cert.KernelOutIdeal.Gen.frame m ρ,
  quiescent_ReferenceOutIdeal,
  fun m ρ _ => Cert.KernelNorm.Gen.frame m ρ,
  fun m ρ _ => Cert.KernelNormIdeal.Gen.frame m ρ,
  quiescent_ReferenceNormIdeal,
  fun m ρ _ => Cert.KernelQkv.Gen.frame m ρ,
  fun m ρ _ => Cert.KernelQkvIdeal.Gen.frame m ρ,
  quiescent_ReferenceQkvIdeal,
  (trivial : preserves_Kernel_KernelIdeal),
  algebraic_KernelIdeal_ReferenceIdeal,
  (trivial : preserves_KernelDown_KernelDownIdeal),
  algebraic_KernelDownIdeal_ReferenceDownIdeal,
  (trivial : preserves_KernelOut_KernelOutIdeal),
  algebraic_KernelOutIdeal_ReferenceOutIdeal,
  (trivial : preserves_KernelNorm_KernelNormIdeal),
  algebraic_KernelNormIdeal_ReferenceNormIdeal,
  (trivial : preserves_KernelQkv_KernelQkvIdeal),
  algebraic_KernelQkvIdeal_ReferenceQkvIdeal⟩

end Cert.Proof

end
